-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v19)) (v1 : (c : Dev Cert.KernelIdeal.nD) → Buf (Elt Ideal) ((c.tc : Thread Cert.KernelIdeal.nD Cert.KernelIdeal.τ).loc Cert.KernelIdeal.main_v15_3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_v15_3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v132) = v0 c
          ∧ r.2.mem ((c.tc : Thread Cert.ReferenceIdeal.nD Cert.ReferenceIdeal.τ).loc Cert.ReferenceIdeal.main_v52) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1048576x3 : Shape := ⟨2, ![1048576, 3]⟩
abbrev S128x128x128x28 : Shape := ⟨4, ![128, 128, 128, 28]⟩
abbrev S128x28x128x128 : Shape := ⟨4, ![128, 28, 128, 128]⟩
abbrev S3584x16384 : Shape := ⟨2, ![3584, 16384]⟩
abbrev S4194304x16 : Shape := ⟨2, ![4194304, 16]⟩
abbrev S28x1024 : Shape := ⟨2, ![28, 1024]⟩
abbrev S2048x16 : Shape := ⟨2, ![2048, 16]⟩
abbrev S_ : Shape := ⟨0, ![]⟩
abbrev S16 : Shape := ⟨1, ![16]⟩
abbrev S1x16 : Shape := ⟨2, ![1, 16]⟩
abbrev S1048576x1 : Shape := ⟨2, ![1048576, 1]⟩
abbrev S1048576 : Shape := ⟨1, ![1048576]⟩
abbrev S6x1024 : Shape := ⟨2, ![6, 1024]⟩
abbrev S2x8x128 : Shape := ⟨3, ![2, 8, 128]⟩
abbrev S1024 : Shape := ⟨1, ![1024]⟩
abbrev S2x1024x16 : Shape := ⟨3, ![2, 1024, 16]⟩
abbrev S4x1024 : Shape := ⟨2, ![4, 1024]⟩
abbrev S1x1024 : Shape := ⟨2, ![1, 1024]⟩
abbrev S1x1x16 : Shape := ⟨3, ![1, 1, 16]⟩
abbrev S1x128x16 : Shape := ⟨3, ![1, 128, 16]⟩
abbrev S128x16 : Shape := ⟨2, ![128, 16]⟩
abbrev S1x1x128 : Shape := ⟨3, ![1, 1, 128]⟩
abbrev S128 : Shape := ⟨1, ![128]⟩

abbrev nBuf : Table → Nat
  | .hbm => 26
  | .local .scVector .vmem => 7
  | _ => 0

abbrev bufTy : (tb : Table) → Fin (nBuf tb) → BufTy
  | .hbm, ⟨0, _⟩ => ⟨S1048576x3, .f32⟩
  | .hbm, ⟨1, _⟩ => ⟨S1048576x3, .f32⟩
  | .hbm, ⟨2, _⟩ => ⟨S128x128x128x28, .f32⟩
  | .hbm, ⟨3, _⟩ => ⟨S128x28x128x128, .f32⟩
  | .hbm, ⟨4, _⟩ => ⟨S3584x16384, .f32⟩
  | .hbm, ⟨5, _⟩ => ⟨S4194304x16, .f32⟩
  | .hbm, ⟨6, _⟩ => ⟨S1048576x1, .f32⟩
  | .hbm, ⟨7, _⟩ => ⟨S1048576, .f32⟩
  | .hbm, ⟨8, _⟩ => ⟨S1048576x1, .f32⟩
  | .hbm, ⟨9, _⟩ => ⟨S1048576, .f32⟩
  | .hbm, ⟨10, _⟩ => ⟨S1048576x1, .f32⟩
  | .hbm, ⟨11, _⟩ => ⟨S1048576, .f32⟩
  | .hbm, ⟨12, _⟩ => ⟨S1048576x1, .f32⟩
  | .hbm, ⟨13, _⟩ => ⟨S1048576, .f32⟩
  | .hbm, ⟨14, _⟩ => ⟨S1048576x1, .f32⟩
  | .hbm, ⟨15, _⟩ => ⟨S1048576, .f32⟩
  | .hbm, ⟨16, _⟩ => ⟨S1048576x1, .f32⟩
  | .hbm, ⟨17, _⟩ => ⟨S1048576, .f32⟩
  | .hbm, ⟨18, _⟩ => ⟨S1048576, .f32⟩
  | .hbm, ⟨19, _⟩ => ⟨S1048576, .f32⟩
  | .hbm, ⟨20, _⟩ => ⟨S1048576, .f32⟩
  | .hbm, ⟨21, _⟩ => ⟨S1048576, .f32⟩
  | .hbm, ⟨22, _⟩ => ⟨S1048576x1, .f32⟩
  | .hbm, ⟨23, _⟩ => ⟨S1048576x1, .f32⟩
  | .hbm, ⟨24, _⟩ => ⟨S1048576x1, .f32⟩
  | .hbm, ⟨25, _⟩ => ⟨S1048576x3, .f32⟩
  | .local .scVector .vmem, ⟨0, _⟩ => ⟨S28x1024, .f32⟩
  | .local .scVector .vmem, ⟨1, _⟩ => ⟨S2048x16, .f32⟩
  | .local .scVector .vmem, ⟨2, _⟩ => ⟨S6x1024, .f32⟩
  | .local .scVector .vmem, ⟨3, _⟩ => ⟨S2x8x128, .i32⟩
  | .local .scVector .vmem, ⟨4, _⟩ => ⟨S1024, .f32⟩
  | .local .scVector .vmem, ⟨5, _⟩ => ⟨S2x1024x16, .f32⟩
  | .local .scVector .vmem, ⟨6, _⟩ => ⟨S4x1024, .f32⟩
  | _, _ => ⟨S1048576x3, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15_0 : Ref sig .tc := ⟨.hbm, 18, rfl⟩
abbrev main_v15_1 : Ref sig .tc := ⟨.hbm, 19, rfl⟩
abbrev main_v15_2 : Ref sig .tc := ⟨.hbm, 20, rfl⟩
abbrev main_v15_3 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v1_scv : Ref sig .scVector := ⟨.hbm, 4, rfl⟩
abbrev main_v2_scv : Ref sig .scVector := ⟨.hbm, 5, rfl⟩
abbrev main_v4_scv : Ref sig .scVector := ⟨.hbm, 7, rfl⟩
abbrev main_v6_scv : Ref sig .scVector := ⟨.hbm, 9, rfl⟩
abbrev main_v8_scv : Ref sig .scVector := ⟨.hbm, 11, rfl⟩
abbrev main_v10_scv : Ref sig .scVector := ⟨.hbm, 13, rfl⟩
abbrev main_v12_scv : Ref sig .scVector := ⟨.hbm, 15, rfl⟩
abbrev main_v14_scv : Ref sig .scVector := ⟨.hbm, 17, rfl⟩
abbrev main_v15_0_scv : Ref sig .scVector := ⟨.hbm, 18, rfl⟩
abbrev main_v15_1_scv : Ref sig .scVector := ⟨.hbm, 19, rfl⟩
abbrev main_v15_2_scv : Ref sig .scVector := ⟨.hbm, 20, rfl⟩
abbrev main_v15_3_scv : Ref sig .scVector := ⟨.hbm, 21, rfl⟩
abbrev cc0_scratch0 : Ref sig .scVector := ⟨.vmem, 0, rfl⟩
abbrev cc0_scratch1 : Ref sig .scVector := ⟨.vmem, 1, rfl⟩
abbrev cc1_scratch0 : Ref sig .scVector := ⟨.vmem, 2, rfl⟩
abbrev cc1_scratch1 : Ref sig .scVector := ⟨.vmem, 3, rfl⟩
abbrev cc1_scratch2 : Ref sig .scVector := ⟨.vmem, 4, rfl⟩
abbrev cc1_scratch3 : Ref sig .scVector := ⟨.vmem, 5, rfl⟩
abbrev cc1_scratch4 : Ref sig .scVector := ⟨.vmem, 6, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_1 : BitVec 32 := 0#32
  let c64_i32 : BitVec 32 := 64#32
  let v5 : BitVec 32 := Scalar.addi c0_i32_1 c64_i32
  let c1_i32 : BitVec 32 := 1#32
  ⟨c0_i32_1, v5, c1_i32⟩
def k0_off1 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v7 : BitVec 32 := Scalar.muli v1 c65536_i32
  let c0_i32_1 : BitVec 32 := 0#32
  let c1_i32 : BitVec 32 := 1#32
  let arg7 : BitVec 32 := Scf.iv c0_i32_1 c1_i32 k0_t1
  let c1024_i32 : BitVec 32 := 1024#32
  let v8 : BitVec 32 := Scalar.muli arg7 c1024_i32
  let v9 : BitVec 32 := Scalar.addi v7 v8
  let c0_i32_3 : BitVec 32 := 0#32
  let v11 : BitVec 1 := Scalar.cmpi .sgt v9 c0_i32_3
  let v12 : BitVec 32 := Scalar.extui v11
  let c0_i32_4 : BitVec 32 := 0#32
  let v13 : BitVec 1 := Scalar.cmpi .slt v9 c0_i32_4
  let v14 : BitVec 32 := Scalar.extui v13
  let v15 : BitVec 32 := Scalar.subi v12 v14
  let c16384_i32 : BitVec 32 := 16384#32
  let c0_i32_5 : BitVec 32 := 0#32
  let v16 : BitVec 1 := Scalar.cmpi .sgt c16384_i32 c0_i32_5
  let v17 : BitVec 32 := Scalar.extui v16
  let c0_i32_6 : BitVec 32 := 0#32
  let v18 : BitVec 1 := Scalar.cmpi .slt c16384_i32 c0_i32_6
  let v19 : BitVec 32 := Scalar.extui v18
  let v20 : BitVec 32 := Scalar.subi v17 v19
  let v21 : BitVec 1 := Scalar.cmpi .ne v15 v20
  let v22 : BitVec 32 := Scalar.remsi v9 c16384_i32
  let c0_i32_7 : BitVec 32 := 0#32
  let v23 : BitVec 1 := Scalar.cmpi .ne v22 c0_i32_7
  let v24 : BitVec 1 := Scalar.andi v21 v23
  let v10 : BitVec 32 := Scalar.divsi v9 c16384_i32
  let c1_i32_8 : BitVec 32 := 1#32
  let v25 : BitVec 32 := Scalar.subi v10 c1_i32_8
  let v26 : BitVec 32 := Scalar.select v24 v25 v10
  let c28_i32 : BitVec 32 := 28#32
  let v29 : BitVec 32 := Scalar.muli v26 c28_i32
  let c16384_i32_9 : BitVec 32 := 16384#32
  let v27 : BitVec 32 := Scalar.muli v26 c16384_i32_9
  let v28 : BitVec 32 := Scalar.subi v9 v27
  ![v29.toNat, v28.toNat]
@[reducible] def k0_t2_loop : Scf.Loop 32 :=
  let c0_i32_10 : BitVec 32 := 0#32
  let c64_i32_11 : BitVec 32 := 64#32
  let v34 : BitVec 32 := Scalar.addi c0_i32_10 c64_i32_11
  let c1_i32_12 : BitVec 32 := 1#32
  ⟨c0_i32_10, v34, c1_i32_12⟩
def k0_off2 (k0_t2 : Fin k0_t2_loop.trips) : Fin 2 → Nat :=
  let c0_i32_19 : BitVec 32 := 0#32
  let v42 : Index := Scalar.indexCast c0_i32_19
  let c0_i32_17 : BitVec 32 := 0#32
  let c0_i32_10 : BitVec 32 := 0#32
  let c1_i32_12 : BitVec 32 := 1#32
  let arg9 : BitVec 32 := Scf.iv c0_i32_10 c1_i32_12 k0_t2
  let c1_i32_16 : BitVec 32 := 1#32
  let v36 : BitVec 32 := Scalar.muli arg9 c1_i32_16
  let v37 : BitVec 32 := Scalar.addi c0_i32_17 v36
  let c16_i32 : BitVec 32 := 16#32
  let v38 : BitVec 32 := Scalar.muli v37 c16_i32
  let v43 : Index := Scalar.indexCast v38
  ![0, v43.toNat]
def k0_off3 (k0_t2 : Fin k0_t2_loop.trips) : Fin 2 → Nat :=
  let c1_i32_20 : BitVec 32 := 1#32
  let v45 : Index := Scalar.indexCast c1_i32_20
  let c0_i32_17 : BitVec 32 := 0#32
  let c0_i32_10 : BitVec 32 := 0#32
  let c1_i32_12 : BitVec 32 := 1#32
  let arg9 : BitVec 32 := Scf.iv c0_i32_10 c1_i32_12 k0_t2
  let c1_i32_16 : BitVec 32 := 1#32
  let v36 : BitVec 32 := Scalar.muli arg9 c1_i32_16
  let v37 : BitVec 32 := Scalar.addi c0_i32_17 v36
  let c16_i32 : BitVec 32 := 16#32
  let v38 : BitVec 32 := Scalar.muli v37 c16_i32
  let v46 : Index := Scalar.indexCast v38
  ![1, v46.toNat]
def k0_off4 (k0_t2 : Fin k0_t2_loop.trips) : Fin 2 → Nat :=
  let c2_i32_21 : BitVec 32 := 2#32
  let v48 : Index := Scalar.indexCast c2_i32_21
  let c0_i32_17 : BitVec 32 := 0#32
  let c0_i32_10 : BitVec 32 := 0#32
  let c1_i32_12 : BitVec 32 := 1#32
  let arg9 : BitVec 32 := Scf.iv c0_i32_10 c1_i32_12 k0_t2
  let c1_i32_16 : BitVec 32 := 1#32
  let v36 : BitVec 32 := Scalar.muli arg9 c1_i32_16
  let v37 : BitVec 32 := Scalar.addi c0_i32_17 v36
  let c16_i32 : BitVec 32 := 16#32
  let v38 : BitVec 32 := Scalar.muli v37 c16_i32
  let v49 : Index := Scalar.indexCast v38
  ![2, v49.toNat]
def k0_off5 (k0_t2 : Fin k0_t2_loop.trips) : Fin 2 → Nat :=
  let c3_i32 : BitVec 32 := 3#32
  let v51 : Index := Scalar.indexCast c3_i32
  let c0_i32_17 : BitVec 32 := 0#32
  let c0_i32_10 : BitVec 32 := 0#32
  let c1_i32_12 : BitVec 32 := 1#32
  let arg9 : BitVec 32 := Scf.iv c0_i32_10 c1_i32_12 k0_t2
  let c1_i32_16 : BitVec 32 := 1#32
  let v36 : BitVec 32 := Scalar.muli arg9 c1_i32_16
  let v37 : BitVec 32 := Scalar.addi c0_i32_17 v36
  let c16_i32 : BitVec 32 := 16#32
  let v38 : BitVec 32 := Scalar.muli v37 c16_i32
  let v52 : Index := Scalar.indexCast v38
  ![3, v52.toNat]
def k0_off6 (k0_t2 : Fin k0_t2_loop.trips) : Fin 2 → Nat :=
  let c4_i32 : BitVec 32 := 4#32
  let v54 : Index := Scalar.indexCast c4_i32
  let c0_i32_17 : BitVec 32 := 0#32
  let c0_i32_10 : BitVec 32 := 0#32
  let c1_i32_12 : BitVec 32 := 1#32
  let arg9 : BitVec 32 := Scf.iv c0_i32_10 c1_i32_12 k0_t2
  let c1_i32_16 : BitVec 32 := 1#32
  let v36 : BitVec 32 := Scalar.muli arg9 c1_i32_16
  let v37 : BitVec 32 := Scalar.addi c0_i32_17 v36
  let c16_i32 : BitVec 32 := 16#32
  let v38 : BitVec 32 := Scalar.muli v37 c16_i32
  let v55 : Index := Scalar.indexCast v38
  ![4, v55.toNat]
def k0_off7 (k0_t2 : Fin k0_t2_loop.trips) : Fin 2 → Nat :=
  let c5_i32 : BitVec 32 := 5#32
  let v57 : Index := Scalar.indexCast c5_i32
  let c0_i32_17 : BitVec 32 := 0#32
  let c0_i32_10 : BitVec 32 := 0#32
  let c1_i32_12 : BitVec 32 := 1#32
  let arg9 : BitVec 32 := Scf.iv c0_i32_10 c1_i32_12 k0_t2
  let c1_i32_16 : BitVec 32 := 1#32
  let v36 : BitVec 32 := Scalar.muli arg9 c1_i32_16
  let v37 : BitVec 32 := Scalar.addi c0_i32_17 v36
  let c16_i32 : BitVec 32 := 16#32
  let v38 : BitVec 32 := Scalar.muli v37 c16_i32
  let v58 : Index := Scalar.indexCast v38
  ![5, v58.toNat]
def k0_off8 (k0_t2 : Fin k0_t2_loop.trips) : Fin 2 → Nat :=
  let c6_i32 : BitVec 32 := 6#32
  let v60 : Index := Scalar.indexCast c6_i32
  let c0_i32_17 : BitVec 32 := 0#32
  let c0_i32_10 : BitVec 32 := 0#32
  let c1_i32_12 : BitVec 32 := 1#32
  let arg9 : BitVec 32 := Scf.iv c0_i32_10 c1_i32_12 k0_t2
  let c1_i32_16 : BitVec 32 := 1#32
  let v36 : BitVec 32 := Scalar.muli arg9 c1_i32_16
  let v37 : BitVec 32 := Scalar.addi c0_i32_17 v36
  let c16_i32 : BitVec 32 := 16#32
  let v38 : BitVec 32 := Scalar.muli v37 c16_i32
  let v61 : Index := Scalar.indexCast v38
  ![6, v61.toNat]
def k0_off9 (k0_t2 : Fin k0_t2_loop.trips) : Fin 2 → Nat :=
  let c7_i32 : BitVec 32 := 7#32
  let v63 : Index := Scalar.indexCast c7_i32
  let c0_i32_17 : BitVec 32 := 0#32
  let c0_i32_10 : BitVec 32 := 0#32
  let c1_i32_12 : BitVec 32 := 1#32
  let arg9 : BitVec 32 := Scf.iv c0_i32_10 c1_i32_12 k0_t2
  let c1_i32_16 : BitVec 32 := 1#32
  let v36 : BitVec 32 := Scalar.muli arg9 c1_i32_16
  let v37 : BitVec 32 := Scalar.addi c0_i32_17 v36
  let c16_i32 : BitVec 32 := 16#32
  let v38 : BitVec 32 := Scalar.muli v37 c16_i32
  let v64 : Index := Scalar.indexCast v38
  ![7, v64.toNat]
def k0_off10 (k0_t2 : Fin k0_t2_loop.trips) : Fin 2 → Nat :=
  let c8_i32 : BitVec 32 := 8#32
  let v66 : Index := Scalar.indexCast c8_i32
  let c0_i32_17 : BitVec 32 := 0#32
  let c0_i32_10 : BitVec 32 := 0#32
  let c1_i32_12 : BitVec 32 := 1#32
  let arg9 : BitVec 32 := Scf.iv c0_i32_10 c1_i32_12 k0_t2
  let c1_i32_16 : BitVec 32 := 1#32
  let v36 : BitVec 32 := Scalar.muli arg9 c1_i32_16
  let v37 : BitVec 32 := Scalar.addi c0_i32_17 v36
  let c16_i32 : BitVec 32 := 16#32
  let v38 : BitVec 32 := Scalar.muli v37 c16_i32
  let v67 : Index := Scalar.indexCast v38
  ![8, v67.toNat]
def k0_off11 (k0_t2 : Fin k0_t2_loop.trips) : Fin 2 → Nat :=
  let c9_i32 : BitVec 32 := 9#32
  let v69 : Index := Scalar.indexCast c9_i32
  let c0_i32_17 : BitVec 32 := 0#32
  let c0_i32_10 : BitVec 32 := 0#32
  let c1_i32_12 : BitVec 32 := 1#32
  let arg9 : BitVec 32 := Scf.iv c0_i32_10 c1_i32_12 k0_t2
  let c1_i32_16 : BitVec 32 := 1#32
  let v36 : BitVec 32 := Scalar.muli arg9 c1_i32_16
  let v37 : BitVec 32 := Scalar.addi c0_i32_17 v36
  let c16_i32 : BitVec 32 := 16#32
  let v38 : BitVec 32 := Scalar.muli v37 c16_i32
  let v70 : Index := Scalar.indexCast v38
  ![9, v70.toNat]
def k0_off12 (k0_t2 : Fin k0_t2_loop.trips) : Fin 2 → Nat :=
  let c10_i32 : BitVec 32 := 10#32
  let v72 : Index := Scalar.indexCast c10_i32
  let c0_i32_17 : BitVec 32 := 0#32
  let c0_i32_10 : BitVec 32 := 0#32
  let c1_i32_12 : BitVec 32 := 1#32
  let arg9 : BitVec 32 := Scf.iv c0_i32_10 c1_i32_12 k0_t2
  let c1_i32_16 : BitVec 32 := 1#32
  let v36 : BitVec 32 := Scalar.muli arg9 c1_i32_16
  let v37 : BitVec 32 := Scalar.addi c0_i32_17 v36
  let c16_i32 : BitVec 32 := 16#32
  let v38 : BitVec 32 := Scalar.muli v37 c16_i32
  let v73 : Index := Scalar.indexCast v38
  ![10, v73.toNat]
def k0_off13 (k0_t2 : Fin k0_t2_loop.trips) : Fin 2 → Nat :=
  let c11_i32 : BitVec 32 := 11#32
  let v75 : Index := Scalar.indexCast c11_i32
  let c0_i32_17 : BitVec 32 := 0#32
  let c0_i32_10 : BitVec 32 := 0#32
  let c1_i32_12 : BitVec 32 := 1#32
  let arg9 : BitVec 32 := Scf.iv c0_i32_10 c1_i32_12 k0_t2
  let c1_i32_16 : BitVec 32 := 1#32
  let v36 : BitVec 32 := Scalar.muli arg9 c1_i32_16
  let v37 : BitVec 32 := Scalar.addi c0_i32_17 v36
  let c16_i32 : BitVec 32 := 16#32
  let v38 : BitVec 32 := Scalar.muli v37 c16_i32
  let v76 : Index := Scalar.indexCast v38
  ![11, v76.toNat]
def k0_off14 (k0_t2 : Fin k0_t2_loop.trips) : Fin 2 → Nat :=
  let c12_i32 : BitVec 32 := 12#32
  let v78 : Index := Scalar.indexCast c12_i32
  let c0_i32_17 : BitVec 32 := 0#32
  let c0_i32_10 : BitVec 32 := 0#32
  let c1_i32_12 : BitVec 32 := 1#32
  let arg9 : BitVec 32 := Scf.iv c0_i32_10 c1_i32_12 k0_t2
  let c1_i32_16 : BitVec 32 := 1#32
  let v36 : BitVec 32 := Scalar.muli arg9 c1_i32_16
  let v37 : BitVec 32 := Scalar.addi c0_i32_17 v36
  let c16_i32 : BitVec 32 := 16#32
  let v38 : BitVec 32 := Scalar.muli v37 c16_i32
  let v79 : Index := Scalar.indexCast v38
  ![12, v79.toNat]
def k0_off15 (k0_t2 : Fin k0_t2_loop.trips) : Fin 2 → Nat :=
  let c13_i32 : BitVec 32 := 13#32
  let v81 : Index := Scalar.indexCast c13_i32
  let c0_i32_17 : BitVec 32 := 0#32
  let c0_i32_10 : BitVec 32 := 0#32
  let c1_i32_12 : BitVec 32 := 1#32
  let arg9 : BitVec 32 := Scf.iv c0_i32_10 c1_i32_12 k0_t2
  let c1_i32_16 : BitVec 32 := 1#32
  let v36 : BitVec 32 := Scalar.muli arg9 c1_i32_16
  let v37 : BitVec 32 := Scalar.addi c0_i32_17 v36
  let c16_i32 : BitVec 32 := 16#32
  let v38 : BitVec 32 := Scalar.muli v37 c16_i32
  let v82 : Index := Scalar.indexCast v38
  ![13, v82.toNat]
def k0_off16 (k0_t2 : Fin k0_t2_loop.trips) : Fin 2 → Nat :=
  let c14_i32 : BitVec 32 := 14#32
  let v84 : Index := Scalar.indexCast c14_i32
  let c0_i32_17 : BitVec 32 := 0#32
  let c0_i32_10 : BitVec 32 := 0#32
  let c1_i32_12 : BitVec 32 := 1#32
  let arg9 : BitVec 32 := Scf.iv c0_i32_10 c1_i32_12 k0_t2
  let c1_i32_16 : BitVec 32 := 1#32
  let v36 : BitVec 32 := Scalar.muli arg9 c1_i32_16
  let v37 : BitVec 32 := Scalar.addi c0_i32_17 v36
  let c16_i32 : BitVec 32 := 16#32
  let v38 : BitVec 32 := Scalar.muli v37 c16_i32
  let v85 : Index := Scalar.indexCast v38
  ![14, v85.toNat]
def k0_off17 (k0_t2 : Fin k0_t2_loop.trips) : Fin 2 → Nat :=
  let c15_i32 : BitVec 32 := 15#32
  let v87 : Index := Scalar.indexCast c15_i32
  let c0_i32_17 : BitVec 32 := 0#32
  let c0_i32_10 : BitVec 32 := 0#32
  let c1_i32_12 : BitVec 32 := 1#32
  let arg9 : BitVec 32 := Scf.iv c0_i32_10 c1_i32_12 k0_t2
  let c1_i32_16 : BitVec 32 := 1#32
  let v36 : BitVec 32 := Scalar.muli arg9 c1_i32_16
  let v37 : BitVec 32 := Scalar.addi c0_i32_17 v36
  let c16_i32 : BitVec 32 := 16#32
  let v38 : BitVec 32 := Scalar.muli v37 c16_i32
  let v88 : Index := Scalar.indexCast v38
  ![15, v88.toNat]
def k0_off18 (k0_t2 : Fin k0_t2_loop.trips) : Fin 2 → Nat :=
  let c16_i32_22 : BitVec 32 := 16#32
  let v90 : Index := Scalar.indexCast c16_i32_22
  let c0_i32_17 : BitVec 32 := 0#32
  let c0_i32_10 : BitVec 32 := 0#32
  let c1_i32_12 : BitVec 32 := 1#32
  let arg9 : BitVec 32 := Scf.iv c0_i32_10 c1_i32_12 k0_t2
  let c1_i32_16 : BitVec 32 := 1#32
  let v36 : BitVec 32 := Scalar.muli arg9 c1_i32_16
  let v37 : BitVec 32 := Scalar.addi c0_i32_17 v36
  let c16_i32 : BitVec 32 := 16#32
  let v38 : BitVec 32 := Scalar.muli v37 c16_i32
  let v91 : Index := Scalar.indexCast v38
  ![16, v91.toNat]
def k0_off19 (k0_t2 : Fin k0_t2_loop.trips) : Fin 2 → Nat :=
  let c17_i32 : BitVec 32 := 17#32
  let v93 : Index := Scalar.indexCast c17_i32
  let c0_i32_17 : BitVec 32 := 0#32
  let c0_i32_10 : BitVec 32 := 0#32
  let c1_i32_12 : BitVec 32 := 1#32
  let arg9 : BitVec 32 := Scf.iv c0_i32_10 c1_i32_12 k0_t2
  let c1_i32_16 : BitVec 32 := 1#32
  let v36 : BitVec 32 := Scalar.muli arg9 c1_i32_16
  let v37 : BitVec 32 := Scalar.addi c0_i32_17 v36
  let c16_i32 : BitVec 32 := 16#32
  let v38 : BitVec 32 := Scalar.muli v37 c16_i32
  let v94 : Index := Scalar.indexCast v38
  ![17, v94.toNat]
def k0_off20 (k0_t2 : Fin k0_t2_loop.trips) : Fin 2 → Nat :=
  let c18_i32 : BitVec 32 := 18#32
  let v96 : Index := Scalar.indexCast c18_i32
  let c0_i32_17 : BitVec 32 := 0#32
  let c0_i32_10 : BitVec 32 := 0#32
  let c1_i32_12 : BitVec 32 := 1#32
  let arg9 : BitVec 32 := Scf.iv c0_i32_10 c1_i32_12 k0_t2
  let c1_i32_16 : BitVec 32 := 1#32
  let v36 : BitVec 32 := Scalar.muli arg9 c1_i32_16
  let v37 : BitVec 32 := Scalar.addi c0_i32_17 v36
  let c16_i32 : BitVec 32 := 16#32
  let v38 : BitVec 32 := Scalar.muli v37 c16_i32
  let v97 : Index := Scalar.indexCast v38
  ![18, v97.toNat]
def k0_off21 (k0_t2 : Fin k0_t2_loop.trips) : Fin 2 → Nat :=
  let c19_i32 : BitVec 32 := 19#32
  let v99 : Index := Scalar.indexCast c19_i32
  let c0_i32_17 : BitVec 32 := 0#32
  let c0_i32_10 : BitVec 32 := 0#32
  let c1_i32_12 : BitVec 32 := 1#32
  let arg9 : BitVec 32 := Scf.iv c0_i32_10 c1_i32_12 k0_t2
  let c1_i32_16 : BitVec 32 := 1#32
  let v36 : BitVec 32 := Scalar.muli arg9 c1_i32_16
  let v37 : BitVec 32 := Scalar.addi c0_i32_17 v36
  let c16_i32 : BitVec 32 := 16#32
  let v38 : BitVec 32 := Scalar.muli v37 c16_i32
  let v100 : Index := Scalar.indexCast v38
  ![19, v100.toNat]
def k0_off22 (k0_t2 : Fin k0_t2_loop.trips) : Fin 2 → Nat :=
  let c20_i32 : BitVec 32 := 20#32
  let v102 : Index := Scalar.indexCast c20_i32
  let c0_i32_17 : BitVec 32 := 0#32
  let c0_i32_10 : BitVec 32 := 0#32
  let c1_i32_12 : BitVec 32 := 1#32
  let arg9 : BitVec 32 := Scf.iv c0_i32_10 c1_i32_12 k0_t2
  let c1_i32_16 : BitVec 32 := 1#32
  let v36 : BitVec 32 := Scalar.muli arg9 c1_i32_16
  let v37 : BitVec 32 := Scalar.addi c0_i32_17 v36
  let c16_i32 : BitVec 32 := 16#32
  let v38 : BitVec 32 := Scalar.muli v37 c16_i32
  let v103 : Index := Scalar.indexCast v38
  ![20, v103.toNat]
def k0_off23 (k0_t2 : Fin k0_t2_loop.trips) : Fin 2 → Nat :=
  let c21_i32 : BitVec 32 := 21#32
  let v105 : Index := Scalar.indexCast c21_i32
  let c0_i32_17 : BitVec 32 := 0#32
  let c0_i32_10 : BitVec 32 := 0#32
  let c1_i32_12 : BitVec 32 := 1#32
  let arg9 : BitVec 32 := Scf.iv c0_i32_10 c1_i32_12 k0_t2
  let c1_i32_16 : BitVec 32 := 1#32
  let v36 : BitVec 32 := Scalar.muli arg9 c1_i32_16
  let v37 : BitVec 32 := Scalar.addi c0_i32_17 v36
  let c16_i32 : BitVec 32 := 16#32
  let v38 : BitVec 32 := Scalar.muli v37 c16_i32
  let v106 : Index := Scalar.indexCast v38
  ![21, v106.toNat]
def k0_off24 (k0_t2 : Fin k0_t2_loop.trips) : Fin 2 → Nat :=
  let c22_i32 : BitVec 32 := 22#32
  let v108 : Index := Scalar.indexCast c22_i32
  let c0_i32_17 : BitVec 32 := 0#32
  let c0_i32_10 : BitVec 32 := 0#32
  let c1_i32_12 : BitVec 32 := 1#32
  let arg9 : BitVec 32 := Scf.iv c0_i32_10 c1_i32_12 k0_t2
  let c1_i32_16 : BitVec 32 := 1#32
  let v36 : BitVec 32 := Scalar.muli arg9 c1_i32_16
  let v37 : BitVec 32 := Scalar.addi c0_i32_17 v36
  let c16_i32 : BitVec 32 := 16#32
  let v38 : BitVec 32 := Scalar.muli v37 c16_i32
  let v109 : Index := Scalar.indexCast v38
  ![22, v109.toNat]
def k0_off25 (k0_t2 : Fin k0_t2_loop.trips) : Fin 2 → Nat :=
  let c23_i32 : BitVec 32 := 23#32
  let v111 : Index := Scalar.indexCast c23_i32
  let c0_i32_17 : BitVec 32 := 0#32
  let c0_i32_10 : BitVec 32 := 0#32
  let c1_i32_12 : BitVec 32 := 1#32
  let arg9 : BitVec 32 := Scf.iv c0_i32_10 c1_i32_12 k0_t2
  let c1_i32_16 : BitVec 32 := 1#32
  let v36 : BitVec 32 := Scalar.muli arg9 c1_i32_16
  let v37 : BitVec 32 := Scalar.addi c0_i32_17 v36
  let c16_i32 : BitVec 32 := 16#32
  let v38 : BitVec 32 := Scalar.muli v37 c16_i32
  let v112 : Index := Scalar.indexCast v38
  ![23, v112.toNat]
def k0_off26 (k0_t2 : Fin k0_t2_loop.trips) : Fin 2 → Nat :=
  let c24_i32 : BitVec 32 := 24#32
  let v114 : Index := Scalar.indexCast c24_i32
  let c0_i32_17 : BitVec 32 := 0#32
  let c0_i32_10 : BitVec 32 := 0#32
  let c1_i32_12 : BitVec 32 := 1#32
  let arg9 : BitVec 32 := Scf.iv c0_i32_10 c1_i32_12 k0_t2
  let c1_i32_16 : BitVec 32 := 1#32
  let v36 : BitVec 32 := Scalar.muli arg9 c1_i32_16
  let v37 : BitVec 32 := Scalar.addi c0_i32_17 v36
  let c16_i32 : BitVec 32 := 16#32
  let v38 : BitVec 32 := Scalar.muli v37 c16_i32
  let v115 : Index := Scalar.indexCast v38
  ![24, v115.toNat]
def k0_off27 (k0_t2 : Fin k0_t2_loop.trips) : Fin 2 → Nat :=
  let c25_i32 : BitVec 32 := 25#32
  let v117 : Index := Scalar.indexCast c25_i32
  let c0_i32_17 : BitVec 32 := 0#32
  let c0_i32_10 : BitVec 32 := 0#32
  let c1_i32_12 : BitVec 32 := 1#32
  let arg9 : BitVec 32 := Scf.iv c0_i32_10 c1_i32_12 k0_t2
  let c1_i32_16 : BitVec 32 := 1#32
  let v36 : BitVec 32 := Scalar.muli arg9 c1_i32_16
  let v37 : BitVec 32 := Scalar.addi c0_i32_17 v36
  let c16_i32 : BitVec 32 := 16#32
  let v38 : BitVec 32 := Scalar.muli v37 c16_i32
  let v118 : Index := Scalar.indexCast v38
  ![25, v118.toNat]
def k0_off28 (k0_t2 : Fin k0_t2_loop.trips) : Fin 2 → Nat :=
  let c26_i32 : BitVec 32 := 26#32
  let v120 : Index := Scalar.indexCast c26_i32
  let c0_i32_17 : BitVec 32 := 0#32
  let c0_i32_10 : BitVec 32 := 0#32
  let c1_i32_12 : BitVec 32 := 1#32
  let arg9 : BitVec 32 := Scf.iv c0_i32_10 c1_i32_12 k0_t2
  let c1_i32_16 : BitVec 32 := 1#32
  let v36 : BitVec 32 := Scalar.muli arg9 c1_i32_16
  let v37 : BitVec 32 := Scalar.addi c0_i32_17 v36
  let c16_i32 : BitVec 32 := 16#32
  let v38 : BitVec 32 := Scalar.muli v37 c16_i32
  let v121 : Index := Scalar.indexCast v38
  ![26, v121.toNat]
def k0_off29 (k0_t2 : Fin k0_t2_loop.trips) : Fin 2 → Nat :=
  let c27_i32 : BitVec 32 := 27#32
  let v123 : Index := Scalar.indexCast c27_i32
  let c0_i32_17 : BitVec 32 := 0#32
  let c0_i32_10 : BitVec 32 := 0#32
  let c1_i32_12 : BitVec 32 := 1#32
  let arg9 : BitVec 32 := Scf.iv c0_i32_10 c1_i32_12 k0_t2
  let c1_i32_16 : BitVec 32 := 1#32
  let v36 : BitVec 32 := Scalar.muli arg9 c1_i32_16
  let v37 : BitVec 32 := Scalar.addi c0_i32_17 v36
  let c16_i32 : BitVec 32 := 16#32
  let v38 : BitVec 32 := Scalar.muli v37 c16_i32
  let v124 : Index := Scalar.indexCast v38
  ![27, v124.toNat]

def k0_chk1 (v127 : IVec S16 32) (v128 : IVec S16 32) : Prop :=
  (∀ a x, ((![v127, v128] : Fin 2 → IVec S16 32) a x).toNat < S2048x16.size a)
theorem k0_idx1_inb : ∀ (v127 : IVec S16 32) (v128 : IVec S16 32) (k0_hw1 : k0_chk1 v127 v128), ∀ a x, ((![v127, v128] : Fin 2 → IVec S16 32) a x).toNat < S2048x16.size a := fun v127 v128 k0_hw1 => k0_hw1

def k0_chk2 (v130 : IVec S16 32) (v131 : IVec S16 32) : Prop :=
  (∀ a x, ((![v130, v131] : Fin 2 → IVec S16 32) a x).toNat < S2048x16.size a)
theorem k0_idx2_inb : ∀ (v130 : IVec S16 32) (v131 : IVec S16 32) (k0_hw2 : k0_chk2 v130 v131), ∀ a x, ((![v130, v131] : Fin 2 → IVec S16 32) a x).toNat < S2048x16.size a := fun v130 v131 k0_hw2 => k0_hw2

def k0_chk3 (v133 : IVec S16 32) (v134 : IVec S16 32) : Prop :=
  (∀ a x, ((![v133, v134] : Fin 2 → IVec S16 32) a x).toNat < S2048x16.size a)
theorem k0_idx3_inb : ∀ (v133 : IVec S16 32) (v134 : IVec S16 32) (k0_hw3 : k0_chk3 v133 v134), ∀ a x, ((![v133, v134] : Fin 2 → IVec S16 32) a x).toNat < S2048x16.size a := fun v133 v134 k0_hw3 => k0_hw3

def k0_chk4 (v136 : IVec S16 32) (v137 : IVec S16 32) : Prop :=
  (∀ a x, ((![v136, v137] : Fin 2 → IVec S16 32) a x).toNat < S2048x16.size a)
theorem k0_idx4_inb : ∀ (v136 : IVec S16 32) (v137 : IVec S16 32) (k0_hw4 : k0_chk4 v136 v137), ∀ a x, ((![v136, v137] : Fin 2 → IVec S16 32) a x).toNat < S2048x16.size a := fun v136 v137 k0_hw4 => k0_hw4

def k0_chk5 (v139 : IVec S16 32) (v140 : IVec S16 32) : Prop :=
  (∀ a x, ((![v139, v140] : Fin 2 → IVec S16 32) a x).toNat < S2048x16.size a)
theorem k0_idx5_inb : ∀ (v139 : IVec S16 32) (v140 : IVec S16 32) (k0_hw5 : k0_chk5 v139 v140), ∀ a x, ((![v139, v140] : Fin 2 → IVec S16 32) a x).toNat < S2048x16.size a := fun v139 v140 k0_hw5 => k0_hw5

def k0_chk6 (v142 : IVec S16 32) (v143 : IVec S16 32) : Prop :=
  (∀ a x, ((![v142, v143] : Fin 2 → IVec S16 32) a x).toNat < S2048x16.size a)
theorem k0_idx6_inb : ∀ (v142 : IVec S16 32) (v143 : IVec S16 32) (k0_hw6 : k0_chk6 v142 v143), ∀ a x, ((![v142, v143] : Fin 2 → IVec S16 32) a x).toNat < S2048x16.size a := fun v142 v143 k0_hw6 => k0_hw6

def k0_chk7 (v145 : IVec S16 32) (v146 : IVec S16 32) : Prop :=
  (∀ a x, ((![v145, v146] : Fin 2 → IVec S16 32) a x).toNat < S2048x16.size a)
theorem k0_idx7_inb : ∀ (v145 : IVec S16 32) (v146 : IVec S16 32) (k0_hw7 : k0_chk7 v145 v146), ∀ a x, ((![v145, v146] : Fin 2 → IVec S16 32) a x).toNat < S2048x16.size a := fun v145 v146 k0_hw7 => k0_hw7

def k0_chk8 (v148 : IVec S16 32) (v149 : IVec S16 32) : Prop :=
  (∀ a x, ((![v148, v149] : Fin 2 → IVec S16 32) a x).toNat < S2048x16.size a)
theorem k0_idx8_inb : ∀ (v148 : IVec S16 32) (v149 : IVec S16 32) (k0_hw8 : k0_chk8 v148 v149), ∀ a x, ((![v148, v149] : Fin 2 → IVec S16 32) a x).toNat < S2048x16.size a := fun v148 v149 k0_hw8 => k0_hw8

def k0_chk9 (v151 : IVec S16 32) (v152 : IVec S16 32) : Prop :=
  (∀ a x, ((![v151, v152] : Fin 2 → IVec S16 32) a x).toNat < S2048x16.size a)
theorem k0_idx9_inb : ∀ (v151 : IVec S16 32) (v152 : IVec S16 32) (k0_hw9 : k0_chk9 v151 v152), ∀ a x, ((![v151, v152] : Fin 2 → IVec S16 32) a x).toNat < S2048x16.size a := fun v151 v152 k0_hw9 => k0_hw9

def k0_chk10 (v154 : IVec S16 32) (v155 : IVec S16 32) : Prop :=
  (∀ a x, ((![v154, v155] : Fin 2 → IVec S16 32) a x).toNat < S2048x16.size a)
theorem k0_idx10_inb : ∀ (v154 : IVec S16 32) (v155 : IVec S16 32) (k0_hw10 : k0_chk10 v154 v155), ∀ a x, ((![v154, v155] : Fin 2 → IVec S16 32) a x).toNat < S2048x16.size a := fun v154 v155 k0_hw10 => k0_hw10

def k0_chk11 (v157 : IVec S16 32) (v158 : IVec S16 32) : Prop :=
  (∀ a x, ((![v157, v158] : Fin 2 → IVec S16 32) a x).toNat < S2048x16.size a)
theorem k0_idx11_inb : ∀ (v157 : IVec S16 32) (v158 : IVec S16 32) (k0_hw11 : k0_chk11 v157 v158), ∀ a x, ((![v157, v158] : Fin 2 → IVec S16 32) a x).toNat < S2048x16.size a := fun v157 v158 k0_hw11 => k0_hw11

def k0_chk12 (v160 : IVec S16 32) (v161 : IVec S16 32) : Prop :=
  (∀ a x, ((![v160, v161] : Fin 2 → IVec S16 32) a x).toNat < S2048x16.size a)
theorem k0_idx12_inb : ∀ (v160 : IVec S16 32) (v161 : IVec S16 32) (k0_hw12 : k0_chk12 v160 v161), ∀ a x, ((![v160, v161] : Fin 2 → IVec S16 32) a x).toNat < S2048x16.size a := fun v160 v161 k0_hw12 => k0_hw12

def k0_chk13 (v163 : IVec S16 32) (v164 : IVec S16 32) : Prop :=
  (∀ a x, ((![v163, v164] : Fin 2 → IVec S16 32) a x).toNat < S2048x16.size a)
theorem k0_idx13_inb : ∀ (v163 : IVec S16 32) (v164 : IVec S16 32) (k0_hw13 : k0_chk13 v163 v164), ∀ a x, ((![v163, v164] : Fin 2 → IVec S16 32) a x).toNat < S2048x16.size a := fun v163 v164 k0_hw13 => k0_hw13

def k0_chk14 (v166 : IVec S16 32) (v167 : IVec S16 32) : Prop :=
  (∀ a x, ((![v166, v167] : Fin 2 → IVec S16 32) a x).toNat < S2048x16.size a)
theorem k0_idx14_inb : ∀ (v166 : IVec S16 32) (v167 : IVec S16 32) (k0_hw14 : k0_chk14 v166 v167), ∀ a x, ((![v166, v167] : Fin 2 → IVec S16 32) a x).toNat < S2048x16.size a := fun v166 v167 k0_hw14 => k0_hw14

def k0_chk15 (v169 : IVec S16 32) (v170 : IVec S16 32) : Prop :=
  (∀ a x, ((![v169, v170] : Fin 2 → IVec S16 32) a x).toNat < S2048x16.size a)
theorem k0_idx15_inb : ∀ (v169 : IVec S16 32) (v170 : IVec S16 32) (k0_hw15 : k0_chk15 v169 v170), ∀ a x, ((![v169, v170] : Fin 2 → IVec S16 32) a x).toNat < S2048x16.size a := fun v169 v170 k0_hw15 => k0_hw15

def k0_chk16 (v172 : IVec S16 32) (v173 : IVec S16 32) : Prop :=
  (∀ a x, ((![v172, v173] : Fin 2 → IVec S16 32) a x).toNat < S2048x16.size a)
theorem k0_idx16_inb : ∀ (v172 : IVec S16 32) (v173 : IVec S16 32) (k0_hw16 : k0_chk16 v172 v173), ∀ a x, ((![v172, v173] : Fin 2 → IVec S16 32) a x).toNat < S2048x16.size a := fun v172 v173 k0_hw16 => k0_hw16

def k0_chk17 (v175 : IVec S16 32) (v176 : IVec S16 32) : Prop :=
  (∀ a x, ((![v175, v176] : Fin 2 → IVec S16 32) a x).toNat < S2048x16.size a)
theorem k0_idx17_inb : ∀ (v175 : IVec S16 32) (v176 : IVec S16 32) (k0_hw17 : k0_chk17 v175 v176), ∀ a x, ((![v175, v176] : Fin 2 → IVec S16 32) a x).toNat < S2048x16.size a := fun v175 v176 k0_hw17 => k0_hw17

def k0_chk18 (v178 : IVec S16 32) (v179 : IVec S16 32) : Prop :=
  (∀ a x, ((![v178, v179] : Fin 2 → IVec S16 32) a x).toNat < S2048x16.size a)
theorem k0_idx18_inb : ∀ (v178 : IVec S16 32) (v179 : IVec S16 32) (k0_hw18 : k0_chk18 v178 v179), ∀ a x, ((![v178, v179] : Fin 2 → IVec S16 32) a x).toNat < S2048x16.size a := fun v178 v179 k0_hw18 => k0_hw18

def k0_chk19 (v181 : IVec S16 32) (v182 : IVec S16 32) : Prop :=
  (∀ a x, ((![v181, v182] : Fin 2 → IVec S16 32) a x).toNat < S2048x16.size a)
theorem k0_idx19_inb : ∀ (v181 : IVec S16 32) (v182 : IVec S16 32) (k0_hw19 : k0_chk19 v181 v182), ∀ a x, ((![v181, v182] : Fin 2 → IVec S16 32) a x).toNat < S2048x16.size a := fun v181 v182 k0_hw19 => k0_hw19

def k0_chk20 (v184 : IVec S16 32) (v185 : IVec S16 32) : Prop :=
  (∀ a x, ((![v184, v185] : Fin 2 → IVec S16 32) a x).toNat < S2048x16.size a)
theorem k0_idx20_inb : ∀ (v184 : IVec S16 32) (v185 : IVec S16 32) (k0_hw20 : k0_chk20 v184 v185), ∀ a x, ((![v184, v185] : Fin 2 → IVec S16 32) a x).toNat < S2048x16.size a := fun v184 v185 k0_hw20 => k0_hw20

def k0_chk21 (v187 : IVec S16 32) (v188 : IVec S16 32) : Prop :=
  (∀ a x, ((![v187, v188] : Fin 2 → IVec S16 32) a x).toNat < S2048x16.size a)
theorem k0_idx21_inb : ∀ (v187 : IVec S16 32) (v188 : IVec S16 32) (k0_hw21 : k0_chk21 v187 v188), ∀ a x, ((![v187, v188] : Fin 2 → IVec S16 32) a x).toNat < S2048x16.size a := fun v187 v188 k0_hw21 => k0_hw21

def k0_chk22 (v190 : IVec S16 32) (v191 : IVec S16 32) : Prop :=
  (∀ a x, ((![v190, v191] : Fin 2 → IVec S16 32) a x).toNat < S2048x16.size a)
theorem k0_idx22_inb : ∀ (v190 : IVec S16 32) (v191 : IVec S16 32) (k0_hw22 : k0_chk22 v190 v191), ∀ a x, ((![v190, v191] : Fin 2 → IVec S16 32) a x).toNat < S2048x16.size a := fun v190 v191 k0_hw22 => k0_hw22

def k0_chk23 (v193 : IVec S16 32) (v194 : IVec S16 32) : Prop :=
  (∀ a x, ((![v193, v194] : Fin 2 → IVec S16 32) a x).toNat < S2048x16.size a)
theorem k0_idx23_inb : ∀ (v193 : IVec S16 32) (v194 : IVec S16 32) (k0_hw23 : k0_chk23 v193 v194), ∀ a x, ((![v193, v194] : Fin 2 → IVec S16 32) a x).toNat < S2048x16.size a := fun v193 v194 k0_hw23 => k0_hw23

def k0_chk24 (v196 : IVec S16 32) (v197 : IVec S16 32) : Prop :=
  (∀ a x, ((![v196, v197] : Fin 2 → IVec S16 32) a x).toNat < S2048x16.size a)
theorem k0_idx24_inb : ∀ (v196 : IVec S16 32) (v197 : IVec S16 32) (k0_hw24 : k0_chk24 v196 v197), ∀ a x, ((![v196, v197] : Fin 2 → IVec S16 32) a x).toNat < S2048x16.size a := fun v196 v197 k0_hw24 => k0_hw24

def k0_chk25 (v199 : IVec S16 32) (v200 : IVec S16 32) : Prop :=
  (∀ a x, ((![v199, v200] : Fin 2 → IVec S16 32) a x).toNat < S2048x16.size a)
theorem k0_idx25_inb : ∀ (v199 : IVec S16 32) (v200 : IVec S16 32) (k0_hw25 : k0_chk25 v199 v200), ∀ a x, ((![v199, v200] : Fin 2 → IVec S16 32) a x).toNat < S2048x16.size a := fun v199 v200 k0_hw25 => k0_hw25

def k0_chk26 (v202 : IVec S16 32) (v203 : IVec S16 32) : Prop :=
  (∀ a x, ((![v202, v203] : Fin 2 → IVec S16 32) a x).toNat < S2048x16.size a)
theorem k0_idx26_inb : ∀ (v202 : IVec S16 32) (v203 : IVec S16 32) (k0_hw26 : k0_chk26 v202 v203), ∀ a x, ((![v202, v203] : Fin 2 → IVec S16 32) a x).toNat < S2048x16.size a := fun v202 v203 k0_hw26 => k0_hw26

def k0_chk27 (v205 : IVec S16 32) (v206 : IVec S16 32) : Prop :=
  (∀ a x, ((![v205, v206] : Fin 2 → IVec S16 32) a x).toNat < S2048x16.size a)
theorem k0_idx27_inb : ∀ (v205 : IVec S16 32) (v206 : IVec S16 32) (k0_hw27 : k0_chk27 v205 v206), ∀ a x, ((![v205, v206] : Fin 2 → IVec S16 32) a x).toNat < S2048x16.size a := fun v205 v206 k0_hw27 => k0_hw27

def k0_chk28 (v208 : IVec S16 32) (v209 : IVec S16 32) : Prop :=
  (∀ a x, ((![v208, v209] : Fin 2 → IVec S16 32) a x).toNat < S2048x16.size a)
theorem k0_idx28_inb : ∀ (v208 : IVec S16 32) (v209 : IVec S16 32) (k0_hw28 : k0_chk28 v208 v209), ∀ a x, ((![v208, v209] : Fin 2 → IVec S16 32) a x).toNat < S2048x16.size a := fun v208 v209 k0_hw28 => k0_hw28
def k0_off30 (i : grid0.Coords) (k0_t1 : Fin k0_t1_loop.trips) : Fin 2 → Nat :=
  let c2_i32_14 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v7 : BitVec 32 := Scalar.muli v1 c65536_i32
  let c0_i32_1 : BitVec 32 := 0#32
  let c1_i32 : BitVec 32 := 1#32
  let arg7 : BitVec 32 := Scf.iv c0_i32_1 c1_i32 k0_t1
  let c1024_i32 : BitVec 32 := 1024#32
  let v8 : BitVec 32 := Scalar.muli arg7 c1024_i32
  let v9 : BitVec 32 := Scalar.addi v7 v8
  let v35 : BitVec 32 := Scalar.muli c2_i32_14 v9
  let c0_i32_16_r0 : BitVec 32 := 0#32
  ![v35.toNat, 0]
abbrev grid1 : Pipeline.Grid := ⟨2, ![2, 16], ![false, false]⟩

@[reducible] def k1_t1_loop : Scf.Loop 32 :=
  let c0_i32_0 : BitVec 32 := 0#32
  let c32_i32 : BitVec 32 := 32#32
  let v2 : BitVec 32 := Scalar.addi c0_i32_0 c32_i32
  let c1_i32 : BitVec 32 := 1#32
  ⟨c0_i32_0, v2, c1_i32⟩
def k1_off1 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32768_i32 : BitVec 32 := 32768#32
  let v4 : BitVec 32 := Scalar.muli v1 c32768_i32
  let c0_i32_0 : BitVec 32 := 0#32
  let c1_i32 : BitVec 32 := 1#32
  let arg20 : BitVec 32 := Scf.iv c0_i32_0 c1_i32 k1_t1
  let c1024_i32 : BitVec 32 := 1024#32
  let v5 : BitVec 32 := Scalar.muli arg20 c1024_i32
  let v6 : BitVec 32 := Scalar.addi v4 v5
  ![v6.toNat]
@[reducible] def k1_t2_loop : Scf.Loop 32 :=
  let c0_i32_35 : BitVec 32 := 0#32
  let c64_i32 : BitVec 32 := 64#32
  let v79 : BitVec 32 := Scalar.addi c0_i32_35 c64_i32
  let c1_i32_36 : BitVec 32 := 1#32
  ⟨c0_i32_35, v79, c1_i32_36⟩
def k1_off2 (k1_t2 : Fin k1_t2_loop.trips) : Fin 2 → Nat :=
  let c0_i32_296 : BitVec 32 := 0#32
  let v244 : Index := Scalar.indexCast c0_i32_296
  let c0_i32_295 : BitVec 32 := 0#32
  let c0_i32_35 : BitVec 32 := 0#32
  let c1_i32_36 : BitVec 32 := 1#32
  let arg22 : BitVec 32 := Scf.iv c0_i32_35 c1_i32_36 k1_t2
  let c1_i32_294 : BitVec 32 := 1#32
  let v241 : BitVec 32 := Scalar.muli arg22 c1_i32_294
  let v242 : BitVec 32 := Scalar.addi c0_i32_295 v241
  let c16_i32 : BitVec 32 := 16#32
  let v243 : BitVec 32 := Scalar.muli v242 c16_i32
  let v245 : Index := Scalar.indexCast v243
  ![0, v245.toNat]
def k1_off3 (k1_t2 : Fin k1_t2_loop.trips) : Fin 2 → Nat :=
  let c1_i32_297 : BitVec 32 := 1#32
  let v247 : Index := Scalar.indexCast c1_i32_297
  let c0_i32_295 : BitVec 32 := 0#32
  let c0_i32_35 : BitVec 32 := 0#32
  let c1_i32_36 : BitVec 32 := 1#32
  let arg22 : BitVec 32 := Scf.iv c0_i32_35 c1_i32_36 k1_t2
  let c1_i32_294 : BitVec 32 := 1#32
  let v241 : BitVec 32 := Scalar.muli arg22 c1_i32_294
  let v242 : BitVec 32 := Scalar.addi c0_i32_295 v241
  let c16_i32 : BitVec 32 := 16#32
  let v243 : BitVec 32 := Scalar.muli v242 c16_i32
  let v248 : Index := Scalar.indexCast v243
  ![1, v248.toNat]
def k1_off4 (k1_t2 : Fin k1_t2_loop.trips) : Fin 2 → Nat :=
  let c2_i32_298 : BitVec 32 := 2#32
  let v250 : Index := Scalar.indexCast c2_i32_298
  let c0_i32_295 : BitVec 32 := 0#32
  let c0_i32_35 : BitVec 32 := 0#32
  let c1_i32_36 : BitVec 32 := 1#32
  let arg22 : BitVec 32 := Scf.iv c0_i32_35 c1_i32_36 k1_t2
  let c1_i32_294 : BitVec 32 := 1#32
  let v241 : BitVec 32 := Scalar.muli arg22 c1_i32_294
  let v242 : BitVec 32 := Scalar.addi c0_i32_295 v241
  let c16_i32 : BitVec 32 := 16#32
  let v243 : BitVec 32 := Scalar.muli v242 c16_i32
  let v251 : Index := Scalar.indexCast v243
  ![2, v251.toNat]
def k1_off5 (k1_t2 : Fin k1_t2_loop.trips) : Fin 3 → Nat :=
  let c0_i32_327 : BitVec 32 := 0#32
  let v327 : Index := Scalar.indexCast c0_i32_327
  let c0_i32_295 : BitVec 32 := 0#32
  let c0_i32_35 : BitVec 32 := 0#32
  let c1_i32_36 : BitVec 32 := 1#32
  let arg22 : BitVec 32 := Scf.iv c0_i32_35 c1_i32_36 k1_t2
  let c1_i32_294 : BitVec 32 := 1#32
  let v241 : BitVec 32 := Scalar.muli arg22 c1_i32_294
  let v242 : BitVec 32 := Scalar.addi c0_i32_295 v241
  let c0_i32_314 : BitVec 32 := 0#32
  let v300 : BitVec 1 := Scalar.cmpi .sgt v242 c0_i32_314
  let v301 : BitVec 32 := Scalar.extui v300
  let c0_i32_315 : BitVec 32 := 0#32
  let v302 : BitVec 1 := Scalar.cmpi .slt v242 c0_i32_315
  let v303 : BitVec 32 := Scalar.extui v302
  let v304 : BitVec 32 := Scalar.subi v301 v303
  let c8_i32 : BitVec 32 := 8#32
  let c0_i32_316 : BitVec 32 := 0#32
  let v305 : BitVec 1 := Scalar.cmpi .sgt c8_i32 c0_i32_316
  let v306 : BitVec 32 := Scalar.extui v305
  let c0_i32_317 : BitVec 32 := 0#32
  let v307 : BitVec 1 := Scalar.cmpi .slt c8_i32 c0_i32_317
  let v308 : BitVec 32 := Scalar.extui v307
  let v309 : BitVec 32 := Scalar.subi v306 v308
  let v310 : BitVec 1 := Scalar.cmpi .ne v304 v309
  let v311 : BitVec 32 := Scalar.remsi v242 c8_i32
  let c0_i32_318 : BitVec 32 := 0#32
  let v312 : BitVec 1 := Scalar.cmpi .ne v311 c0_i32_318
  let v313 : BitVec 1 := Scalar.andi v310 v312
  let v299 : BitVec 32 := Scalar.divsi v242 c8_i32
  let c1_i32_319 : BitVec 32 := 1#32
  let v314 : BitVec 32 := Scalar.subi v299 c1_i32_319
  let v315 : BitVec 32 := Scalar.select v313 v314 v299
  let v328 : Index := Scalar.indexCast v315
  let c8_i32_320 : BitVec 32 := 8#32
  let c0_i32_321 : BitVec 32 := 0#32
  let v316 : BitVec 1 := Scalar.cmpi .eq c8_i32_320 c0_i32_321
  let c1_i32_322 : BitVec 32 := 1#32
  let v317 : BitVec 32 := Scalar.select v316 c1_i32_322 c8_i32_320
  let v318 : BitVec 32 := Scalar.remsi v242 v317
  let c0_i32_324 : BitVec 32 := 0#32
  let v320 : BitVec 1 := Scalar.cmpi .slt v318 c0_i32_324
  let c0_i32_325 : BitVec 32 := 0#32
  let v321 : BitVec 1 := Scalar.cmpi .slt v317 c0_i32_325
  let v322 : BitVec 1 := Scalar.xori v320 v321
  let c0_i32_323 : BitVec 32 := 0#32
  let v319 : BitVec 1 := Scalar.cmpi .ne v318 c0_i32_323
  let v323 : BitVec 1 := Scalar.andi v322 v319
  let v324 : BitVec 32 := Scalar.addi v318 v317
  let v325 : BitVec 32 := Scalar.select v323 v324 v318
  let c16_i32_326 : BitVec 32 := 16#32
  let v326 : BitVec 32 := Scalar.muli v325 c16_i32_326
  let v329 : Index := Scalar.indexCast v326
  ![0, v328.toNat, v329.toNat]
def k1_off6 (k1_t2 : Fin k1_t2_loop.trips) : Fin 3 → Nat :=
  let c1_i32_329 : BitVec 32 := 1#32
  let v333 : Index := Scalar.indexCast c1_i32_329
  let c0_i32_295 : BitVec 32 := 0#32
  let c0_i32_35 : BitVec 32 := 0#32
  let c1_i32_36 : BitVec 32 := 1#32
  let arg22 : BitVec 32 := Scf.iv c0_i32_35 c1_i32_36 k1_t2
  let c1_i32_294 : BitVec 32 := 1#32
  let v241 : BitVec 32 := Scalar.muli arg22 c1_i32_294
  let v242 : BitVec 32 := Scalar.addi c0_i32_295 v241
  let c0_i32_314 : BitVec 32 := 0#32
  let v300 : BitVec 1 := Scalar.cmpi .sgt v242 c0_i32_314
  let v301 : BitVec 32 := Scalar.extui v300
  let c0_i32_315 : BitVec 32 := 0#32
  let v302 : BitVec 1 := Scalar.cmpi .slt v242 c0_i32_315
  let v303 : BitVec 32 := Scalar.extui v302
  let v304 : BitVec 32 := Scalar.subi v301 v303
  let c8_i32 : BitVec 32 := 8#32
  let c0_i32_316 : BitVec 32 := 0#32
  let v305 : BitVec 1 := Scalar.cmpi .sgt c8_i32 c0_i32_316
  let v306 : BitVec 32 := Scalar.extui v305
  let c0_i32_317 : BitVec 32 := 0#32
  let v307 : BitVec 1 := Scalar.cmpi .slt c8_i32 c0_i32_317
  let v308 : BitVec 32 := Scalar.extui v307
  let v309 : BitVec 32 := Scalar.subi v306 v308
  let v310 : BitVec 1 := Scalar.cmpi .ne v304 v309
  let v311 : BitVec 32 := Scalar.remsi v242 c8_i32
  let c0_i32_318 : BitVec 32 := 0#32
  let v312 : BitVec 1 := Scalar.cmpi .ne v311 c0_i32_318
  let v313 : BitVec 1 := Scalar.andi v310 v312
  let v299 : BitVec 32 := Scalar.divsi v242 c8_i32
  let c1_i32_319 : BitVec 32 := 1#32
  let v314 : BitVec 32 := Scalar.subi v299 c1_i32_319
  let v315 : BitVec 32 := Scalar.select v313 v314 v299
  let v334 : Index := Scalar.indexCast v315
  let c8_i32_320 : BitVec 32 := 8#32
  let c0_i32_321 : BitVec 32 := 0#32
  let v316 : BitVec 1 := Scalar.cmpi .eq c8_i32_320 c0_i32_321
  let c1_i32_322 : BitVec 32 := 1#32
  let v317 : BitVec 32 := Scalar.select v316 c1_i32_322 c8_i32_320
  let v318 : BitVec 32 := Scalar.remsi v242 v317
  let c0_i32_324 : BitVec 32 := 0#32
  let v320 : BitVec 1 := Scalar.cmpi .slt v318 c0_i32_324
  let c0_i32_325 : BitVec 32 := 0#32
  let v321 : BitVec 1 := Scalar.cmpi .slt v317 c0_i32_325
  let v322 : BitVec 1 := Scalar.xori v320 v321
  let c0_i32_323 : BitVec 32 := 0#32
  let v319 : BitVec 1 := Scalar.cmpi .ne v318 c0_i32_323
  let v323 : BitVec 1 := Scalar.andi v322 v319
  let v324 : BitVec 32 := Scalar.addi v318 v317
  let v325 : BitVec 32 := Scalar.select v323 v324 v318
  let c16_i32_326 : BitVec 32 := 16#32
  let v326 : BitVec 32 := Scalar.muli v325 c16_i32_326
  let v335 : Index := Scalar.indexCast v326
  ![1, v334.toNat, v335.toNat]
def k1_off7 (k1_t2 : Fin k1_t2_loop.trips) : Fin 1 → Nat :=
  let c0_i32_295 : BitVec 32 := 0#32
  let c0_i32_35 : BitVec 32 := 0#32
  let c1_i32_36 : BitVec 32 := 1#32
  let arg22 : BitVec 32 := Scf.iv c0_i32_35 c1_i32_36 k1_t2
  let c1_i32_294 : BitVec 32 := 1#32
  let v241 : BitVec 32 := Scalar.muli arg22 c1_i32_294
  let v242 : BitVec 32 := Scalar.addi c0_i32_295 v241
  let c16_i32_332 : BitVec 32 := 16#32
  let v340 : BitVec 32 := Scalar.muli v242 c16_i32_332
  let v341 : Index := Scalar.indexCast v340
  ![v341.toNat]
@[reducible] def k1_t3_loop : Scf.Loop 32 :=
  let c0_i32_285 : BitVec 32 := 0#32
  let c64_i32_286 : BitVec 32 := 64#32
  let v240 : BitVec 32 := Scalar.addi c0_i32_285 c64_i32_286
  let c1_i32_287 : BitVec 32 := 1#32
  ⟨c0_i32_285, v240, c1_i32_287⟩
def k1_off8 (k1_t3 : Fin k1_t3_loop.trips) : Fin 1 → Nat :=
  let c0_i32_295 : BitVec 32 := 0#32
  let c0_i32_285 : BitVec 32 := 0#32
  let c1_i32_287 : BitVec 32 := 1#32
  let arg22 : BitVec 32 := Scf.iv c0_i32_285 c1_i32_287 k1_t3
  let c1_i32_294 : BitVec 32 := 1#32
  let v241 : BitVec 32 := Scalar.muli arg22 c1_i32_294
  let v242 : BitVec 32 := Scalar.addi c0_i32_295 v241
  let c16_i32 : BitVec 32 := 16#32
  let v243 : BitVec 32 := Scalar.muli v242 c16_i32
  let v248 : Index := Scalar.indexCast v243
  ![v248.toNat]
def k1_off9 (k1_t3 : Fin k1_t3_loop.trips) : Fin 2 → Nat :=
  let c3_i32_297 : BitVec 32 := 3#32
  let v250 : Index := Scalar.indexCast c3_i32_297
  let c0_i32_295 : BitVec 32 := 0#32
  let c0_i32_285 : BitVec 32 := 0#32
  let c1_i32_287 : BitVec 32 := 1#32
  let arg22 : BitVec 32 := Scf.iv c0_i32_285 c1_i32_287 k1_t3
  let c1_i32_294 : BitVec 32 := 1#32
  let v241 : BitVec 32 := Scalar.muli arg22 c1_i32_294
  let v242 : BitVec 32 := Scalar.addi c0_i32_295 v241
  let c16_i32 : BitVec 32 := 16#32
  let v243 : BitVec 32 := Scalar.muli v242 c16_i32
  let v251 : Index := Scalar.indexCast v243
  ![3, v251.toNat]
def k1_off10 (k1_t3 : Fin k1_t3_loop.trips) : Fin 2 → Nat :=
  let c4_i32_298 : BitVec 32 := 4#32
  let v253 : Index := Scalar.indexCast c4_i32_298
  let c0_i32_295 : BitVec 32 := 0#32
  let c0_i32_285 : BitVec 32 := 0#32
  let c1_i32_287 : BitVec 32 := 1#32
  let arg22 : BitVec 32 := Scf.iv c0_i32_285 c1_i32_287 k1_t3
  let c1_i32_294 : BitVec 32 := 1#32
  let v241 : BitVec 32 := Scalar.muli arg22 c1_i32_294
  let v242 : BitVec 32 := Scalar.addi c0_i32_295 v241
  let c16_i32 : BitVec 32 := 16#32
  let v243 : BitVec 32 := Scalar.muli v242 c16_i32
  let v254 : Index := Scalar.indexCast v243
  ![4, v254.toNat]
def k1_off11 (k1_t3 : Fin k1_t3_loop.trips) : Fin 2 → Nat :=
  let c5_i32_299 : BitVec 32 := 5#32
  let v256 : Index := Scalar.indexCast c5_i32_299
  let c0_i32_295 : BitVec 32 := 0#32
  let c0_i32_285 : BitVec 32 := 0#32
  let c1_i32_287 : BitVec 32 := 1#32
  let arg22 : BitVec 32 := Scf.iv c0_i32_285 c1_i32_287 k1_t3
  let c1_i32_294 : BitVec 32 := 1#32
  let v241 : BitVec 32 := Scalar.muli arg22 c1_i32_294
  let v242 : BitVec 32 := Scalar.addi c0_i32_295 v241
  let c16_i32 : BitVec 32 := 16#32
  let v243 : BitVec 32 := Scalar.muli v242 c16_i32
  let v257 : Index := Scalar.indexCast v243
  ![5, v257.toNat]

def k1_chk1 (v247 : IVec S16 32) (v259 : IVec S16 32) (v260 : IVec S16 32) : Prop :=
  (∀ a x, ((![v259, v247, v260] : Fin 3 → IVec S16 32) a x).toNat < S2x1024x16.size a)
theorem k1_idx1_inb : ∀ (v247 : IVec S16 32) (v259 : IVec S16 32) (v260 : IVec S16 32) (k1_hw1 : k1_chk1 v247 v259 v260), ∀ a x, ((![v259, v247, v260] : Fin 3 → IVec S16 32) a x).toNat < S2x1024x16.size a := fun v247 v259 v260 k1_hw1 => k1_hw1
def k1_off12 (k1_t3 : Fin k1_t3_loop.trips) : Fin 2 → Nat :=
  let c3_i32_302 : BitVec 32 := 3#32
  let v265 : Index := Scalar.indexCast c3_i32_302
  let c0_i32_295 : BitVec 32 := 0#32
  let c0_i32_285 : BitVec 32 := 0#32
  let c1_i32_287 : BitVec 32 := 1#32
  let arg22 : BitVec 32 := Scf.iv c0_i32_285 c1_i32_287 k1_t3
  let c1_i32_294 : BitVec 32 := 1#32
  let v241 : BitVec 32 := Scalar.muli arg22 c1_i32_294
  let v242 : BitVec 32 := Scalar.addi c0_i32_295 v241
  let c16_i32 : BitVec 32 := 16#32
  let v243 : BitVec 32 := Scalar.muli v242 c16_i32
  let v266 : Index := Scalar.indexCast v243
  ![3, v266.toNat]

def k1_chk2 (v247 : IVec S16 32) (v298 : IVec S16 32) (v299 : IVec S16 32) : Prop :=
  (∀ a x, ((![v298, v247, v299] : Fin 3 → IVec S16 32) a x).toNat < S2x1024x16.size a)
theorem k1_idx2_inb : ∀ (v247 : IVec S16 32) (v298 : IVec S16 32) (v299 : IVec S16 32) (k1_hw2 : k1_chk2 v247 v298 v299), ∀ a x, ((![v298, v247, v299] : Fin 3 → IVec S16 32) a x).toNat < S2x1024x16.size a := fun v247 v298 v299 k1_hw2 => k1_hw2

def k1_chk3 (v247 : IVec S16 32) (v302 : IVec S16 32) (v303 : IVec S16 32) : Prop :=
  (∀ a x, ((![v302, v247, v303] : Fin 3 → IVec S16 32) a x).toNat < S2x1024x16.size a)
theorem k1_idx3_inb : ∀ (v247 : IVec S16 32) (v302 : IVec S16 32) (v303 : IVec S16 32) (k1_hw3 : k1_chk3 v247 v302 v303), ∀ a x, ((![v302, v247, v303] : Fin 3 → IVec S16 32) a x).toNat < S2x1024x16.size a := fun v247 v302 v303 k1_hw3 => k1_hw3

def k1_chk4 (v247 : IVec S16 32) (v307 : IVec S16 32) (v308 : IVec S16 32) : Prop :=
  (∀ a x, ((![v307, v247, v308] : Fin 3 → IVec S16 32) a x).toNat < S2x1024x16.size a)
theorem k1_idx4_inb : ∀ (v247 : IVec S16 32) (v307 : IVec S16 32) (v308 : IVec S16 32) (k1_hw4 : k1_chk4 v247 v307 v308), ∀ a x, ((![v307, v247, v308] : Fin 3 → IVec S16 32) a x).toNat < S2x1024x16.size a := fun v247 v307 v308 k1_hw4 => k1_hw4

def k1_chk5 (v247 : IVec S16 32) (v312 : IVec S16 32) (v313 : IVec S16 32) : Prop :=
  (∀ a x, ((![v312, v247, v313] : Fin 3 → IVec S16 32) a x).toNat < S2x1024x16.size a)
theorem k1_idx5_inb : ∀ (v247 : IVec S16 32) (v312 : IVec S16 32) (v313 : IVec S16 32) (k1_hw5 : k1_chk5 v247 v312 v313), ∀ a x, ((![v312, v247, v313] : Fin 3 → IVec S16 32) a x).toNat < S2x1024x16.size a := fun v247 v312 v313 k1_hw5 => k1_hw5

def k1_chk6 (v247 : IVec S16 32) (v317 : IVec S16 32) (v318 : IVec S16 32) : Prop :=
  (∀ a x, ((![v317, v247, v318] : Fin 3 → IVec S16 32) a x).toNat < S2x1024x16.size a)
theorem k1_idx6_inb : ∀ (v247 : IVec S16 32) (v317 : IVec S16 32) (v318 : IVec S16 32) (k1_hw6 : k1_chk6 v247 v317 v318), ∀ a x, ((![v317, v247, v318] : Fin 3 → IVec S16 32) a x).toNat < S2x1024x16.size a := fun v247 v317 v318 k1_hw6 => k1_hw6

def k1_chk7 (v247 : IVec S16 32) (v322 : IVec S16 32) (v323 : IVec S16 32) : Prop :=
  (∀ a x, ((![v322, v247, v323] : Fin 3 → IVec S16 32) a x).toNat < S2x1024x16.size a)
theorem k1_idx7_inb : ∀ (v247 : IVec S16 32) (v322 : IVec S16 32) (v323 : IVec S16 32) (k1_hw7 : k1_chk7 v247 v322 v323), ∀ a x, ((![v322, v247, v323] : Fin 3 → IVec S16 32) a x).toNat < S2x1024x16.size a := fun v247 v322 v323 k1_hw7 => k1_hw7

def k1_chk8 (v247 : IVec S16 32) (v327 : IVec S16 32) (v328 : IVec S16 32) : Prop :=
  (∀ a x, ((![v327, v247, v328] : Fin 3 → IVec S16 32) a x).toNat < S2x1024x16.size a)
theorem k1_idx8_inb : ∀ (v247 : IVec S16 32) (v327 : IVec S16 32) (v328 : IVec S16 32) (k1_hw8 : k1_chk8 v247 v327 v328), ∀ a x, ((![v327, v247, v328] : Fin 3 → IVec S16 32) a x).toNat < S2x1024x16.size a := fun v247 v327 v328 k1_hw8 => k1_hw8

def k1_chk9 (v247 : IVec S16 32) (v332 : IVec S16 32) (v333 : IVec S16 32) : Prop :=
  (∀ a x, ((![v332, v247, v333] : Fin 3 → IVec S16 32) a x).toNat < S2x1024x16.size a)
theorem k1_idx9_inb : ∀ (v247 : IVec S16 32) (v332 : IVec S16 32) (v333 : IVec S16 32) (k1_hw9 : k1_chk9 v247 v332 v333), ∀ a x, ((![v332, v247, v333] : Fin 3 → IVec S16 32) a x).toNat < S2x1024x16.size a := fun v247 v332 v333 k1_hw9 => k1_hw9

def k1_chk10 (v247 : IVec S16 32) (v337 : IVec S16 32) (v338 : IVec S16 32) : Prop :=
  (∀ a x, ((![v337, v247, v338] : Fin 3 → IVec S16 32) a x).toNat < S2x1024x16.size a)
theorem k1_idx10_inb : ∀ (v247 : IVec S16 32) (v337 : IVec S16 32) (v338 : IVec S16 32) (k1_hw10 : k1_chk10 v247 v337 v338), ∀ a x, ((![v337, v247, v338] : Fin 3 → IVec S16 32) a x).toNat < S2x1024x16.size a := fun v247 v337 v338 k1_hw10 => k1_hw10
def k1_off13 (k1_t3 : Fin k1_t3_loop.trips) : Fin 2 → Nat :=
  let c0_i32_329 : BitVec 32 := 0#32
  let v343 : Index := Scalar.indexCast c0_i32_329
  let c0_i32_295 : BitVec 32 := 0#32
  let c0_i32_285 : BitVec 32 := 0#32
  let c1_i32_287 : BitVec 32 := 1#32
  let arg22 : BitVec 32 := Scf.iv c0_i32_285 c1_i32_287 k1_t3
  let c1_i32_294 : BitVec 32 := 1#32
  let v241 : BitVec 32 := Scalar.muli arg22 c1_i32_294
  let v242 : BitVec 32 := Scalar.addi c0_i32_295 v241
  let c16_i32 : BitVec 32 := 16#32
  let v243 : BitVec 32 := Scalar.muli v242 c16_i32
  let v344 : Index := Scalar.indexCast v243
  ![0, v344.toNat]

def k1_chk11 (v247 : IVec S16 32) (v346 : IVec S16 32) (v347 : IVec S16 32) : Prop :=
  (∀ a x, ((![v346, v247, v347] : Fin 3 → IVec S16 32) a x).toNat < S2x1024x16.size a)
theorem k1_idx11_inb : ∀ (v247 : IVec S16 32) (v346 : IVec S16 32) (v347 : IVec S16 32) (k1_hw11 : k1_chk11 v247 v346 v347), ∀ a x, ((![v346, v247, v347] : Fin 3 → IVec S16 32) a x).toNat < S2x1024x16.size a := fun v247 v346 v347 k1_hw11 => k1_hw11

def k1_chk12 (v247 : IVec S16 32) (v350 : IVec S16 32) (v351 : IVec S16 32) : Prop :=
  (∀ a x, ((![v350, v247, v351] : Fin 3 → IVec S16 32) a x).toNat < S2x1024x16.size a)
theorem k1_idx12_inb : ∀ (v247 : IVec S16 32) (v350 : IVec S16 32) (v351 : IVec S16 32) (k1_hw12 : k1_chk12 v247 v350 v351), ∀ a x, ((![v350, v247, v351] : Fin 3 → IVec S16 32) a x).toNat < S2x1024x16.size a := fun v247 v350 v351 k1_hw12 => k1_hw12

def k1_chk13 (v247 : IVec S16 32) (v355 : IVec S16 32) (v356 : IVec S16 32) : Prop :=
  (∀ a x, ((![v355, v247, v356] : Fin 3 → IVec S16 32) a x).toNat < S2x1024x16.size a)
theorem k1_idx13_inb : ∀ (v247 : IVec S16 32) (v355 : IVec S16 32) (v356 : IVec S16 32) (k1_hw13 : k1_chk13 v247 v355 v356), ∀ a x, ((![v355, v247, v356] : Fin 3 → IVec S16 32) a x).toNat < S2x1024x16.size a := fun v247 v355 v356 k1_hw13 => k1_hw13

def k1_chk14 (v247 : IVec S16 32) (v360 : IVec S16 32) (v361 : IVec S16 32) : Prop :=
  (∀ a x, ((![v360, v247, v361] : Fin 3 → IVec S16 32) a x).toNat < S2x1024x16.size a)
theorem k1_idx14_inb : ∀ (v247 : IVec S16 32) (v360 : IVec S16 32) (v361 : IVec S16 32) (k1_hw14 : k1_chk14 v247 v360 v361), ∀ a x, ((![v360, v247, v361] : Fin 3 → IVec S16 32) a x).toNat < S2x1024x16.size a := fun v247 v360 v361 k1_hw14 => k1_hw14

def k1_chk15 (v247 : IVec S16 32) (v365 : IVec S16 32) (v366 : IVec S16 32) : Prop :=
  (∀ a x, ((![v365, v247, v366] : Fin 3 → IVec S16 32) a x).toNat < S2x1024x16.size a)
theorem k1_idx15_inb : ∀ (v247 : IVec S16 32) (v365 : IVec S16 32) (v366 : IVec S16 32) (k1_hw15 : k1_chk15 v247 v365 v366), ∀ a x, ((![v365, v247, v366] : Fin 3 → IVec S16 32) a x).toNat < S2x1024x16.size a := fun v247 v365 v366 k1_hw15 => k1_hw15

def k1_chk16 (v247 : IVec S16 32) (v370 : IVec S16 32) (v371 : IVec S16 32) : Prop :=
  (∀ a x, ((![v370, v247, v371] : Fin 3 → IVec S16 32) a x).toNat < S2x1024x16.size a)
theorem k1_idx16_inb : ∀ (v247 : IVec S16 32) (v370 : IVec S16 32) (v371 : IVec S16 32) (k1_hw16 : k1_chk16 v247 v370 v371), ∀ a x, ((![v370, v247, v371] : Fin 3 → IVec S16 32) a x).toNat < S2x1024x16.size a := fun v247 v370 v371 k1_hw16 => k1_hw16

def k1_chk17 (v247 : IVec S16 32) (v375 : IVec S16 32) (v376 : IVec S16 32) : Prop :=
  (∀ a x, ((![v375, v247, v376] : Fin 3 → IVec S16 32) a x).toNat < S2x1024x16.size a)
theorem k1_idx17_inb : ∀ (v247 : IVec S16 32) (v375 : IVec S16 32) (v376 : IVec S16 32) (k1_hw17 : k1_chk17 v247 v375 v376), ∀ a x, ((![v375, v247, v376] : Fin 3 → IVec S16 32) a x).toNat < S2x1024x16.size a := fun v247 v375 v376 k1_hw17 => k1_hw17

def k1_chk18 (v247 : IVec S16 32) (v380 : IVec S16 32) (v381 : IVec S16 32) : Prop :=
  (∀ a x, ((![v380, v247, v381] : Fin 3 → IVec S16 32) a x).toNat < S2x1024x16.size a)
theorem k1_idx18_inb : ∀ (v247 : IVec S16 32) (v380 : IVec S16 32) (v381 : IVec S16 32) (k1_hw18 : k1_chk18 v247 v380 v381), ∀ a x, ((![v380, v247, v381] : Fin 3 → IVec S16 32) a x).toNat < S2x1024x16.size a := fun v247 v380 v381 k1_hw18 => k1_hw18

def k1_chk19 (v247 : IVec S16 32) (v385 : IVec S16 32) (v386 : IVec S16 32) : Prop :=
  (∀ a x, ((![v385, v247, v386] : Fin 3 → IVec S16 32) a x).toNat < S2x1024x16.size a)
theorem k1_idx19_inb : ∀ (v247 : IVec S16 32) (v385 : IVec S16 32) (v386 : IVec S16 32) (k1_hw19 : k1_chk19 v247 v385 v386), ∀ a x, ((![v385, v247, v386] : Fin 3 → IVec S16 32) a x).toNat < S2x1024x16.size a := fun v247 v385 v386 k1_hw19 => k1_hw19
def k1_off14 (k1_t3 : Fin k1_t3_loop.trips) : Fin 2 → Nat :=
  let c1_i32_342 : BitVec 32 := 1#32
  let v391 : Index := Scalar.indexCast c1_i32_342
  let c0_i32_295 : BitVec 32 := 0#32
  let c0_i32_285 : BitVec 32 := 0#32
  let c1_i32_287 : BitVec 32 := 1#32
  let arg22 : BitVec 32 := Scf.iv c0_i32_285 c1_i32_287 k1_t3
  let c1_i32_294 : BitVec 32 := 1#32
  let v241 : BitVec 32 := Scalar.muli arg22 c1_i32_294
  let v242 : BitVec 32 := Scalar.addi c0_i32_295 v241
  let c16_i32 : BitVec 32 := 16#32
  let v243 : BitVec 32 := Scalar.muli v242 c16_i32
  let v392 : Index := Scalar.indexCast v243
  ![1, v392.toNat]

def k1_chk20 (v247 : IVec S16 32) (v394 : IVec S16 32) (v395 : IVec S16 32) : Prop :=
  (∀ a x, ((![v394, v247, v395] : Fin 3 → IVec S16 32) a x).toNat < S2x1024x16.size a)
theorem k1_idx20_inb : ∀ (v247 : IVec S16 32) (v394 : IVec S16 32) (v395 : IVec S16 32) (k1_hw20 : k1_chk20 v247 v394 v395), ∀ a x, ((![v394, v247, v395] : Fin 3 → IVec S16 32) a x).toNat < S2x1024x16.size a := fun v247 v394 v395 k1_hw20 => k1_hw20

def k1_chk21 (v247 : IVec S16 32) (v398 : IVec S16 32) (v399 : IVec S16 32) : Prop :=
  (∀ a x, ((![v398, v247, v399] : Fin 3 → IVec S16 32) a x).toNat < S2x1024x16.size a)
theorem k1_idx21_inb : ∀ (v247 : IVec S16 32) (v398 : IVec S16 32) (v399 : IVec S16 32) (k1_hw21 : k1_chk21 v247 v398 v399), ∀ a x, ((![v398, v247, v399] : Fin 3 → IVec S16 32) a x).toNat < S2x1024x16.size a := fun v247 v398 v399 k1_hw21 => k1_hw21

def k1_chk22 (v247 : IVec S16 32) (v403 : IVec S16 32) (v404 : IVec S16 32) : Prop :=
  (∀ a x, ((![v403, v247, v404] : Fin 3 → IVec S16 32) a x).toNat < S2x1024x16.size a)
theorem k1_idx22_inb : ∀ (v247 : IVec S16 32) (v403 : IVec S16 32) (v404 : IVec S16 32) (k1_hw22 : k1_chk22 v247 v403 v404), ∀ a x, ((![v403, v247, v404] : Fin 3 → IVec S16 32) a x).toNat < S2x1024x16.size a := fun v247 v403 v404 k1_hw22 => k1_hw22

def k1_chk23 (v247 : IVec S16 32) (v408 : IVec S16 32) (v409 : IVec S16 32) : Prop :=
  (∀ a x, ((![v408, v247, v409] : Fin 3 → IVec S16 32) a x).toNat < S2x1024x16.size a)
theorem k1_idx23_inb : ∀ (v247 : IVec S16 32) (v408 : IVec S16 32) (v409 : IVec S16 32) (k1_hw23 : k1_chk23 v247 v408 v409), ∀ a x, ((![v408, v247, v409] : Fin 3 → IVec S16 32) a x).toNat < S2x1024x16.size a := fun v247 v408 v409 k1_hw23 => k1_hw23

def k1_chk24 (v247 : IVec S16 32) (v413 : IVec S16 32) (v414 : IVec S16 32) : Prop :=
  (∀ a x, ((![v413, v247, v414] : Fin 3 → IVec S16 32) a x).toNat < S2x1024x16.size a)
theorem k1_idx24_inb : ∀ (v247 : IVec S16 32) (v413 : IVec S16 32) (v414 : IVec S16 32) (k1_hw24 : k1_chk24 v247 v413 v414), ∀ a x, ((![v413, v247, v414] : Fin 3 → IVec S16 32) a x).toNat < S2x1024x16.size a := fun v247 v413 v414 k1_hw24 => k1_hw24

def k1_chk25 (v247 : IVec S16 32) (v418 : IVec S16 32) (v419 : IVec S16 32) : Prop :=
  (∀ a x, ((![v418, v247, v419] : Fin 3 → IVec S16 32) a x).toNat < S2x1024x16.size a)
theorem k1_idx25_inb : ∀ (v247 : IVec S16 32) (v418 : IVec S16 32) (v419 : IVec S16 32) (k1_hw25 : k1_chk25 v247 v418 v419), ∀ a x, ((![v418, v247, v419] : Fin 3 → IVec S16 32) a x).toNat < S2x1024x16.size a := fun v247 v418 v419 k1_hw25 => k1_hw25

def k1_chk26 (v247 : IVec S16 32) (v423 : IVec S16 32) (v424 : IVec S16 32) : Prop :=
  (∀ a x, ((![v423, v247, v424] : Fin 3 → IVec S16 32) a x).toNat < S2x1024x16.size a)
theorem k1_idx26_inb : ∀ (v247 : IVec S16 32) (v423 : IVec S16 32) (v424 : IVec S16 32) (k1_hw26 : k1_chk26 v247 v423 v424), ∀ a x, ((![v423, v247, v424] : Fin 3 → IVec S16 32) a x).toNat < S2x1024x16.size a := fun v247 v423 v424 k1_hw26 => k1_hw26

def k1_chk27 (v247 : IVec S16 32) (v428 : IVec S16 32) (v429 : IVec S16 32) : Prop :=
  (∀ a x, ((![v428, v247, v429] : Fin 3 → IVec S16 32) a x).toNat < S2x1024x16.size a)
theorem k1_idx27_inb : ∀ (v247 : IVec S16 32) (v428 : IVec S16 32) (v429 : IVec S16 32) (k1_hw27 : k1_chk27 v247 v428 v429), ∀ a x, ((![v428, v247, v429] : Fin 3 → IVec S16 32) a x).toNat < S2x1024x16.size a := fun v247 v428 v429 k1_hw27 => k1_hw27

def k1_chk28 (v247 : IVec S16 32) (v433 : IVec S16 32) (v434 : IVec S16 32) : Prop :=
  (∀ a x, ((![v433, v247, v434] : Fin 3 → IVec S16 32) a x).toNat < S2x1024x16.size a)
theorem k1_idx28_inb : ∀ (v247 : IVec S16 32) (v433 : IVec S16 32) (v434 : IVec S16 32) (k1_hw28 : k1_chk28 v247 v433 v434), ∀ a x, ((![v433, v247, v434] : Fin 3 → IVec S16 32) a x).toNat < S2x1024x16.size a := fun v247 v433 v434 k1_hw28 => k1_hw28
def k1_off15 (k1_t3 : Fin k1_t3_loop.trips) : Fin 2 → Nat :=
  let c2_i32_361 : BitVec 32 := 2#32
  let v439 : Index := Scalar.indexCast c2_i32_361
  let c0_i32_295 : BitVec 32 := 0#32
  let c0_i32_285 : BitVec 32 := 0#32
  let c1_i32_287 : BitVec 32 := 1#32
  let arg22 : BitVec 32 := Scf.iv c0_i32_285 c1_i32_287 k1_t3
  let c1_i32_294 : BitVec 32 := 1#32
  let v241 : BitVec 32 := Scalar.muli arg22 c1_i32_294
  let v242 : BitVec 32 := Scalar.addi c0_i32_295 v241
  let c16_i32 : BitVec 32 := 16#32
  let v243 : BitVec 32 := Scalar.muli v242 c16_i32
  let v440 : Index := Scalar.indexCast v243
  ![2, v440.toNat]
abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S1048576x3 : Shape := ⟨2, ![1048576, 3]⟩
abbrev S128x128x128x28 : Shape := ⟨4, ![128, 128, 128, 28]⟩
abbrev S1048576x1 : Shape := ⟨2, ![1048576, 1]⟩
abbrev S1048576 : Shape := ⟨1, ![1048576]⟩
abbrev S_ : Shape := ⟨0, ![]⟩
abbrev S1048576x28 : Shape := ⟨2, ![1048576, 28]⟩
abbrev S1048576x27 : Shape := ⟨2, ![1048576, 27]⟩
abbrev S1048576x3x9 : Shape := ⟨3, ![1048576, 3, 9]⟩
abbrev S1048576x3x1 : Shape := ⟨3, ![1048576, 3, 1]⟩

abbrev nBuf : Space → Nat
  | .hbm => 173
  | .vmem => 0
  | .smem => 0
  | _ => 0

abbrev hbmTy0_0 (i : Nat) : BufTy := match i % 128 with
  | 0 => ⟨S1048576x3, .f32⟩
  | 1 => ⟨S1048576x3, .f32⟩
  | 2 => ⟨S128x128x128x28, .f32⟩
  | 3 => ⟨S1048576x1, .f32⟩
  | 4 => ⟨S1048576, .f32⟩
  | 5 => ⟨S1048576, .f32⟩
  | 6 => ⟨S_, .f32⟩
  | 7 => ⟨S1048576, .f32⟩
  | 8 => ⟨S1048576, .i1⟩
  | 9 => ⟨S1048576x1, .f32⟩
  | 10 => ⟨S1048576, .f32⟩
  | 11 => ⟨S1048576, .f32⟩
  | 12 => ⟨S_, .f32⟩
  | 13 => ⟨S1048576, .f32⟩
  | 14 => ⟨S1048576, .i1⟩
  | 15 => ⟨S1048576, .i1⟩
  | 16 => ⟨S1048576x1, .f32⟩
  | 17 => ⟨S1048576, .f32⟩
  | 18 => ⟨S1048576, .f32⟩
  | 19 => ⟨S_, .f32⟩
  | 20 => ⟨S1048576, .f32⟩
  | 21 => ⟨S1048576, .i1⟩
  | 22 => ⟨S1048576, .i1⟩
  | 23 => ⟨S_, .f32⟩
  | 24 => ⟨S1048576x3, .f32⟩
  | 25 => ⟨S1048576x3, .f32⟩
  | 26 => ⟨S_, .f32⟩
  | 27 => ⟨S1048576x3, .f32⟩
  | 28 => ⟨S1048576x3, .f32⟩
  | 29 => ⟨S1048576x3, .i32⟩
  | 30 => ⟨S_, .i32⟩
  | 31 => ⟨S_, .i32⟩
  | 32 => ⟨S_, .i32⟩
  | 33 => ⟨S1048576x3, .i32⟩
  | 34 => ⟨S1048576x3, .i32⟩
  | 35 => ⟨S_, .i32⟩
  | 36 => ⟨S1048576x3, .i32⟩
  | 37 => ⟨S1048576x3, .i32⟩
  | 38 => ⟨S1048576x1, .i32⟩
  | 39 => ⟨S1048576, .i32⟩
  | 40 => ⟨S1048576x1, .i32⟩
  | 41 => ⟨S1048576, .i32⟩
  | 42 => ⟨S1048576x1, .i32⟩
  | 43 => ⟨S1048576, .i32⟩
  | 44 => ⟨S_, .i32⟩
  | 45 => ⟨S1048576, .i32⟩
  | 46 => ⟨S1048576, .i1⟩
  | 47 => ⟨S_, .i32⟩
  | 48 => ⟨S1048576, .i32⟩
  | 49 => ⟨S1048576, .i32⟩
  | 50 => ⟨S1048576, .i32⟩
  | 51 => ⟨S_, .i32⟩
  | 52 => ⟨S1048576, .i32⟩
  | 53 => ⟨S1048576, .i1⟩
  | 54 => ⟨S_, .i32⟩
  | 55 => ⟨S1048576, .i32⟩
  | 56 => ⟨S1048576, .i32⟩
  | 57 => ⟨S1048576, .i32⟩
  | 58 => ⟨S_, .i32⟩
  | 59 => ⟨S1048576, .i32⟩
  | 60 => ⟨S1048576, .i1⟩
  | 61 => ⟨S_, .i32⟩
  | 62 => ⟨S1048576, .i32⟩
  | 63 => ⟨S1048576, .i32⟩
  | 64 => ⟨S1048576, .i32⟩
  | 65 => ⟨S1048576x1, .i32⟩
  | 66 => ⟨S1048576x1, .i32⟩
  | 67 => ⟨S1048576x1, .i32⟩
  | 68 => ⟨S1048576x3, .i32⟩
  | 69 => ⟨S1048576x28, .f32⟩
  | 70 => ⟨S1048576x1, .f32⟩
  | 71 => ⟨S1048576, .f32⟩
  | 72 => ⟨S_, .f32⟩
  | 73 => ⟨S1048576, .f32⟩
  | 74 => ⟨S1048576, .f32⟩
  | 75 => ⟨S_, .f32⟩
  | 76 => ⟨S_, .f32⟩
  | 77 => ⟨S1048576, .f32⟩
  | 78 => ⟨S1048576, .f32⟩
  | 79 => ⟨S1048576x27, .f32⟩
  | 80 => ⟨S1048576x3x9, .f32⟩
  | 81 => ⟨S1048576x1, .i1⟩
  | 82 => ⟨S1048576x1, .f32⟩
  | 83 => ⟨S1048576x1, .f32⟩
  | 84 => ⟨S1048576x1, .f32⟩
  | 85 => ⟨S1048576x3x1, .f32⟩
  | 86 => ⟨S1048576x3, .f32⟩
  | 87 => ⟨S_, .f32⟩
  | 88 => ⟨S1048576x3, .f32⟩
  | 89 => ⟨S1048576x3, .f32⟩
  | 90 => ⟨S_, .f32⟩
  | 91 => ⟨S1048576x1, .f32⟩
  | 92 => ⟨S1048576x1, .f32⟩
  | 93 => ⟨S1048576x3x1, .f32⟩
  | 94 => ⟨S1048576x3, .f32⟩
  | 95 => ⟨S1048576x3, .f32⟩
  | 96 => ⟨S1048576x3, .f32⟩
  | 97 => ⟨S1048576x3, .f32⟩
  | 98 => ⟨S_, .f32⟩
  | 99 => ⟨S1048576x1, .f32⟩
  | 100 => ⟨S1048576x1, .f32⟩
  | 101 => ⟨S1048576x3x1, .f32⟩
  | 102 => ⟨S1048576x3, .f32⟩
  | 103 => ⟨S1048576x3, .f32⟩
  | 104 => ⟨S1048576x3, .f32⟩
  | 105 => ⟨S1048576x3, .f32⟩
  | 106 => ⟨S_, .f32⟩
  | 107 => ⟨S1048576x1, .f32⟩
  | 108 => ⟨S1048576x1, .f32⟩
  | 109 => ⟨S1048576x3x1, .f32⟩
  | 110 => ⟨S1048576x3, .f32⟩
  | 111 => ⟨S1048576x3, .f32⟩
  | 112 => ⟨S1048576x3, .f32⟩
  | 113 => ⟨S1048576x3, .f32⟩
  | 114 => ⟨S_, .f32⟩
  | 115 => ⟨S1048576x1, .f32⟩
  | 116 => ⟨S1048576x1, .f32⟩
  | 117 => ⟨S1048576x1, .f32⟩
  | 118 => ⟨S1048576x3x1, .f32⟩
  | 119 => ⟨S1048576x3, .f32⟩
  | 120 => ⟨S1048576x3, .f32⟩
  | 121 => ⟨S1048576x3, .f32⟩
  | 122 => ⟨S_, .f32⟩
  | 123 => ⟨S1048576x1, .f32⟩
  | 124 => ⟨S1048576x1, .f32⟩
  | 125 => ⟨S1048576x1, .f32⟩
  | 126 => ⟨S1048576x3x1, .f32⟩
  | 127 => ⟨S1048576x3, .f32⟩
  | _ => ⟨S1048576x3, .f32⟩

abbrev hbmTy0_1 (i : Nat) : BufTy := match i % 128 with
  | 0 => ⟨S1048576x3, .f32⟩
  | 1 => ⟨S1048576x3, .f32⟩
  | 2 => ⟨S1048576x3, .f32⟩
  | 3 => ⟨S_, .f32⟩
  | 4 => ⟨S1048576x1, .f32⟩
  | 5 => ⟨S1048576x1, .f32⟩
  | 6 => ⟨S1048576x1, .f32⟩
  | 7 => ⟨S1048576x1, .f32⟩
  | 8 => ⟨S1048576x1, .f32⟩
  | 9 => ⟨S1048576x1, .f32⟩
  | 10 => ⟨S1048576x1, .f32⟩
  | 11 => ⟨S_, .f32⟩
  | 12 => ⟨S1048576x1, .f32⟩
  | 13 => ⟨S1048576x1, .f32⟩
  | 14 => ⟨S1048576x3x1, .f32⟩
  | 15 => ⟨S1048576x3, .f32⟩
  | 16 => ⟨S1048576x3, .f32⟩
  | 17 => ⟨S1048576x3, .f32⟩
  | 18 => ⟨S1048576x3, .f32⟩
  | 19 => ⟨S_, .f32⟩
  | 20 => ⟨S1048576x1, .f32⟩
  | 21 => ⟨S1048576x1, .f32⟩
  | 22 => ⟨S1048576x1, .f32⟩
  | 23 => ⟨S1048576x3x1, .f32⟩
  | 24 => ⟨S1048576x3, .f32⟩
  | 25 => ⟨S1048576x3, .f32⟩
  | 26 => ⟨S1048576x3, .f32⟩
  | 27 => ⟨S1048576x3, .f32⟩
  | 28 => ⟨S1048576x1, .f32⟩
  | 29 => ⟨S1048576x1, .f32⟩
  | 30 => ⟨S1048576x1, .f32⟩
  | 31 => ⟨S_, .f32⟩
  | 32 => ⟨S1048576x1, .f32⟩
  | 33 => ⟨S1048576x1, .f32⟩
  | 34 => ⟨S1048576x3x1, .f32⟩
  | 35 => ⟨S1048576x3, .f32⟩
  | 36 => ⟨S1048576x3, .f32⟩
  | 37 => ⟨S1048576x3, .f32⟩
  | 38 => ⟨S1048576x3, .f32⟩
  | 39 => ⟨S1048576x3, .f32⟩
  | 40 => ⟨S_, .f32⟩
  | 41 => ⟨S_, .f32⟩
  | 42 => ⟨S1048576x3, .i1⟩
  | 43 => ⟨S1048576x3, .f32⟩
  | 44 => ⟨S1048576x3, .f32⟩
  | _ => ⟨S1048576x3, .f32⟩

abbrev hbmTy (i : Nat) : BufTy := match i / 128 with
  | 0 => hbmTy0_0 i
  | 1 => hbmTy0_1 i
  | _ => ⟨S1048576x3, .f32⟩

abbrev bufTy : (tb : Table) → Fin (tcTables nBuf tb) → BufTy
  | .hbm, ⟨i, _⟩ => hbmTy i
  | _, _ => ⟨S1048576x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_c : Ref sig .tc := ⟨.hbm, 30, rfl⟩
abbrev main_c_4 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_c_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_c_9 : Ref sig .tc := ⟨.hbm, 58, rfl⟩
abbrev main_v39 : Ref sig .tc := ⟨.hbm, 59, rfl⟩
abbrev main_v40 : Ref sig .tc := ⟨.hbm, 60, rfl⟩
abbrev main_c_10 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_call1_cst : Ref sig .tc := ⟨.hbm, 72, rfl⟩
abbrev main_call1_v0 : Ref sig .tc := ⟨.hbm, 73, rfl⟩
abbrev main_v51 : Ref sig .tc := ⟨.hbm, 74, rfl⟩
abbrev main_cst_11 : Ref sig .tc := ⟨.hbm, 75, rfl⟩
abbrev main_call2_v0 : Ref sig .tc := ⟨.hbm, 76, rfl⟩
abbrev main_call2_v1 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_12 : Ref sig .tc := ⟨.hbm, 87, rfl⟩
abbrev main_v61 : Ref sig .tc := ⟨.hbm, 88, rfl⟩
abbrev main_v62 : Ref sig .tc := ⟨.hbm, 89, rfl⟩
abbrev main_cst_13 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_cst_14 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_cst_15 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_cst_16 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_cst_17 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_cst_18 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_cst_19 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_cst_20 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_cst_21 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_cst_22 : Ref sig .tc := ⟨.hbm, 168, rfl⟩
abbrev main_call3_v0 : Ref sig .tc := ⟨.hbm, 169, rfl⟩
abbrev main_call3_v1 : Ref sig .tc := ⟨.hbm, 170, rfl⟩
abbrev main_call3_v2 : Ref sig .tc := ⟨.hbm, 171, rfl⟩
abbrev main_v132 : Ref sig .tc := ⟨.hbm, 172, rfl⟩

abbrev nD : Nat := 1
abbrev τ : Topo := Topo.v7x

variable {F : FTy → Type} [FloatOps F]
-- ==== Proof.Spec.lean ====
/-
  What the two SparseCore calls compute, one number at a time, over any float values.

  The volume's strips `G` (3584 rows of 16384: row `28 * plane + channel`, column the voxel within its plane) are repacked
  into a table of two 16-wide rows per voxel (`RowOK`). A sample at `(x, y, z)` looks up one voxel (`voxW`), masks by
  `|x|, |y|, |z| < 1.5` (`mk`), and combines the voxel's 28 channels with the direction's nine coefficients (`coef`).
-/
module

public import proofs.«01_k».proof.Proof.Gen.KernelIdeal

@[expose] public section

noncomputable section

namespace Cert.Proof.Spec

open Cert.KernelIdeal Idealize.ShloMosaic

variable {F : FTy → Type} [FloatOps F]

/-- The float a 32-bit word stands for. -/
def wd (b : BitVec 32) : F .f32 := Scalar.ofBits .f32 b

/-- The voxel coordinate of a sample coordinate: `x / (3/128) + 64`, cut to `0 .. 127`. -/
def ix (x : F .f32) : BitVec 32 :=
  IntOp.minsi 127#32 (IntOp.maxsi 0#32 (FloatOps.fptosi 32 (FloatOps.addf (FloatOps.divf x (wd 0x3CC00000#32)) (wd 0x42800000#32))))

/-- The voxel's number, as the kernel computes it in words. -/
def voxW (x y z : F .f32) : BitVec 32 :=
  IntOp.addi (IntOp.addi (IntOp.muli (ix x) 16384#32) (IntOp.muli (ix y) 128#32)) (ix z)

/-- The sample lies strictly within the cube of half side 1.5. -/
def inside (x y z : F .f32) : BitVec 1 :=
  IntOp.andi (IntOp.andi (FloatOps.cmpf .olt (FloatOps.absf x) (wd 0x3FC00000#32)) (FloatOps.cmpf .olt (FloatOps.absf y) (wd 0x3FC00000#32)))
    (FloatOps.cmpf .olt (FloatOps.absf z) (wd 0x3FC00000#32))

/-- The mask as a float: one inside, zero outside. -/
def mk (x y z : F .f32) : F .f32 := if inside x y z = 1 then wd 0x3F800000#32 else wd 0x00000000#32

/-- The direction's nine coefficients. -/
def coef (x y z : F .f32) : Fin 9 → F .f32
  | 0 => wd 0x3E906EC1#32
  | 1 => FloatOps.mulf (wd 0xBEFA2A2C#32) y
  | 2 => FloatOps.mulf (wd 0x3EFA2A2C#32) z
  | 3 => FloatOps.mulf (wd 0xBEFA2A2C#32) x
  | 4 => FloatOps.mulf (wd 0x3F8BD89D#32) (FloatOps.mulf x y)
  | 5 => FloatOps.mulf (wd 0xBF8BD89D#32) (FloatOps.mulf y z)
  | 6 => FloatOps.mulf (wd 0x3EA17B0F#32) (FloatOps.subf (FloatOps.subf (FloatOps.mulf (FloatOps.mulf (wd 0x40000000#32) z) z) (FloatOps.mulf x x)) (FloatOps.mulf y y))
  | 7 => FloatOps.mulf (wd 0xBF8BD89D#32) (FloatOps.mulf x z)
  | 8 => FloatOps.mulf (wd 0x3F0BD89D#32) (FloatOps.subf (FloatOps.mulf x x) (FloatOps.mulf y y))

/-- The nine products of coefficients and channels summed from the left. -/
def nine (k : Fin 9 → F .f32) (v : ℕ → F .f32) : F .f32 :=
  FloatOps.addf (FloatOps.addf (FloatOps.addf (FloatOps.addf (FloatOps.addf (FloatOps.addf (FloatOps.addf (FloatOps.addf
    (FloatOps.mulf (k 0) (v 0)) (FloatOps.mulf (k 1) (v 1))) (FloatOps.mulf (k 2) (v 2))) (FloatOps.mulf (k 3) (v 3)))
    (FloatOps.mulf (k 4) (v 4))) (FloatOps.mulf (k 5) (v 5))) (FloatOps.mulf (k 6) (v 6))) (FloatOps.mulf (k 7) (v 7))) (FloatOps.mulf (k 8) (v 8))

/-- Result `j` of a sample from its mask `m`, its coefficients and its voxel's channels: three colours, then the density. -/
def res (m : F .f32) (k : Fin 9 → F .f32) (ch : ℕ → F .f32) : Fin 4 → F .f32
  | 0 => FloatOps.mulf m (nine k fun j => ch (1 + j))
  | 1 => FloatOps.mulf m (nine k fun j => ch (10 + j))
  | 2 => FloatOps.mulf m (nine k fun j => ch (19 + j))
  | 3 => FloatOps.mulf m (FloatOps.maximumf (ch 0) (wd 0x00000000#32))

/-- Channel `c` of voxel `v` in the strips. -/
def chan (G : S3584x16384.Idx → F .f32) (v c : ℕ) : F .f32 :=
  G fun | 0 => ⟨(28 * (v / 16384) + c) % 3584, Nat.mod_lt _ (by decide)⟩ | 1 => ⟨v % 16384, Nat.mod_lt _ (by decide)⟩

/-- Result `j` of the sample whose six coordinates are `X`. -/
def shade (G : S3584x16384.Idx → F .f32) (X : Fin 6 → F .f32) (j : Fin 4) : F .f32 :=
  res (mk (X 0) (X 1) (X 2)) (coef (X 3) (X 4) (X 5)) (chan G (voxW (X 0) (X 1) (X 2)).toNat) j

/-- Row `r` of the table holds what it should: word `w` of row `2 v + h` is channel `16 h + w` of voxel `v`, the words past
    channel 27 holding anything. -/
def RowOK (G : S3584x16384.Idx → F .f32) (f : S4194304x16.Idx → F .f32) (r : S4194304x16.Idx) : Prop :=
  16 * ((r 0).val % 2) + (r 1).val < 28 → f r = chan G ((r 0).val / 2) (16 * ((r 0).val % 2) + (r 1).val)

end Cert.Proof.Spec

end
-- ==== Proof.Setup.lean ====
/-
  The launch of the two SparseCore calls: the program as the launch theorem sees it, the tiles' shares of the arrays, and
  what the handshakes carry.

  Tile `(c, s)` is worker `2 s + c` of 32. Call 0 gives it a share of the strips and its 131072 rows of the table and takes
  those rows back holding its voxels' channels. Call 1 gives it shares of the six columns and of the table, whose contents
  are right, and its 32768 entries of the four result columns, and takes those back at their values.
-/
module

public import Idealize.ShloMosaic.Lib.SparseCore.Quiescent
public import Idealize.ShloMosaic.Lib.SparseCore.Ops
public import Idealize.ShloMosaic.Lib.SparseCore.Stream
public import Idealize.ShloMosaic.Lib.ShareLeaves
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Spec

@[expose] public section

noncomputable section

namespace Cert.Proof.Run

open Cert.KernelIdeal Cert.KernelIdeal.Gen Cert.Proof.Spec
open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ShareLeaves (leaf pointsTo_leaves)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 2 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 2) (Elt F) ℕ UU ℕ

abbrev EH : Emb UH (MT nD τ sig (HIx 2) (Elt F) ℕ UU ℕ) := embL

/-! ## The arrays -/

abbrev stripLoc (d : Dev nD) : Loc nD τ sig := (SparseCore.T d).loc main_v1
abbrev tabLoc (d : Dev nD) : Loc nD τ sig := (SparseCore.T d).loc main_v2

abbrev inRef : Fin 6 → Ref sig .tc
  | 0 => main_v4 | 1 => main_v6 | 2 => main_v8 | 3 => main_v10 | 4 => main_v12 | 5 => main_v14
abbrev outRef : Fin 4 → Ref sig .tc
  | 0 => main_v15_0 | 1 => main_v15_1 | 2 => main_v15_2 | 3 => main_v15_3

/-- Tile `(c, s)`'s number. -/
abbrev wid (c s : ℕ) : ℕ := 2 * s + c

/-- The rows of the table that worker `w` fills. -/
def tabSet (w : ℕ) : Finset S4194304x16.Idx := Finset.univ.filter fun r => (r 0).val / 131072 = w
/-- The entries of a column that worker `w` computes. -/
def colSet (w : ℕ) : Finset S1048576.Idx := Finset.univ.filter fun r => (r 0).val / 32768 = w

theorem mem_tabSet {w : ℕ} {r : S4194304x16.Idx} : r ∈ tabSet w ↔ (r 0).val / 131072 = w := by
  unfold tabSet; rw [Finset.mem_filter]; exact ⟨fun h => h.2, fun h => ⟨Finset.mem_univ _, h⟩⟩
theorem mem_colSet {w : ℕ} {r : S1048576.Idx} : r ∈ colSet w ↔ (r 0).val / 32768 = w := by
  unfold colSet; rw [Finset.mem_filter]; exact ⟨fun h => h.2, fun h => ⟨Finset.mem_univ _, h⟩⟩

/-- Worker `w`'s share of an array that all 32 read. -/
def shr (w : ℕ) : PosShare TreeShare := leaf 5 fullShare ⟨w % 2 ^ 5, Nat.mod_lt _ (by decide)⟩

variable [FloatOps F]

/-! ## What the handshakes carry -/

variable (G : Dev nD → S3584x16384.Idx → F .f32) (X : Dev nD → Fin 6 → S1048576.Idx → F .f32)

/-- Result column `j`. -/
def outCol (d : Dev nD) (j : Fin 4) : S1048576.Idx → F .f32 := fun p => shade (G d) (fun a => X d a p) j

abbrev stripSh (d : Dev nD) (w : ℕ) : sProp 𝕄 := (stripLoc d ↦{shr w} (G d : Buf (Elt F) (stripLoc d)))
abbrev tabPart (d : Dev nD) (w : ℕ) (f : Buf (Elt F) (tabLoc d)) : sProp 𝕄 := tabLoc d ↦[(tabSet w : Finset (Idx (tabLoc d)))]{fullShare} f
abbrev tabSh (d : Dev nD) (w : ℕ) (f : Buf (Elt F) (tabLoc d)) : sProp 𝕄 := tabLoc d ↦{shr w} f

abbrev x0Loc (d : Dev nD) : Loc nD τ sig := (SparseCore.T d).loc main_v4
abbrev x1Loc (d : Dev nD) : Loc nD τ sig := (SparseCore.T d).loc main_v6
abbrev x2Loc (d : Dev nD) : Loc nD τ sig := (SparseCore.T d).loc main_v8
abbrev x3Loc (d : Dev nD) : Loc nD τ sig := (SparseCore.T d).loc main_v10
abbrev x4Loc (d : Dev nD) : Loc nD τ sig := (SparseCore.T d).loc main_v12
abbrev x5Loc (d : Dev nD) : Loc nD τ sig := (SparseCore.T d).loc main_v14
abbrev o0Loc (d : Dev nD) : Loc nD τ sig := (SparseCore.T d).loc main_v15_0
abbrev o1Loc (d : Dev nD) : Loc nD τ sig := (SparseCore.T d).loc main_v15_1
abbrev o2Loc (d : Dev nD) : Loc nD τ sig := (SparseCore.T d).loc main_v15_2
abbrev o3Loc (d : Dev nD) : Loc nD τ sig := (SparseCore.T d).loc main_v15_3

/-- Worker `w`'s shares of the six columns. -/
abbrev colsSh (d : Dev nD) (w : ℕ) : sProp 𝕄 :=
  iprop((x0Loc d ↦{shr w} (X d 0 : Buf (Elt F) (x0Loc d))) ∗ (x1Loc d ↦{shr w} (X d 1 : Buf (Elt F) (x1Loc d)))
    ∗ (x2Loc d ↦{shr w} (X d 2 : Buf (Elt F) (x2Loc d))) ∗ (x3Loc d ↦{shr w} (X d 3 : Buf (Elt F) (x3Loc d)))
    ∗ (x4Loc d ↦{shr w} (X d 4 : Buf (Elt F) (x4Loc d))) ∗ (x5Loc d ↦{shr w} (X d 5 : Buf (Elt F) (x5Loc d))))

/-- Worker `w`'s entries of the four result columns, at `f`. -/
abbrev outsPart (d : Dev nD) (w : ℕ) (f : Fin 4 → S1048576.Idx → F .f32) : sProp 𝕄 :=
  iprop((o0Loc d ↦[(colSet w : Finset (Idx (o0Loc d)))]{fullShare} (f 0 : Buf (Elt F) (o0Loc d)))
    ∗ (o1Loc d ↦[(colSet w : Finset (Idx (o1Loc d)))]{fullShare} (f 1 : Buf (Elt F) (o1Loc d)))
    ∗ (o2Loc d ↦[(colSet w : Finset (Idx (o2Loc d)))]{fullShare} (f 2 : Buf (Elt F) (o2Loc d)))
    ∗ (o3Loc d ↦[(colSet w : Finset (Idx (o3Loc d)))]{fullShare} (f 3 : Buf (Elt F) (o3Loc d))))

abbrev go0 (d : Dev nD) (w : ℕ) : sProp 𝕄 := iprop(stripSh G d w ∗ ∃ f, tabPart d w f)
abbrev td0 (d : Dev nD) (w : ℕ) : sProp 𝕄 :=
  iprop(∃ f : S4194304x16.Idx → F .f32, ⌜∀ r ∈ tabSet w, RowOK (G d) f r⌝ ∗ tabPart d w f)
abbrev go1 (d : Dev nD) (w : ℕ) : sProp 𝕄 :=
  iprop(colsSh X d w ∗ (∃ f : S4194304x16.Idx → F .f32, ⌜∀ r, RowOK (G d) f r⌝ ∗ tabSh d w f) ∗ ∃ f, outsPart d w f)
abbrev td1 (d : Dev nD) (w : ℕ) : sProp 𝕄 := outsPart d w (outCol G X d)

abbrev goQ (q : Fin 2) (d : Dev nD) (w : ℕ) : sProp 𝕄 := match q with | 0 => go0 G d w | 1 => go1 G X d w
abbrev tdQ (q : Fin 2) (d : Dev nD) (w : ℕ) : sProp 𝕄 := match q with | 0 => td0 G d w | 1 => td1 G X d w

def P : (K (F := F)).Pay (nD := nD) (Val := Elt F) (Name := ℕ) (U := UU) where
  st := fun q d c => bigSep Finset.univ fun i : Fin ((K (F := F)).nSub q) => goQ G X q d (wid c.val i.val)
  dn := fun q d c => bigSep Finset.univ fun i : Fin ((K (F := F)).nSub q) => tdQ G X q d (wid c.val i.val)
  go := fun q d c i => goQ G X q d (wid c.val i.val)
  td := fun q d c i => tdQ G X q d (wid c.val i.val)
  x := fun _ _ => iprop(emp)

instance storable_go (q : Fin 2) (d : Dev nD) (w : ℕ) : BI.Storable (upEmb : UEmb _ 𝕄) (goQ G X q d w) :=
  match q with
  | 0 => (inferInstance : BI.Storable (upEmb : UEmb _ 𝕄) (go0 G d w))
  | 1 => (inferInstance : BI.Storable (upEmb : UEmb _ 𝕄) (go1 G X d w))
instance storable_td (q : Fin 2) (d : Dev nD) (w : ℕ) : BI.Storable (upEmb : UEmb _ 𝕄) (tdQ G X q d w) :=
  match q with
  | 0 => (inferInstance : BI.Storable (upEmb : UEmb _ 𝕄) (td0 G d w))
  | 1 => (inferInstance : BI.Storable (upEmb : UEmb _ 𝕄) (td1 G X d w))

instance P_storable : (P (F := F) G X).IsStorable where
  st q d c := (inferInstance : BI.Storable (upEmb : UEmb _ 𝕄) (bigSep Finset.univ fun i : Fin ((K (F := F)).nSub q) => goQ G X q d (wid c.val i.val)))
  dn q d c := (inferInstance : BI.Storable (upEmb : UEmb _ 𝕄) (bigSep Finset.univ fun i : Fin ((K (F := F)).nSub q) => tdQ G X q d (wid c.val i.val)))
  go q d c i := storable_go G X q d _
  td q d c i := storable_td G X q d _

theorem vecSplit (q : Fin 2) : (K (F := F)).VecSplit' (P G X) q := by
  intro d c
  show (bigSep Finset.univ fun i : Fin ((K (F := F)).nSub q) => goQ G X q d (wid c.val i.val)) ⊢ |={Set.univ}=> iprop(
    (bigSep Finset.univ fun i : Fin ((K (F := F)).nSub q) => goQ G X q d (wid c.val i.val))
    ∗ ((bigSep Finset.univ fun i : Fin ((K (F := F)).nSub q) => tdQ G X q d (wid c.val i.val))
      -∗ bigSep Finset.univ fun i : Fin ((K (F := F)).nSub q) => tdQ G X q d (wid c.val i.val)))
  iintro H; imodintro
  isplitl [H]; · iexact H
  iintro H; iexact H

/-! ## The launch element of the ghost state -/

def u₀ : UU := (initOf (K (F := F)).hsCells (K (F := F)).hsToks, 1)

theorem bigSep_none {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 2 => (P G X).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_none]; iempintro
  rw [show (bigSep Finset.univ fun thr : Thread nD τ => bigSep Finset.univ fun q : Fin 2 => (P (F := F) G X).x q thr) = bigSep Finset.univ fun _ => iprop(emp) from
    bigSep_congr fun _ _ => bigSep_none _, bigSep_none]
  iempintro

/-- What a tile's task leaves of its waits, as the launch asks for it. -/
theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

end Cert.Proof.Run

end
-- ==== Proof.Lanes.lean ====
/-
  The SparseCore's indexed store and load, lane by lane: after an unmasked `storeIdx` whose lanes name distinct elements, the
  element a lane names holds that lane's value and every other element what it held before.
-/
module

public import Idealize.ShloMosaic.PureOps

@[expose] public section

noncomputable section

namespace Cert.Proof.Lanes

open Idealize.ShloMosaic

variable {F : FTy → Type} [FloatOps F] {s : Shape} {e : EltTy} {d : Fin 1 → Nat}

/-- An index of a rank-one shape is the lane it stands at. -/
theorem ofLane_self (x : (⟨1, d⟩ : Shape).Idx) : Shape.ofLane (d := d) (x 0) = x := by
  funext a
  obtain rfl : a = 0 := Fin.eq_zero a
  rfl

/-- The fold behind an unmasked indexed store, over any list of lanes: at an element no listed lane names nothing changes. -/
theorem fold_miss (idxs : Fin s.rank → IVec ⟨1, d⟩ 32) (v : Vec F ⟨1, d⟩ e) (h : ∀ a x, (idxs a x).toNat < s.size a) (j : s.Idx) :
    ∀ (l : List (Fin (d 0))) (f : Vec F s e), (∀ k ∈ l, ¬ ∀ a, (j a).val = (idxAt idxs h (Shape.ofLane k) a).val) →
      l.foldl (fun g k =>
        let x := Shape.ofLane k
        if (1#1 : BitVec 1) = 1 then
          let i := idxAt idxs h x
          let y := if false then Elt.idxAdd e (g i) (v x) else v x
          fun j => if (∀ a, (j a).val = (i a).val) then y else g j
        else g) f j = f j
  | [], _, _ => rfl
  | k :: l, f, hk => by
    rw [List.foldl_cons, fold_miss idxs v h j l _ fun k' hk' => hk k' (List.mem_cons_of_mem _ hk')]
    have := hk k List.mem_cons_self
    dsimp only
    rw [if_pos (show (1#1 : BitVec 1) = (1 : BitVec 1) from rfl)]
    exact if_neg this

/-- The same at an element a listed lane names, no two listed lanes naming it. -/
theorem fold_hit (idxs : Fin s.rank → IVec ⟨1, d⟩ 32) (v : Vec F ⟨1, d⟩ e) (h : ∀ a x, (idxs a x).toNat < s.size a) (j : s.Idx)
    (k₀ : Fin (d 0)) (hj : ∀ a, (j a).val = (idxAt idxs h (Shape.ofLane k₀) a).val)
    (hu : ∀ k, (∀ a, (j a).val = (idxAt idxs h (Shape.ofLane k) a).val) → k = k₀) :
    ∀ (l : List (Fin (d 0))) (f : Vec F s e), k₀ ∈ l →
      l.foldl (fun g k =>
        let x := Shape.ofLane k
        if (1#1 : BitVec 1) = 1 then
          let i := idxAt idxs h x
          let y := if false then Elt.idxAdd e (g i) (v x) else v x
          fun j => if (∀ a, (j a).val = (i a).val) then y else g j
        else g) f j = v (Shape.ofLane k₀)
  | [], _, hm => absurd hm (List.not_mem_nil)
  | k :: l, f, hm => by
    rw [List.foldl_cons]
    by_cases hl : k₀ ∈ l
    · exact fold_hit idxs v h j k₀ hj hu l _ hl
    · obtain rfl : k₀ = k := by
        rcases List.mem_cons.mp hm with h' | h'
        · exact h'
        · exact absurd h' hl
      rw [fold_miss idxs v h j l _ fun k' hk' e => hl (hu k' e ▸ hk')]
      dsimp only
      rw [if_pos (show (1#1 : BitVec 1) = (1 : BitVec 1) from rfl)]
      exact if_pos hj

/-- An unmasked indexed store leaves an element no lane names as it was. -/
theorem storeIdx_miss (f : Vec F s e) (idxs : Fin s.rank → IVec ⟨1, d⟩ 32) (v : Vec F ⟨1, d⟩ e) (h : ∀ a x, (idxs a x).toNat < s.size a)
    (j : s.Idx) (hj : ∀ x : (⟨1, d⟩ : Shape).Idx, ¬ ∀ a, (j a).val = (idxs a x).toNat) :
    storeIdx f idxs v (fun _ => 1#1) false h j = f j :=
  fold_miss idxs v h j _ f fun k _ => hj (Shape.ofLane k)

/-- An unmasked indexed store puts a lane's value at the element the lane names, when no other lane names it. -/
theorem storeIdx_hit (f : Vec F s e) (idxs : Fin s.rank → IVec ⟨1, d⟩ 32) (v : Vec F ⟨1, d⟩ e) (h : ∀ a x, (idxs a x).toNat < s.size a)
    (j : s.Idx) (x : (⟨1, d⟩ : Shape).Idx) (hx : ∀ a, (j a).val = (idxs a x).toNat)
    (hu : ∀ y : (⟨1, d⟩ : Shape).Idx, (∀ a, (j a).val = (idxs a y).toNat) → y = x) :
    storeIdx f idxs v (fun _ => 1#1) false h j = v x := by
  have := fold_hit idxs v h j (x 0) (by rw [ofLane_self]; exact hx)
    (fun k hk => by have := hu (Shape.ofLane k) hk; rw [← this]; rfl) (List.finRange (d 0)) f (List.mem_finRange _)
  rw [ofLane_self] at this
  exact this

end Cert.Proof.Lanes

end
-- ==== Proof.Windows.lean ====
/-
  An array after a copy into one window of it: the window holds the copied values, the rest what it held.
-/
module

public import Idealize.ShloMosaic.Lib.Tactic

@[expose] public section

noncomputable section

namespace Cert.Proof.Windows

open Idealize.ShloMosaic

variable {sig : RefSig} {κ : Kind} {sp : Space} {s : Shape} {e : EltTy} {Val : EltTy → Type}

/-- Outside the window nothing changes. -/
theorem writes_out (v : View sig κ sp s e) (f : v.ty.Contents Val) (w : s.Idx → Val e) {i : v.ty.Idx} (h : i ∉ v.set) :
    v.writes Val f [⟨Rect.whole s, w⟩] i = f i := by
  rw [← View.write_univ_eq_writes_whole v f [] w]
  exact View.write_of_not_mem (v := v) f w Finset.univ (by rwa [View.setOn_univ])

/-- Inside it stands the copied value. -/
theorem writes_in (v : View sig κ sp s e) (f : v.ty.Contents Val) (w : s.Idx → Val e) (x : s.Idx) :
    v.writes Val f [⟨Rect.whole s, w⟩] (v.emb x) = cast (congrArg Val v.elt_eq.symm) (w x) := by
  rw [← View.write_univ_eq_writes_whole v f [] w]
  exact View.write_emb_of_mem (v := v) f w (Finset.mem_univ x)

end Cert.Proof.Windows

end
-- ==== Proof.Repack.lean ====
/-
  Call 0: the strips repacked into the table, at a symbolic tile.

  A tile goes through its 64 chunks of 1024 voxels. It fetches the chunk's 28 rows of the strips into one scratch, and for
  every 16 voxels scatters each channel's 16 words into the other scratch, two 16-wide rows per voxel; the scratch goes out
  to the chunk's 2048 rows of the table. `Done` says which words of the second scratch hold their channel.
-/
module

public import proofs.«01_k».proof.Proof.Setup
public import proofs.«01_k».proof.Proof.Lanes
public import proofs.«01_k».proof.Proof.Windows
public import Idealize.ShloMosaic.Lib.Pipeline.Value

@[expose] public section

noncomputable section

namespace Cert.Proof.Run

open Cert.KernelIdeal Cert.KernelIdeal.Gen Cert.Proof.Spec
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

local notation "stripV" => (Memref.whole Cert.KernelIdeal.main_v1_scv : Memref Cert.KernelIdeal.sig Kind.scVector Space.hbm Cert.KernelIdeal.S3584x16384 EltTy.f32)
local notation "tabV" => (Memref.whole Cert.KernelIdeal.main_v2_scv : Memref Cert.KernelIdeal.sig Kind.scVector Space.hbm Cert.KernelIdeal.S4194304x16 EltTy.f32)
local notation "inV" => (Memref.whole Cert.KernelIdeal.cc0_scratch0 : Memref Cert.KernelIdeal.sig Kind.scVector Space.vmem Cert.KernelIdeal.S28x1024 EltTy.f32)
local notation "rowV" => (Memref.whole Cert.KernelIdeal.cc0_scratch1 : Memref Cert.KernelIdeal.sig Kind.scVector Space.vmem Cert.KernelIdeal.S2048x16 EltTy.f32)

/-! ## Which words of the rows scratch are done -/

section Pure

variable {α : Type}

/-- The channels of the groups of 16 voxels before group `k`, and the channels below `n` of group `k`, are in place. -/
def Done (B : S28x1024.Idx → α) (k n : ℕ) (f : S2048x16.Idx → α) : Prop :=
  ∀ (r : S2048x16.Idx) (s : S28x1024.Idx), (s 0).val = 16 * ((r 0).val % 2) + (r 1).val → (s 1).val = (r 0).val / 2 →
    ((r 0).val / 32 < k ∨ (r 0).val / 32 = k ∧ (s 0).val < n) → f r = B s

theorem Done.zero (B : S28x1024.Idx → α) (f : S2048x16.Idx → α) : Done B 0 0 f :=
  fun _ _ _ _ h => by rcases h with h | ⟨_, h⟩ <;> exact absurd h (Nat.not_lt_zero _)

theorem Done.next {B : S28x1024.Idx → α} {k : ℕ} {f : S2048x16.Idx → α} (h : Done B k 28 f) : Done B (k + 1) 0 f :=
  fun r s h0 h1 h2 => h r s h0 h1 (by
    have : (s 0).val < 28 := (s 0).isLt
    rcases h2 with h2 | ⟨_, h2⟩ <;> omega)

theorem Done.all {B : S28x1024.Idx → α} {f : S2048x16.Idx → α} (h : Done B 64 0 f) (r : S2048x16.Idx) (s : S28x1024.Idx)
    (h0 : (s 0).val = 16 * ((r 0).val % 2) + (r 1).val) (h1 : (s 1).val = (r 0).val / 2) : f r = B s :=
  h r s h0 h1 (.inl (by have : (r 0).val < 2048 := (r 0).isLt; omega))

end Pure

section Step

variable [FloatOps F]

/-- One scatter: channel `n` of the sixteen voxels of group `k`. -/
theorem Done.scatter {B : S28x1024.Idx → F .f32} {k n : ℕ} {f : S2048x16.Idx → F .f32} (hf : Done B k n f) (hn28 : n < 28)
    (i0 i1 : IVec S16 32) (v : Vec F S16 .f32)
    (h0 : ∀ x : S16.Idx, (i0 x).toNat = 32 * k + 2 * (x 0).val + n / 16) (h1 : ∀ x : S16.Idx, (i1 x).toNat = n % 16)
    (hv : ∀ (x : S16.Idx) (s : S28x1024.Idx), (s 0).val = n → (s 1).val = 16 * k + (x 0).val → v x = B s)
    (h : ∀ (a : Fin 2) (x : S16.Idx), ((![i0, i1] : Fin 2 → IVec S16 32) a x).toNat < S2048x16.size a) :
    Done B k (n + 1) (storeIdx (e := .f32) f ![i0, i1] v (fun _ => 1#1) false h) := by
  intro r s hs0 hs1 hd
  have hr1 : (r 1).val < 16 := (r 1).isLt
  by_cases hn : (r 0).val / 32 = k ∧ (s 0).val = n
  · have hx : (r 0).val / 2 - 16 * k < 16 := by omega
    have hlane : ∀ x : S16.Idx, (x 0).val < 16 := fun x => (x 0).isLt
    rw [Lanes.storeIdx_hit f _ v h r (fun | 0 => ⟨(r 0).val / 2 - 16 * k, hx⟩)]
    · exact hv _ s hn.2 (by show (s 1).val = 16 * k + ((r 0).val / 2 - 16 * k); omega)
    · intro a
      match a with
      | 0 => show (r 0).val = (i0 _).toNat; rw [h0]; show _ = 32 * k + 2 * ((r 0).val / 2 - 16 * k) + n / 16; omega
      | 1 => show (r 1).val = (i1 _).toNat; rw [h1]; omega
    · intro y hy
      have := hy 0
      replace this : (r 0).val = (i0 y).toNat := this
      rw [h0] at this
      funext a
      match a with
      | 0 => exact Fin.ext (by show (y 0).val = (r 0).val / 2 - 16 * k; have := hlane y; omega)
  · rw [Lanes.storeIdx_miss f _ v h r]
    · exact hf r s hs0 hs1 (by omega)
    · intro x hx
      have e0 : (r 0).val = (i0 x).toNat := hx 0
      have e1 : (r 1).val = (i1 x).toNat := hx 1
      have hlane : (x 0).val < 16 := (x 0).isLt
      rw [h0] at e0; rw [h1] at e1
      omega

end Step

/-! ## The scatter's vectors -/

theorem pay2_lane : ∀ (t : Fin k0_t2_loop.trips) (l : Fin 16),
    (k0_pay2 k0_pay1 0#32 1#32 t (fun | 0 => l)).toNat = 32 * t.val + 2 * l.val := by decide +kernel

theorem lane_eta (x : S16.Idx) : x = fun | 0 => x 0 := by funext a; match a with | 0 => rfl

section Tile

variable [FloatOps F] (d : Dev nD) (L : grid0.Coords)

abbrev cV (L : grid0.Coords) : Fin τ.nSC := (L 0).castLE hcore0
abbrev jV (L : grid0.Coords) : Fin τ.nSub := (L 1).castLE hsub0

abbrev fetchCell (d : Dev nD) (c : Fin τ.nSC) (i : Fin τ.nSub) : GSem nD τ sig := (V d c i, .dma cc0_scratch2.sem)
abbrev writeCell (d : Dev nD) (c : Fin τ.nSC) (i : Fin τ.nSub) : GSem nD τ sig := (V d c i, .dma cc0_scoped0.sem)

omit [FloatOps F] in
theorem ownSems0_repack :
    (ownSems0 (V d (cV L) (jV L)) : sProp 𝕄)
      = iprop(semVal (fetchCell d (cV L) (jV L)) 0 ∗ semVal (writeCell d (cV L) (jV L)) 0
          ∗ bigSep (((ownCells (V d (cV L) (jV L))).erase (fetchCell d (cV L) (jV L))).erase (writeCell d (cV L) (jV L))) fun g => semVal g 0) := by
  unfold SparseCore.Cfg.ownSems0
  rw [SparseCore.bigSep_erase' ((mem_ownCells (g := fetchCell d (cV L) (jV L))).mpr ⟨rfl, by
      show (SemLoc.dma cc0_scratch2.sem : SemLoc sig).isScoped .scVector = true; decide⟩),
    SparseCore.bigSep_erase' (Finset.mem_erase.mpr ⟨by simp [fetchCell, writeCell]; decide, (mem_ownCells (g := writeCell d (cV L) (jV L))).mpr ⟨rfl, by
      show (SemLoc.dma cc0_scoped0.sem : SemLoc sig).isScoped .scVector = true; decide⟩⟩)]

omit [FloatOps F] in
theorem ownBufs_repack :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- The inner loop at group `k`: the fetched rows at `B`, the rows scratch done up to there. -/
def inv2 (B : S28x1024.Idx → F .f32) (k : ℕ) : sProp 𝕄 :=
  iprop(((inV).view.loc (V d (cV L) (jV L)) ↦{fullShare} (B : Buf (Elt F) ((V d (cV L) (jV L)).loc cc0_scratch0)))
    ∗ ∃ f : S2048x16.Idx → F .f32, ⌜Done B k 0 f⌝
      ∗ ((rowV).view.loc (V d (cV L) (jV L)) ↦{fullShare} (f : Buf (Elt F) ((V d (cV L) (jV L)).loc cc0_scratch1))))

/-- The rows scratch, done up to channel `n` of group `k`. -/
def rows (B : S28x1024.Idx → F .f32) (k n : ℕ) : sProp 𝕄 :=
  iprop(∃ f : S2048x16.Idx → F .f32, ⌜Done B k n f⌝
      ∗ ((rowV).view.loc (V d (cV L) (jV L)) ↦{fullShare} (f : Buf (Elt F) ((V d (cV L) (jV L)).loc cc0_scratch1))))

theorem wp_scatter {α : Type} {B : S28x1024.Idx → F .f32} {k n : ℕ} (hn28 : n < 28) (i0 i1 : IVec S16 32) (v : Vec F S16 .f32)
    (h0 : ∀ x : S16.Idx, (i0 x).toNat = 32 * k + 2 * (x 0).val + n / 16) (h1 : ∀ x : S16.Idx, (i1 x).toNat = n % 16)
    (hv : ∀ (x : S16.Idx) (s : S28x1024.Idx), (s 0).val = n → (s 1).val = 16 * k + (x 0).val → v x = B s)
    {h : ∀ (a : Fin 2) (x : S16.Idx), ((![i0, i1] : Fin 2 → IVec S16 32) a x).toNat < S2048x16.size a}
    {hs : ((rowV).access (.whole S2048x16)).Stores Finset.univ}
    {kont : PUnit → Prog (TpuEff nD τ sig (Elt F) Λ₀ (V d (cV L) (jV L)).2) α} {Q : α → sProp 𝕄} :
    rows (F := F) d L B k n
      ⊢ iprop((rows (F := F) d L B k (n + 1) -∗ wp frame (wpE (defs₀ (F := F)) 𝒱₀ (V d (cV L) (jV L)) none) Set.univ (kont ⟨⟩) Q)
        -∗ wp frame (wpE (defs₀ (F := F)) 𝒱₀ (V d (cV L) (jV L)) none) Set.univ
          (SparseCore.vectorStoreIdx rowV ![i0, i1] v (fun _ => 1#1) false h hs >>= kont) Q) := by
  unfold rows
  iintro ⟨%f, %hf, Hf⟩ Hk
  have hset : ((rowV).access (.whole S2048x16)).set = Finset.univ := (View.set_slice_whole cc0_scratch1 (Rect.whole S2048x16)).trans (Rect.set_whole _)
  ihave Hf := (Entails.of_eq (show ((rowV).view.loc (V d (cV L) (jV L)) ↦{fullShare} f : sProp 𝕄)
      = ((rowV).access (.whole S2048x16)).loc (V d (cV L) (jV L)) ↦[((rowV).access (.whole S2048x16)).set]{fullShare} f by rw [hset])) $$ Hf
  iapply (SparseCore.wp_vectorStoreIdx 𝒱₀ (V d (cV L) (jV L)) none Set.univ (base := rowV)) $$ Hf
  iintro Hf
  iapply Hk
  iexists _; isplitr
  · ipureintro; exact hf.scatter hn28 i0 i1 v h0 h1 hv h
  · ihave Hf := (Entails.of_eq (show (((rowV).access (.whole S2048x16)).loc (V d (cV L) (jV L)) ↦[((rowV).access (.whole S2048x16)).set]{fullShare}
        ((rowV).access (.whole S2048x16)).write (Elt F) f
          (storeIdx (((rowV).access (.whole S2048x16)).read (Elt F) f) ![i0, i1] v (fun _ => 1#1) false h) Finset.univ : sProp 𝕄)
        = ((rowV).view.loc (V d (cV L) (jV L)) ↦{fullShare}
          (storeIdx (e := .f32) f ![i0, i1] v (fun _ => 1#1) false h : Buf (Elt F) ((V d (cV L) (jV L)).loc cc0_scratch1))) by
      rw [hset, show ((rowV).access (.whole S2048x16)).write (Elt F) f
          (storeIdx (((rowV).access (.whole S2048x16)).read (Elt F) f) ![i0, i1] v (fun _ => 1#1) false h) Finset.univ
          = storeIdx (e := .f32) f ![i0, i1] v (fun _ => 1#1) false h from
        (Memref.write_access_whole_univ (Elt F) cc0_scratch1 f _).trans
          (congrArg (fun g => storeIdx (e := .f32) g ![i0, i1] v (fun _ => 1#1) false h) (Memref.read_access_whole (Elt F) cc0_scratch1 f))])) $$ Hf
    iexact Hf

/-- Channel `n`'s words of group `t`, read from the fetched rows. -/
theorem load_at {B : S28x1024.Idx → F .f32} {t : ℕ} {n : ℕ} {off : Fin 2 → ℕ} (ho : off = ![n, 16 * t])
    {inb : ∀ a, off a + S1x16.size a ≤ S28x1024.size a} (x : S16.Idx) (s : S28x1024.Idx) (h0 : (s 0).val = n) (h1 : (s 1).val = 16 * t + (x 0).val) :
    (shapeCast S16 (View.readAt (Elt F) (inV).view (Rect.unit (s := S28x1024) off S1x16.size inb).toLoadRect
      (B : Buf (Elt F) ((V d (cV L) (jV L)).loc cc0_scratch0))) shapeCasts_S1x16_S16 : Vec F S16 .f32) x = B s := by
  subst ho
  refine (shapeCast_dropUnit_apply (![16] : Fin 1 → ℕ) _ _ x).trans ?_
  show B _ = B s
  congr 1
  funext a
  match a with
  | 0 => exact Fin.ext (by show n + 1 * 0 = (s 0).val; omega)
  | 1 => exact Fin.ext (by show 16 * t + 1 * (x 0).val = (s 1).val; omega)

/-- The scatter's two index vectors at channel `n`. -/
abbrev rowIdx (t2 : Fin k0_t2_loop.trips) (n : ℕ) : IVec S16 32 := addi (k0_pay2 k0_pay1 0#32 1#32 t2) (broadcast S16 (BitVec.ofNat 32 (n / 16)))
abbrev colIdx (n : ℕ) : IVec S16 32 := broadcast S16 (BitVec.ofNat 32 (n % 16))

theorem rowIdx_lane (t2 : Fin k0_t2_loop.trips) {n : ℕ} (hn : n < 28) (x : S16.Idx) :
    (rowIdx t2 n x).toNat = 32 * t2.val + 2 * (x 0).val + n / 16 := by
  have h : (k0_pay2 k0_pay1 0#32 1#32 t2 x).toNat = 32 * t2.val + 2 * (x 0).val := by
    rw [lane_eta x]; exact pay2_lane t2 (x 0)
  have ht : t2.val < 64 := Nat.lt_of_lt_of_le t2.isLt k0_t2_abs.2.1
  have hx : (x 0).val < 16 := (x 0).isLt
  show (k0_pay2 k0_pay1 0#32 1#32 t2 x + BitVec.ofNat 32 (n / 16)).toNat = _
  rw [BitVec.toNat_add, h, BitVec.toNat_ofNat]
  omega

theorem colIdx_lane {n : ℕ} (x : S16.Idx) : (colIdx n x).toNat = n % 16 := by
  show (BitVec.ofNat 32 (n % 16)).toNat = _
  rw [BitVec.toNat_ofNat]; omega

theorem idx_inb (t2 : Fin k0_t2_loop.trips) {n : ℕ} (hn : n < 28) :
    ∀ (a : Fin 2) (x : S16.Idx), ((![rowIdx t2 n, colIdx n] : Fin 2 → IVec S16 32) a x).toNat < S2048x16.size a := by
  intro a x
  have ht : t2.val < 64 := Nat.lt_of_lt_of_le t2.isLt k0_t2_abs.2.1
  have hx : (x 0).val < 16 := (x 0).isLt
  match a with
  | 0 => show (rowIdx t2 n x).toNat < 2048; rw [rowIdx_lane t2 hn]; omega
  | 1 => show (colIdx n x).toNat < 16; rw [colIdx_lane]; omega

/-- One scatter with its check: channel `n` of group `t2` put in place. -/
theorem wp_scatter_op {α : Type} {B : S28x1024.Idx → F .f32} (t2 : Fin k0_t2_loop.trips) (n : ℕ) (hn : n < 28) {v : Vec F S16 .f32}
    (hv : ∀ (x : S16.Idx) (s : S28x1024.Idx), (s 0).val = n → (s 1).val = 16 * t2.val + (x 0).val → v x = B s)
    {dec : Decidable (∀ (a : Fin 2) (x : S16.Idx), ((![rowIdx t2 n, colIdx n] : Fin 2 → IVec S16 32) a x).toNat < S2048x16.size a)}
    {hin : PLift (∀ (a : Fin 2) (x : S16.Idx), ((![rowIdx t2 n, colIdx n] : Fin 2 → IVec S16 32) a x).toNat < S2048x16.size a)
      → ∀ (a : Fin 2) (x : S16.Idx), ((![rowIdx t2 n, colIdx n] : Fin 2 → IVec S16 32) a x).toNat < S2048x16.size a}
    {hs : ((rowV).access (.whole S2048x16)).Stores Finset.univ}
    {kont : PLift (∀ (a : Fin 2) (x : S16.Idx), ((![rowIdx t2 n, colIdx n] : Fin 2 → IVec S16 32) a x).toNat < S2048x16.size a)
      → PUnit → Prog (TpuEff nD τ sig (Elt F) Λ₀ (V d (cV L) (jV L)).2) α} {Q : α → sProp 𝕄} :
    rows (F := F) d L B t2.val n
      ⊢ iprop((rows (F := F) d L B t2.val (n + 1) -∗ wp frame (wpE (defs₀ (F := F)) 𝒱₀ (V d (cV L) (jV L)) none) Set.univ (kont ⟨idx_inb t2 hn⟩ ⟨⟩) Q)
        -∗ wp frame (wpE (defs₀ (F := F)) 𝒱₀ (V d (cV L) (jV L)) none) Set.univ
          (.op (.assume _ dec) fun u => SparseCore.vectorStoreIdx rowV ![rowIdx t2 n, colIdx n] v (fun _ => 1#1) false (hin u) hs >>= kont u) Q) := by
  rw [wp_assume_of _ _ _ _ (idx_inb t2 hn)]
  exact wp_scatter d L hn _ _ v (rowIdx_lane t2 hn) colIdx_lane hv

theorem group_step (B : S28x1024.Idx → F .f32) (v1 : BitVec 32) (t1 : Fin k0_t1_loop.trips) (t2 : Fin k0_t2_loop.trips) :
    inv2 (F := F) d L B t2.val
      ⊢ wp frame (wpE (defs₀ (F := F)) 𝒱₀ (V d (cV L) (jV L)) none) Set.univ
          (k0_t2_body L stripV (Memref.isWhole_whole _) tabV (Memref.isWhole_whole _) inV (Memref.isWhole_whole _) rowV (Memref.isWhole_whole _)
            cc0_scratch2 cc0_scoped0 v1 k0_pay1 0#32 1#32 t1 t2 ())
          fun _ => inv2 (F := F) d L B (t2.val + 1) := by
  unfold k0_t2_body
  simp only [k0_part1_eq_skeleton, k0_part2_eq_skeleton, k0_part3_eq_skeleton, k0_part4_eq_skeleton, k0_part5_eq_skeleton]
  unfold k0_part1_skel inv2
  iintro ⟨HB, Hf⟩
  ihave Hf := (Entails.of_eq (rows.eq_1 d L B t2.val 0).symm) $$ Hf
  sl_exec
  iapply (wp_scatter_op d L t2 0 (by decide) (load_at (k0_off2_eq t2))) $$ Hf; iintro Hf; sl_exec
  iapply (wp_scatter_op d L t2 1 (by decide) (load_at (k0_off3_eq t2))) $$ Hf; iintro Hf; sl_exec
  iapply (wp_scatter_op d L t2 2 (by decide) (load_at (k0_off4_eq t2))) $$ Hf; iintro Hf; sl_exec
  iapply (wp_scatter_op d L t2 3 (by decide) (load_at (k0_off5_eq t2))) $$ Hf; iintro Hf; sl_exec
  iapply (wp_scatter_op d L t2 4 (by decide) (load_at (k0_off6_eq t2))) $$ Hf; iintro Hf; sl_exec
  iapply (wp_scatter_op d L t2 5 (by decide) (load_at (k0_off7_eq t2))) $$ Hf; iintro Hf; sl_exec
  iapply (wp_scatter_op d L t2 6 (by decide) (load_at (k0_off8_eq t2))) $$ Hf; iintro Hf; sl_exec
  iapply (wp_scatter_op d L t2 7 (by decide) (load_at (k0_off9_eq t2))) $$ Hf; iintro Hf; sl_exec
  iapply (wp_scatter_op d L t2 8 (by decide) (load_at (k0_off10_eq t2))) $$ Hf; iintro Hf; sl_exec
  iapply (wp_scatter_op d L t2 9 (by decide) (load_at (k0_off11_eq t2))) $$ Hf; iintro Hf; sl_exec
  iapply (wp_scatter_op d L t2 10 (by decide) (load_at (k0_off12_eq t2))) $$ Hf; iintro Hf; sl_exec
  iapply (wp_scatter_op d L t2 11 (by decide) (load_at (k0_off13_eq t2))) $$ Hf; iintro Hf; sl_exec
  iapply (wp_scatter_op d L t2 12 (by decide) (load_at (k0_off14_eq t2))) $$ Hf; iintro Hf; sl_exec
  iapply (wp_scatter_op d L t2 13 (by decide) (load_at (k0_off15_eq t2))) $$ Hf; iintro Hf; sl_exec
  iapply (wp_scatter_op d L t2 14 (by decide) (load_at (k0_off16_eq t2))) $$ Hf; iintro Hf; sl_exec
  iapply (wp_scatter_op d L t2 15 (by decide) (load_at (k0_off17_eq t2))) $$ Hf; iintro Hf; sl_exec
  iapply (wp_scatter_op d L t2 16 (by decide) (load_at (k0_off18_eq t2))) $$ Hf; iintro Hf; sl_exec
  iapply (wp_scatter_op d L t2 17 (by decide) (load_at (k0_off19_eq t2))) $$ Hf; iintro Hf; sl_exec
  iapply (wp_scatter_op d L t2 18 (by decide) (load_at (k0_off20_eq t2))) $$ Hf; iintro Hf; sl_exec
  iapply (wp_scatter_op d L t2 19 (by decide) (load_at (k0_off21_eq t2))) $$ Hf; iintro Hf; sl_exec
  iapply (wp_scatter_op d L t2 20 (by decide) (load_at (k0_off22_eq t2))) $$ Hf; iintro Hf; sl_exec
  iapply (wp_scatter_op d L t2 21 (by decide) (load_at (k0_off23_eq t2))) $$ Hf; iintro Hf
  iapply (wp_scatter_op d L t2 22 (by decide) (load_at (k0_off24_eq t2))) $$ Hf; iintro Hf
  iapply (wp_scatter_op d L t2 23 (by decide) (load_at (k0_off25_eq t2))) $$ Hf; iintro Hf
  iapply (wp_scatter_op d L t2 24 (by decide) (load_at (k0_off26_eq t2))) $$ Hf; iintro Hf
  iapply (wp_scatter_op d L t2 25 (by decide) (load_at (k0_off27_eq t2))) $$ Hf; iintro Hf
  iapply (wp_scatter_op d L t2 26 (by decide) (load_at (k0_off28_eq t2))) $$ Hf; iintro Hf
  iapply (wp_scatter_op d L t2 27 (by decide) (load_at (k0_off29_eq t2))) $$ Hf; iintro Hf
  sl_step
  isplitl [HB]; · iexact HB
  unfold rows
  icases Hf with ⟨%f, %hf, Hf⟩
  iexists f; isplitr
  · ipureintro; exact hf.next
  · iexact Hf

/-! ## The chunks -/

theorem off1_eq : ∀ (L : grid0.Coords) (t1 : Fin k0_t1_loop.trips),
    k0_off1 L t1 = ![28 * (8 * (L 1).val + 4 * (L 0).val + t1.val / 16), 1024 * (t1.val % 16)] := by decide +kernel

/-- This tile's number. -/
abbrev wL (L : grid0.Coords) : ℕ := wid (L 0).val (L 1).val

/-- The chunk's rows of the table, and its rows of the strips. -/
abbrev tabC (t1 : Fin k0_t1_loop.trips) := (tabV).slice (Rect.unit (s := S4194304x16) (k0_off30 L t1) S2048x16.size (k0_off30_inb L t1)) (fun _ => rfl)
abbrev stripC (t1 : Fin k0_t1_loop.trips) := (stripV).slice (Rect.unit (s := S3584x16384) (k0_off1 L t1) S28x1024.size (k0_off1_inb L t1)) (fun _ => rfl)

theorem mem_tabC (t1 : Fin k0_t1_loop.trips) (r : S4194304x16.Idx) :
    r ∈ ((tabC L t1).view.set : Finset S4194304x16.Idx)
      ↔ 131072 * wL L + 2048 * t1.val ≤ (r 0).val ∧ (r 0).val < 131072 * wL L + 2048 * t1.val + 2048 := by
  have e : ((tabC L t1).view.set : Finset S4194304x16.Idx) = (Rect.unit (s := S4194304x16) (k0_off30 L t1) S2048x16.size (k0_off30_inb L t1)).set :=
    View.set_slice_whole main_v2_scv _
  have h1 : (r 1).val < 16 := (r 1).isLt
  have hw : wL L = 2 * (L 1).val + (L 0).val := rfl
  rw [e, Rect.mem_set_unit, k0_off30_eq]
  constructor
  · intro h
    have h := h 0
    replace h : 262144 * (L 1).val + 131072 * (L 0).val + 2048 * t1.val ≤ (r 0).val
      ∧ (r 0).val < 262144 * (L 1).val + 131072 * (L 0).val + 2048 * t1.val + 2048 := h
    omega
  · intro h a
    match a with
    | 0 =>
      show 262144 * (L 1).val + 131072 * (L 0).val + 2048 * t1.val ≤ (r 0).val
        ∧ (r 0).val < 262144 * (L 1).val + 131072 * (L 0).val + 2048 * t1.val + 2048
      omega
    | 1 => show 0 ≤ (r 1).val ∧ (r 1).val < 0 + 16; omega

theorem tabC_subset (t1 : Fin k0_t1_loop.trips) : ((tabC L t1).view.set : Finset S4194304x16.Idx) ⊆ tabSet (wL L) := by
  intro r hr
  have ht : t1.val < 64 := Nat.lt_of_lt_of_le t1.isLt k0_t1_abs.2.1
  rw [mem_tabC] at hr
  rw [mem_tabSet]; omega

variable (G : Dev nD → S3584x16384.Idx → F .f32)

/-- The outer loop at chunk `k`: the table's rows of the chunks before are as they should be. -/
def inv1 (O : CellTallies nD τ sig (HIx 2)) (W : Waits sig (HIx 2)) (k : ℕ) (_ : BitVec 32) : sProp 𝕄 :=
  iprop(Transfers.MayWaits (V d (cV L) (jV L)) (none : HIx 2) O
    ∗ ((stripV).view.loc (V d (cV L) (jV L)) ↦{shr (wL L)} (G d : Buf (Elt F) ((stripV).view.loc (V d (cV L) (jV L)))))
    ∗ (∃ f : S4194304x16.Idx → F .f32, ⌜∀ r ∈ tabSet (wL L), (r 0).val < 131072 * wL L + 2048 * k → RowOK (G d) f r⌝
        ∗ ((tabV).view.loc (V d (cV L) (jV L)) ↦[(tabSet (wL L) : Finset (Idx ((tabV).view.loc (V d (cV L) (jV L)))))]{fullShare} (f : Buf (Elt F) ((tabV).view.loc (V d (cV L) (jV L))))))
    ∗ (∃ f : Buf (Elt F) ((V d (cV L) (jV L)).loc cc0_scratch0), (inV).view.loc (V d (cV L) (jV L)) ↦{fullShare} f)
    ∗ (∃ f : Buf (Elt F) ((V d (cV L) (jV L)).loc cc0_scratch1), (rowV).view.loc (V d (cV L) (jV L)) ↦{fullShare} f)
    ∗ semVal (fetchCell d (cV L) (jV L)) 0 ∗ semVal (writeCell d (cV L) (jV L)) 0
    ∗ ∃ W', ⌜∀ p ∈ W', p ∈ W ∨ p.2 = none⌝ ∗ owes (V d (cV L) (jV L)) O W')

/-- The chunk's rows of the strips, as fetched. -/
def fetched (t1 : Fin k0_t1_loop.trips) : S28x1024.Idx → F .f32 := (stripC L t1).view.read (Elt F) (G d : Buf (Elt F) ((stripV).view.loc (V d (cV L) (jV L))))

omit [FloatOps F] in
theorem fetched_apply (t1 : Fin k0_t1_loop.trips) (s : S28x1024.Idx) {v : ℕ} (hv : v / 1024 = 64 * wL L + t1.val) (hs : (s 1).val = v % 1024) :
    fetched d L G t1 s = chan (G d) v (s 0).val := by
  have ht : t1.val < 64 := Nat.lt_of_lt_of_le t1.isLt k0_t1_abs.2.1
  have h0 : (s 0).val < 28 := (s 0).isLt
  have h1 : (s 1).val < 1024 := (s 1).isLt
  have hL0 : (L 0).val < 2 := (L 0).isLt
  have hL1 : (L 1).val < 16 := (L 1).isLt
  have hw : wL L = 2 * (L 1).val + (L 0).val := rfl
  have e : fetched d L G t1 s = G d ((Rect.unit (s := S3584x16384) (k0_off1 L t1) S28x1024.size (k0_off1_inb L t1)).emb s) := rfl
  rw [e]
  unfold chan
  congr 1
  funext a
  apply Fin.ext
  have ho := congrFun (off1_eq L t1) a
  match a with
  | 0 =>
    replace ho : k0_off1 L t1 0 = 28 * (8 * (L 1).val + 4 * (L 0).val + t1.val / 16) := ho
    show k0_off1 L t1 0 + 1 * (s 0).val = (28 * (v / 16384) + (s 0).val) % 3584
    omega
  | 1 =>
    replace ho : k0_off1 L t1 1 = 1024 * (t1.val % 16) := ho
    show k0_off1 L t1 1 + 1 * (s 1).val = v % 16384
    omega

/-- The table after the chunk's rows have gone out. -/
theorem chunk_out (t1 : Fin k0_t1_loop.trips) {f g : S4194304x16.Idx → F .f32} {fd w : S2048x16.Idx → F .f32}
    (hf : ∀ r ∈ tabSet (wL L), (r 0).val < 131072 * wL L + 2048 * t1.val → RowOK (G d) f r)
    (hfd : Done (fetched d L G t1) 64 0 fd) (hw : w = fd)
    (hg : g = (tabC L t1).view.writes (Elt F) f [⟨Rect.whole S2048x16, w⟩]) :
    (∀ r ∈ tabSet (wL L), (r 0).val < 131072 * wL L + 2048 * (t1.val + 1) → RowOK (G d) g r)
      ∧ ∀ r ∈ tabSet (wL L) \ ((tabC L t1).view.set : Finset S4194304x16.Idx), f r = g r := by
  subst hw
  have hout : ∀ r : S4194304x16.Idx, r ∉ ((tabC L t1).view.set : Finset S4194304x16.Idx) → g r = f r := by
    intro r hr
    have h := Windows.writes_out (Val := Elt F) (tabC L t1).view f w hr
    rw [hg]; exact h
  refine ⟨?_, fun r hr => (hout r (Finset.mem_sdiff.mp hr).2).symm⟩
  intro r hr hlt
  by_cases hin : r ∈ ((tabC L t1).view.set : Finset S4194304x16.Idx)
  · obtain ⟨x, -, hx⟩ := Finset.mem_map.mp hin
    have hx0 : (x 0).val < 2048 := (x 0).isLt
    have hx1 : (x 1).val < 16 := (x 1).isLt
    have hw : wL L = 2 * (L 1).val + (L 0).val := rfl
    have e0 : (r 0).val = 262144 * (L 1).val + 131072 * (L 0).val + 2048 * t1.val + (x 0).val := by
      have h : k0_off30 L t1 0 + 1 * (x 0).val = (r 0).val := congrArg (fun r : S4194304x16.Idx => (r 0).val) hx
      have ho : k0_off30 L t1 0 = 262144 * (L 1).val + 131072 * (L 0).val + 2048 * t1.val := congrFun (k0_off30_eq L t1) 0
      omega
    have e1 : (r 1).val = (x 1).val := by
      have h : k0_off30 L t1 1 + 1 * (x 1).val = (r 1).val := congrArg (fun r : S4194304x16.Idx => (r 1).val) hx
      have ho : k0_off30 L t1 1 = 0 := congrFun (k0_off30_eq L t1) 1
      omega
    intro hc
    have hv : g r = w x := by
      have h := (Windows.writes_in (Val := Elt F) (tabC L t1).view f w x).trans (cast_eq _ _)
      rw [hx] at h
      rw [hg]; exact h
    rw [hv]
    have hs : 16 * ((x 0).val % 2) + (x 1).val < 28 := by omega
    have h1024 : (x 0).val / 2 < 1024 := by omega
    rw [hfd.all x (fun | 0 => ⟨16 * ((x 0).val % 2) + (x 1).val, hs⟩ | 1 => ⟨(x 0).val / 2, h1024⟩) rfl rfl,
      fetched_apply d L G t1 _ (v := (r 0).val / 2) (by omega) (by show (x 0).val / 2 = _; omega)]
    show chan (G d) _ (16 * ((x 0).val % 2) + (x 1).val) = _
    congr 1; omega
  · have h1 : RowOK (G d) f r := hf r hr (by
      by_contra hc
      rw [mem_tabC] at hin
      omega)
    intro hc; rw [hout r hin]; exact h1 hc

theorem chunk_step (O : CellTallies nD τ sig (HIx 2)) (W : Waits sig (HIx 2)) (v1 : BitVec 32) (t1 : Fin k0_t1_loop.trips) (acc : BitVec 32) :
    inv1 (F := F) d L G O W t1.val acc
      ⊢ wp frame (wpE (defs₀ (F := F)) 𝒱₀ (V d (cV L) (jV L)) none) Set.univ
          (k0_t1_body L stripV (Memref.isWhole_whole _) tabV (Memref.isWhole_whole _) inV (Memref.isWhole_whole _) rowV (Memref.isWhole_whole _)
            cc0_scratch2 cc0_scoped0 v1 t1 acc)
          fun a => inv1 (F := F) d L G O W (t1.val + 1) a := by
  unfold k0_t1_body
  simp only [k0_part6_eq_skeleton]
  unfold k0_part6_skel inv1
  iintro ⟨Hmw, Hst, ⟨%f, %hf, Ht⟩, ⟨%fi, Hi⟩, ⟨%fr, Hr⟩, Hs0, Hs1, %W', %hW', HO⟩
  sl_exec
  ihave Hi := (Entails.of_eq (show ((inV).view.loc (V d (cV L) (jV L)) ↦{fullShare} View.write (Elt F) (inV).view fi (chunk_step.sl.dma0 d L G t1) Finset.univ : sProp 𝕄)
      = (inV).view.loc (V d (cV L) (jV L)) ↦{fullShare} (fetched d L G t1 : Buf (Elt F) ((V d (cV L) (jV L)).loc cc0_scratch0)) from
    congrArg _ (View.write_whole_univ (Val := Elt F) cc0_scratch0 fi _))) $$ Hi
  sl_for (fun k _ => inv2 (F := F) d L (fetched d L G t1) k) $$ [Hi Hr]
  case region =>
    intro k _
    exact group_step d L (fetched d L G t1) v1 t1 k
  · unfold inv2
    isplitl [Hi]; · iexact Hi
    iexists fr; isplitr
    · ipureintro; exact Done.zero _ _
    · iexact Hr
  iintro %_ HI
  ihave HI := (Entails.of_eq (inv2.eq_1 d L (fetched d L G t1) _)) $$ HI
  icases HI with ⟨Hi, %fd, %hfd, Hr⟩
  rw [show Scf.trips k0_t2_loop.lb k0_t2_loop.ub k0_t2_loop.st = 64 by decide] at hfd
  ihave Ht := (pointsTo_split_subset (tabC_subset L t1)).1 $$ Ht
  icases Ht with ⟨Htc, Htr⟩
  ihave Htc := (Entails.of_eq (show ((tabV).view.loc (V d (cV L) (jV L)) ↦[(tabC L t1).view.set]{fullShare} (f : Buf (Elt F) ((tabV).view.loc (V d (cV L) (jV L)))) : sProp 𝕄)
      = ((tabV).slice (Rect.unit (s := S4194304x16) (k0_off30 L t1) S2048x16.size (k0_off30_inb L t1)) (fun _ => rfl)).view.loc (V d (cV L) (jV L))
        ↦[((tabV).slice (Rect.unit (s := S4194304x16) (k0_off30 L t1) S2048x16.size (k0_off30_inb L t1)) (fun _ => rfl)).view.set]{fullShare} f from rfl)) $$ Htc
  sl_exec
  sl_step
  obtain ⟨hok, hrest⟩ := chunk_out d L G t1 (w := chunk_step.sl.dma0_1 fd) hf hfd rfl rfl
  ihave Htr := (Entails.of_eq (pointsTo_congr (ℓ := (tabV).view.loc (V d (cV L) (jV L))) (q := fullShare) hrest)) $$ Htr
  ihave Ht := (pointsTo_split_subset (ℓ := (tabV).view.loc (V d (cV L) (jV L))) (tabC_subset L t1)).2 $$ [Htc Htr]
  · isplitl [Htc]; · iexact Htc
    iexact Htr
  isplitl [Hmw]; · iexact Hmw
  isplitl [Hst]; · iexact Hst
  isplitl [Ht]
  · iexists _; isplitr
    · ipureintro; exact hok
    · iexact Ht
  isplitl [Hi]; · iexists _; iexact Hi
  isplitl [Hr]; · iexists _; iexact Hr
  isplitl [Hs0]; · iexact Hs0
  isplitl [Hs1]; · iexact Hs1
  iexists (insert (SemLoc.dma cc0_scoped0.sem, (default : HIx 2)) (insert (SemLoc.dma cc0_scratch2.sem, default) W')); isplitr
  · ipureintro; intro p hp
    rcases Finset.mem_insert.mp hp with hp | hp
    · exact .inr (hp ▸ rfl)
    rcases Finset.mem_insert.mp hp with hp | hp
    · exact .inr (hp ▸ rfl)
    · exact hW' p hp
  · iexact HO

theorem tile_repack (hF : (K (F := F)).Facts) (O : CellTallies nD τ sig (HIx 2)) (W : Waits sig (HIx 2)) (hO : ∀ g, O g none = 0) :
    iprop(levAts (K (F := F)).L (K (F := F)).lev ∗ emp ∗ go0 G d (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__repack_body L stripV (Memref.isWhole_whole _) tabV (Memref.isWhole_whole _) inV (Memref.isWhole_whole _) rowV (Memref.isWhole_whole _)
            cc0_scratch2 cc0_scoped0)
          fun _ => iprop(td0 G d (wL L) ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__repack_body_eq_skeleton]; unfold cc0__repack_body_skel
  rw [(K (F := F)).scopedBufs_V hF d (cV L) (jV L), SparseCore.Cfg.scopedSems0_V (Val := Elt F) d (cV L) (jV L), ownSems0_repack, ownBufs_repack]
  iintro ⟨#Hlv, -, ⟨Hst, %f, Ht⟩, ⟨⟨%fi, Hi⟩, ⟨%fr, Hr⟩, Hbufs⟩, ⟨Hs0, Hs1, Hsems⟩, HO⟩
  ihave Hmw := (show levAts (K (F := F)).L (K (F := F)).lev ⊢ Transfers.MayWaits (V d (cV L) (jV L)) (default : HIx 2) O from
    (K (F := F)).mayWaits_none (thr := V d (cV L) (jV L)) hO) $$ Hlv
  sl_exec
  sl_for (inv1 (F := F) d L G O W) $$ [Hmw Hst Ht Hi Hr Hs0 Hs1 HO]
  case region =>
    intro k acc
    exact chunk_step d L G O W _ k acc
  · unfold inv1
    isplitl [Hmw]; · iexact Hmw
    isplitl [Hst]; · iexact Hst
    isplitl [Ht]
    · iexists f; isplitr
      · ipureintro; intro r hr hlt
        rw [mem_tabSet] at hr; omega
      · iexact Ht
    isplitl [Hi]; · iexists fi; iexact Hi
    isplitl [Hr]; · iexists fr; iexact Hr
    isplitl [Hs0]; · iexact Hs0
    isplitl [Hs1]; · iexact Hs1
    iexists W; isplitr
    · ipureintro; exact fun p hp => .inl hp
    · iexact HO
  iintro %acc HI
  ihave HI := (Entails.of_eq (inv1.eq_1 d L G O W _ acc)) $$ HI
  icases HI with ⟨-, Hst, ⟨%g, %hg, Ht⟩, Hi, Hr, Hs0, Hs1, HO⟩
  rw [show Scf.trips k0_t1_loop.lb k0_t1_loop.ub k0_t1_loop.st = 64 by decide] at hg
  sl_step
  isplitl [Ht]
  · iexists g; isplitr
    · ipureintro; intro r hr
      exact hg r hr (by rw [mem_tabSet] at hr; omega)
    · iexact Ht
  isplitl [Hi Hr Hbufs]
  · isplitl [Hi]; · iexact Hi
    isplitl [Hr]; · iexact Hr
    iexact Hbufs
  isplitl [Hs0 Hs1 Hsems]
  · isplitl [Hs0]; · iexact Hs0
    isplitl [Hs1]; · iexact Hs1
    iexact Hsems
  iexact HO

end Tile

end Cert.Proof.Run

end
-- ==== Proof.ShadeIndex.lean ====
/-
  Call 1, first loop of a chunk: the list of table rows and the mask.

  For every 16 samples of the chunk, whose coordinates lie in the six rows of the input scratch, the tile computes the voxel's
  two row numbers into the list and one or zero into the mask. `ListOK` and `MaskOK` say how far the two scratches are filled.
-/
module

public import proofs.«01_k».proof.Proof.Setup
public import proofs.«01_k».proof.Proof.Windows
public import Idealize.ShloMosaic.Lib.WritesUnit
public import Idealize.ShloMosaic.Lib.Pipeline.Value

@[expose] public section

noncomputable section

namespace Cert.Proof.Run

open Cert.KernelIdeal Cert.KernelIdeal.Gen Cert.Proof.Spec
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

local notation "x0V" => (Memref.whole Cert.KernelIdeal.main_v4_scv : Memref Cert.KernelIdeal.sig Kind.scVector Space.hbm Cert.KernelIdeal.S1048576 EltTy.f32)
local notation "x1V" => (Memref.whole Cert.KernelIdeal.main_v6_scv : Memref Cert.KernelIdeal.sig Kind.scVector Space.hbm Cert.KernelIdeal.S1048576 EltTy.f32)
local notation "x2V" => (Memref.whole Cert.KernelIdeal.main_v8_scv : Memref Cert.KernelIdeal.sig Kind.scVector Space.hbm Cert.KernelIdeal.S1048576 EltTy.f32)
local notation "x3V" => (Memref.whole Cert.KernelIdeal.main_v10_scv : Memref Cert.KernelIdeal.sig Kind.scVector Space.hbm Cert.KernelIdeal.S1048576 EltTy.f32)
local notation "x4V" => (Memref.whole Cert.KernelIdeal.main_v12_scv : Memref Cert.KernelIdeal.sig Kind.scVector Space.hbm Cert.KernelIdeal.S1048576 EltTy.f32)
local notation "x5V" => (Memref.whole Cert.KernelIdeal.main_v14_scv : Memref Cert.KernelIdeal.sig Kind.scVector Space.hbm Cert.KernelIdeal.S1048576 EltTy.f32)
local notation "tabV" => (Memref.whole Cert.KernelIdeal.main_v2_scv : Memref Cert.KernelIdeal.sig Kind.scVector Space.hbm Cert.KernelIdeal.S4194304x16 EltTy.f32)
local notation "o0V" => (Memref.whole Cert.KernelIdeal.main_v15_0_scv : Memref Cert.KernelIdeal.sig Kind.scVector Space.hbm Cert.KernelIdeal.S1048576 EltTy.f32)
local notation "o1V" => (Memref.whole Cert.KernelIdeal.main_v15_1_scv : Memref Cert.KernelIdeal.sig Kind.scVector Space.hbm Cert.KernelIdeal.S1048576 EltTy.f32)
local notation "o2V" => (Memref.whole Cert.KernelIdeal.main_v15_2_scv : Memref Cert.KernelIdeal.sig Kind.scVector Space.hbm Cert.KernelIdeal.S1048576 EltTy.f32)
local notation "o3V" => (Memref.whole Cert.KernelIdeal.main_v15_3_scv : Memref Cert.KernelIdeal.sig Kind.scVector Space.hbm Cert.KernelIdeal.S1048576 EltTy.f32)
local notation "bufV" => (Memref.whole Cert.KernelIdeal.cc1_scratch0 : Memref Cert.KernelIdeal.sig Kind.scVector Space.vmem Cert.KernelIdeal.S6x1024 EltTy.f32)
local notation "listV" => (Memref.whole Cert.KernelIdeal.cc1_scratch1 : Memref Cert.KernelIdeal.sig Kind.scVector Space.vmem Cert.KernelIdeal.S2x8x128 EltTy.i32)
local notation "maskV" => (Memref.whole Cert.KernelIdeal.cc1_scratch2 : Memref Cert.KernelIdeal.sig Kind.scVector Space.vmem Cert.KernelIdeal.S1024 EltTy.f32)
local notation "gotV" => (Memref.whole Cert.KernelIdeal.cc1_scratch3 : Memref Cert.KernelIdeal.sig Kind.scVector Space.vmem Cert.KernelIdeal.S2x1024x16 EltTy.f32)
local notation "outV" => (Memref.whole Cert.KernelIdeal.cc1_scratch4 : Memref Cert.KernelIdeal.sig Kind.scVector Space.vmem Cert.KernelIdeal.S4x1024 EltTy.f32)

variable [FloatOps F]

/-! ## What the list and the mask hold -/

/-- Coordinate `a` of sample `p` of the chunk. -/
def at6 (B : S6x1024.Idx → F .f32) (a : Fin 6) (p : ℕ) : F .f32 := B fun | 0 => a | 1 => ⟨p % 1024, Nat.mod_lt _ (by decide)⟩

/-- The list is done for the samples before `16 k`. -/
def ListOK (B : S6x1024.Idx → F .f32) (k : ℕ) (f : S2x8x128.Idx → BitVec 32) : Prop :=
  ∀ s : S2x8x128.Idx, 128 * (s 1).val + (s 2).val < 16 * k →
    f s = IntOp.addi (IntOp.muli (voxW (at6 B 0 (128 * (s 1).val + (s 2).val)) (at6 B 1 (128 * (s 1).val + (s 2).val)) (at6 B 2 (128 * (s 1).val + (s 2).val))) 2#32)
      (BitVec.ofNat 32 (s 0).val)

/-- The mask is done for the samples before `16 k`. -/
def MaskOK (B : S6x1024.Idx → F .f32) (k : ℕ) (f : S1024.Idx → F .f32) : Prop :=
  ∀ s : S1024.Idx, (s 0).val < 16 * k → f s = mk (at6 B 0 (s 0).val) (at6 B 1 (s 0).val) (at6 B 2 (s 0).val)

theorem off5_eq : ∀ t : Fin k1_t2_loop.trips, k1_off5 t = ![0, t.val / 8, 16 * (t.val % 8)] := by decide +kernel
theorem off6_eq : ∀ t : Fin k1_t2_loop.trips, k1_off6 t = ![1, t.val / 8, 16 * (t.val % 8)] := by decide +kernel

variable (F) in
/-- What a load of sixteen words reads of the input scratch. -/
abbrev rd (B : S6x1024.Idx → F .f32) {off : Fin 2 → ℕ} (inb : ∀ b, off b + S1x16.size b ≤ S6x1024.size b) : Vec F S1x16 .f32 :=
  View.readAt (Elt F) (bufV).view (Rect.unit (s := S6x1024) off S1x16.size inb).toLoadRect (B : (bufV).view.ty.Contents (Elt F))

/-- Coordinate `a` of the sixteen samples of a group, read from the input scratch. -/
theorem row_at {B : S6x1024.Idx → F .f32} {t : ℕ} (ht : t < 64) (a : Fin 6) {off : Fin 2 → ℕ} (ho : off = ![a.val, 16 * t])
    {inb : ∀ b, off b + S1x16.size b ≤ S6x1024.size b} (x : S16.Idx) :
    (shapeCast S16 (View.readAt (Elt F) (bufV).view (Rect.unit (s := S6x1024) off S1x16.size inb).toLoadRect
      (B : (bufV).view.ty.Contents (Elt F))) shapeCasts_S1x16_S16 : Vec F S16 .f32) x = at6 B a (16 * t + (x 0).val) := by
  subst ho
  have hx : (x 0).val < 16 := (x 0).isLt
  refine (shapeCast_dropUnit_apply (![16] : Fin 1 → ℕ) _ _ x).trans ?_
  show B _ = B _
  congr 1
  funext b
  match b with
  | 0 => exact Fin.ext (by show a.val + 1 * 0 = a.val; omega)
  | 1 => exact Fin.ext (by show 16 * t + 1 * (x 0).val = (16 * t + (x 0).val) % 1024; omega)

/-- The two stores of a group into the list. -/
theorem ListOK.step {B : S6x1024.Idx → F .f32} (t : Fin k1_t2_loop.trips) {f f' : S2x8x128.Idx → BitVec 32} (hf : ListOK B t.val f) (v : IVec S16 32)
    (hv : ∀ x : S16.Idx, v x = IntOp.muli (voxW (at6 B 0 (16 * t.val + (x 0).val)) (at6 B 1 (16 * t.val + (x 0).val)) (at6 B 2 (16 * t.val + (x 0).val))) 2#32)
    (hf' : f' = (listV).view.writes (Elt F) f [⟨Rect.unit (s := S2x8x128) (k1_off6 t) S1x1x16.size (k1_off6_inb t), shapeCast S1x1x16 (k1_pay34 v) shapeCasts_S16_S1x1x16⟩,
      ⟨Rect.unit (s := S2x8x128) (k1_off5 t) S1x1x16.size (k1_off5_inb t), shapeCast S1x1x16 v shapeCasts_S16_S1x1x16⟩]) :
    ListOK B (t.val + 1) f' := by
  intro s hs
  have ht : t.val < 64 := Nat.lt_of_lt_of_le t.isLt k1_t2_abs.2.1
  have h0 : (s 0).val < 2 := (s 0).isLt
  have h1 : (s 1).val < 8 := (s 1).isLt
  have h2 : (s 2).val < 128 := (s 2).isLt
  have e : f' s = (listV).view.read (Elt F) f' s := rfl
  rw [e, hf']
  by_cases hg : 128 * (s 1).val + (s 2).val < 16 * t.val
  · by_cases h12 : (s 1).val = t.val / 8
    · rw [View.read_writes_cons_unit_of_not_mem (listV).view _ _ _ _ s (off6_eq t) 2 (by left; show (s 2).val < 16 * (t.val % 8); omega),
        View.read_writes_cons_unit_of_not_mem (listV).view _ _ _ _ s (off5_eq t) 2 (by left; show (s 2).val < 16 * (t.val % 8); omega)]
      exact hf s hg
    rw [View.read_writes_cons_unit_of_not_mem (listV).view _ _ _ _ s (off6_eq t) 1 (by left; show (s 1).val < t.val / 8; omega),
      View.read_writes_cons_unit_of_not_mem (listV).view _ _ _ _ s (off5_eq t) 1 (by left; show (s 1).val < t.val / 8; omega)]
    exact hf s hg
  · have hx : (s 2).val - 16 * (t.val % 8) < 16 := by omega
    have hp : 16 * t.val + ((s 2).val - 16 * (t.val % 8)) = 128 * (s 1).val + (s 2).val := by omega
    let y : S1x1x16.Idx := fun | 0 => ⟨0, by decide⟩ | 1 => ⟨0, by decide⟩ | 2 => ⟨(s 2).val - 16 * (t.val % 8), hx⟩
    by_cases hs0 : (s 0).val = 1
    · rw [View.read_writes_cons_unit_of_mem (size := S1x1x16.size) (listV).view _ _ _ _ s y (off6_eq t) (fun a => by
        match a with
        | 0 => show (s 0).val = 1 + 0; omega
        | 1 => show (s 1).val = t.val / 8 + 0; omega
        | 2 => show (s 2).val = 16 * (t.val % 8) + ((s 2).val - 16 * (t.val % 8)); omega)]
      refine (shapeCast_apply _ _ _ (fun | 0 => ⟨(s 2).val - 16 * (t.val % 8), hx⟩ : S16.Idx) (by
        rw [Shape.rowMajor_val_one, Shape.rowMajor_val_three]
        show (s 2).val - 16 * (t.val % 8) = (0 * 1 + 0) * 16 + ((s 2).val - 16 * (t.val % 8)); omega)).trans ?_
      rw [hs0, ← hp]
      show IntOp.addi (v _) 1#32 = _
      rw [hv]
    · rw [View.read_writes_cons_unit_of_not_mem (listV).view _ _ _ _ s (off6_eq t) 0 (by left; show (s 0).val < 1; omega),
        View.read_writes_cons_unit_of_mem (size := S1x1x16.size) (listV).view _ _ _ _ s y (off5_eq t) (fun a => by
        match a with
        | 0 => show (s 0).val = 0 + 0; omega
        | 1 => show (s 1).val = t.val / 8 + 0; omega
        | 2 => show (s 2).val = 16 * (t.val % 8) + ((s 2).val - 16 * (t.val % 8)); omega)]
      refine (shapeCast_apply _ _ _ (fun | 0 => ⟨(s 2).val - 16 * (t.val % 8), hx⟩ : S16.Idx) (by
        rw [Shape.rowMajor_val_one, Shape.rowMajor_val_three]
        show (s 2).val - 16 * (t.val % 8) = (0 * 1 + 0) * 16 + ((s 2).val - 16 * (t.val % 8)); omega)).trans ?_
      rw [show (s 0).val = 0 by omega, ← hp, hv]
      exact (BitVec.add_zero _).symm

/-- The store of a group into the mask. -/
theorem MaskOK.step {B : S6x1024.Idx → F .f32} (t : Fin k1_t2_loop.trips) {g g' : S1024.Idx → F .f32} (hg : MaskOK B t.val g) (v : FVec F S16 .f32)
    (hv : ∀ x : S16.Idx, v x = mk (at6 B 0 (16 * t.val + (x 0).val)) (at6 B 1 (16 * t.val + (x 0).val)) (at6 B 2 (16 * t.val + (x 0).val)))
    (hg' : g' = (maskV).view.writes (Elt F) g [⟨Rect.unit (s := S1024) (k1_off7 t) S16.size (k1_off7_inb t), v⟩]) :
    MaskOK B (t.val + 1) g' := by
  intro s hs
  have e : g' s = (maskV).view.read (Elt F) g' s := rfl
  rw [e, hg']
  by_cases hlt : (s 0).val < 16 * t.val
  · rw [View.read_writes_cons_unit_of_not_mem (maskV).view _ _ _ _ s (k1_off7_eq t) 0 (by left; show (s 0).val < 16 * t.val; omega)]
    exact hg s hlt
  · have hx : (s 0).val - 16 * t.val < 16 := by omega
    let y : S16.Idx := fun | 0 => ⟨(s 0).val - 16 * t.val, hx⟩
    rw [View.read_writes_cons_unit_of_mem (size := S16.size) (maskV).view _ _ _ _ s y (k1_off7_eq t) (fun a => by
        match a with
        | 0 => show (s 0).val = 16 * t.val + ((s 0).val - 16 * t.val); omega)]
    refine (hv (fun | 0 => ⟨(s 0).val - 16 * t.val, hx⟩ : S16.Idx)).trans ?_
    show mk (at6 B 0 (16 * t.val + ((s 0).val - 16 * t.val))) (at6 B 1 (16 * t.val + ((s 0).val - 16 * t.val))) (at6 B 2 (16 * t.val + ((s 0).val - 16 * t.val))) = _
    rw [show 16 * t.val + ((s 0).val - 16 * t.val) = (s 0).val by omega]

section Tile

variable (d : Dev nD) (L : grid1.Coords)

/-- The tile's SparseCore and its number there. -/
abbrev cW : Fin τ.nSC := (L 0).castLE hcore1
abbrev jW : Fin τ.nSub := (L 1).castLE hsub1

/-- The first loop's state after `k` groups. -/
def invI (B : S6x1024.Idx → F .f32) (k : ℕ) : sProp 𝕄 :=
  iprop(((bufV).view.loc (V d (cW L) (jW L)) ↦{fullShare} (B : Buf (Elt F) ((V d (cW L) (jW L)).loc cc1_scratch0)))
    ∗ (∃ f : S2x8x128.Idx → BitVec 32, ⌜ListOK B k f⌝
      ∗ ((listV).view.loc (V d (cW L) (jW L)) ↦{fullShare} (f : Buf (Elt F) ((V d (cW L) (jW L)).loc cc1_scratch1))))
    ∗ ∃ g : S1024.Idx → F .f32, ⌜MaskOK B k g⌝
      ∗ ((maskV).view.loc (V d (cW L) (jW L)) ↦{fullShare} (g : Buf (Elt F) ((V d (cW L) (jW L)).loc cc1_scratch2))))

theorem index_step (B : S6x1024.Idx → F .f32) (t1 : Fin k1_t1_loop.trips) (t2 : Fin k1_t2_loop.trips) :
    invI (F := F) d L B t2.val
      ⊢ wp frame (wpE (defs₀ (F := F)) 𝒱₀ (V d (cW L) (jW L)) none) Set.univ
          (k1_t2_body L x0V (Memref.isWhole_whole _) x1V (Memref.isWhole_whole _) x2V (Memref.isWhole_whole _) x3V (Memref.isWhole_whole _)
            x4V (Memref.isWhole_whole _) x5V (Memref.isWhole_whole _) tabV (Memref.isWhole_whole _) o0V (Memref.isWhole_whole _)
            o1V (Memref.isWhole_whole _) o2V (Memref.isWhole_whole _) o3V (Memref.isWhole_whole _) bufV (Memref.isWhole_whole _)
            listV (Memref.isWhole_whole _) maskV (Memref.isWhole_whole _) gotV (Memref.isWhole_whole _) outV (Memref.isWhole_whole _)
            cc1_scratch5 cc1_scratch6 cc1_scoped0 cc1_scoped1 cc1_scoped2 cc1_scoped3 t1 t2 ())
          fun _ => invI (F := F) d L B (t2.val + 1) := by
  unfold k1_t2_body
  simp only [k1_part1_eq_skeleton, k1_part2_eq_skeleton]
  unfold k1_part1_skel k1_part2_skel invI
  iintro ⟨HB, ⟨%f, %hf, Hf⟩, %g, %hg, Hg⟩
  have ht : t2.val < 64 := Nat.lt_of_lt_of_le t2.isLt k1_t2_abs.2.1
  sl_exec
  sl_step
  isplitl [HB]; · iexact HB
  isplitl [Hf]
  · iexists _; isplitr; swap
    · iexact Hf
    ipureintro
    refine hf.step t2 (k1_pay8 (k1_pay4 (rd F B (k1_off2_inb t2))) (k1_pay5 (rd F B (k1_off3_inb t2))) (k1_pay6 (rd F B (k1_off4_inb t2))) k1_pay7) (fun x => ?_) rfl
    show IntOp.muli (voxW (k1_pay1 (rd F B (k1_off2_inb t2)) x) (k1_pay2 (rd F B (k1_off3_inb t2)) x) (k1_pay3 (rd F B (k1_off4_inb t2)) x)) 2#32 = _
    rw [show k1_pay1 (rd F B (k1_off2_inb t2)) x = _ from row_at ht 0 (k1_off2_eq t2) x, show k1_pay2 (rd F B (k1_off3_inb t2)) x = _ from row_at ht 1 (k1_off3_eq t2) x,
      show k1_pay3 (rd F B (k1_off4_inb t2)) x = _ from row_at ht 2 (k1_off4_eq t2) x]
  · iexists _; isplitr; swap
    · iexact Hg
    ipureintro
    refine hg.step t2 (k1_pay35 (k1_pay9 (k1_pay1 (rd F B (k1_off2_inb t2))) (k1_pay2 (rd F B (k1_off3_inb t2))) (k1_pay3 (rd F B (k1_off4_inb t2))))) (fun x => ?_) rfl
    show mk (k1_pay1 (rd F B (k1_off2_inb t2)) x) (k1_pay2 (rd F B (k1_off3_inb t2)) x) (k1_pay3 (rd F B (k1_off4_inb t2)) x) = _
    rw [show k1_pay1 (rd F B (k1_off2_inb t2)) x = _ from row_at ht 0 (k1_off2_eq t2) x, show k1_pay2 (rd F B (k1_off3_inb t2)) x = _ from row_at ht 1 (k1_off3_eq t2) x,
      show k1_pay3 (rd F B (k1_off4_inb t2)) x = _ from row_at ht 2 (k1_off4_eq t2) x]

end Tile

end Cert.Proof.Run

end
-- ==== Proof.ShadeColor.lean ====
/-
  Call 1, second loop of a chunk: the four results of sixteen samples at a time.

  The tile reads the mask, the direction's three coordinates and, one indexed load for each channel, the voxel's 28 channels
  out of the gathered rows, and stores three colours and the density into the four rows of the output scratch. `OutOK` says
  how far the output scratch is filled.
-/
module

public import proofs.«01_k».proof.Proof.ShadeIndex

@[expose] public section

noncomputable section

namespace Cert.Proof.Run

open Cert.KernelIdeal Cert.KernelIdeal.Gen Cert.Proof.Spec
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

local notation "x0V" => (Memref.whole Cert.KernelIdeal.main_v4_scv : Memref Cert.KernelIdeal.sig Kind.scVector Space.hbm Cert.KernelIdeal.S1048576 EltTy.f32)
local notation "x1V" => (Memref.whole Cert.KernelIdeal.main_v6_scv : Memref Cert.KernelIdeal.sig Kind.scVector Space.hbm Cert.KernelIdeal.S1048576 EltTy.f32)
local notation "x2V" => (Memref.whole Cert.KernelIdeal.main_v8_scv : Memref Cert.KernelIdeal.sig Kind.scVector Space.hbm Cert.KernelIdeal.S1048576 EltTy.f32)
local notation "x3V" => (Memref.whole Cert.KernelIdeal.main_v10_scv : Memref Cert.KernelIdeal.sig Kind.scVector Space.hbm Cert.KernelIdeal.S1048576 EltTy.f32)
local notation "x4V" => (Memref.whole Cert.KernelIdeal.main_v12_scv : Memref Cert.KernelIdeal.sig Kind.scVector Space.hbm Cert.KernelIdeal.S1048576 EltTy.f32)
local notation "x5V" => (Memref.whole Cert.KernelIdeal.main_v14_scv : Memref Cert.KernelIdeal.sig Kind.scVector Space.hbm Cert.KernelIdeal.S1048576 EltTy.f32)
local notation "tabV" => (Memref.whole Cert.KernelIdeal.main_v2_scv : Memref Cert.KernelIdeal.sig Kind.scVector Space.hbm Cert.KernelIdeal.S4194304x16 EltTy.f32)
local notation "o0V" => (Memref.whole Cert.KernelIdeal.main_v15_0_scv : Memref Cert.KernelIdeal.sig Kind.scVector Space.hbm Cert.KernelIdeal.S1048576 EltTy.f32)
local notation "o1V" => (Memref.whole Cert.KernelIdeal.main_v15_1_scv : Memref Cert.KernelIdeal.sig Kind.scVector Space.hbm Cert.KernelIdeal.S1048576 EltTy.f32)
local notation "o2V" => (Memref.whole Cert.KernelIdeal.main_v15_2_scv : Memref Cert.KernelIdeal.sig Kind.scVector Space.hbm Cert.KernelIdeal.S1048576 EltTy.f32)
local notation "o3V" => (Memref.whole Cert.KernelIdeal.main_v15_3_scv : Memref Cert.KernelIdeal.sig Kind.scVector Space.hbm Cert.KernelIdeal.S1048576 EltTy.f32)
local notation "bufV" => (Memref.whole Cert.KernelIdeal.cc1_scratch0 : Memref Cert.KernelIdeal.sig Kind.scVector Space.vmem Cert.KernelIdeal.S6x1024 EltTy.f32)
local notation "listV" => (Memref.whole Cert.KernelIdeal.cc1_scratch1 : Memref Cert.KernelIdeal.sig Kind.scVector Space.vmem Cert.KernelIdeal.S2x8x128 EltTy.i32)
local notation "maskV" => (Memref.whole Cert.KernelIdeal.cc1_scratch2 : Memref Cert.KernelIdeal.sig Kind.scVector Space.vmem Cert.KernelIdeal.S1024 EltTy.f32)
local notation "gotV" => (Memref.whole Cert.KernelIdeal.cc1_scratch3 : Memref Cert.KernelIdeal.sig Kind.scVector Space.vmem Cert.KernelIdeal.S2x1024x16 EltTy.f32)
local notation "outV" => (Memref.whole Cert.KernelIdeal.cc1_scratch4 : Memref Cert.KernelIdeal.sig Kind.scVector Space.vmem Cert.KernelIdeal.S4x1024 EltTy.f32)

variable [FloatOps F]

/-! ## What the output scratch holds -/

/-- Channel `c` of sample `p` among the gathered rows. -/
def ch (C : S2x1024x16.Idx → F .f32) (p c : ℕ) : F .f32 :=
  C fun | 0 => ⟨c / 16 % 2, Nat.mod_lt _ (by decide)⟩ | 1 => ⟨p % 1024, Nat.mod_lt _ (by decide)⟩ | 2 => ⟨c % 16, Nat.mod_lt _ (by decide)⟩

/-- The mask of sample `p`. -/
def mAt (M : S1024.Idx → F .f32) (p : ℕ) : F .f32 := M fun | 0 => ⟨p % 1024, Nat.mod_lt _ (by decide)⟩

/-- Result `j` of sample `p` of the chunk. -/
def outAt (B : S6x1024.Idx → F .f32) (M : S1024.Idx → F .f32) (C : S2x1024x16.Idx → F .f32) (j : Fin 4) (p : ℕ) : F .f32 :=
  res (mAt M p) (coef (at6 B 3 p) (at6 B 4 p) (at6 B 5 p)) (ch C p) j

/-- The output scratch is done for the samples before `16 k`. -/
def OutOK (B : S6x1024.Idx → F .f32) (M : S1024.Idx → F .f32) (C : S2x1024x16.Idx → F .f32) (k : ℕ) (f : S4x1024.Idx → F .f32) : Prop :=
  ∀ s : S4x1024.Idx, (s 1).val < 16 * k → f s = outAt B M C (s 0) (s 1).val

variable (F) in
/-- One store of sixteen results into a row of the output scratch. -/
abbrev outStore {off : Fin 2 → ℕ} (inb : ∀ b, off b + S1x16.size b ≤ S4x1024.size b) (w : Vec F S16 .f32) : View.Piece (Elt F) S4x1024 EltTy.f32 :=
  ⟨Rect.unit (s := S4x1024) off S1x16.size inb, shapeCast S1x16 w shapeCasts_S16_S1x16⟩

/-- A store to row `j` leaves the other rows alone. -/
theorem outStore_other {f : S4x1024.Idx → F .f32} {off : Fin 2 → ℕ} (inb : ∀ b, off b + S1x16.size b ≤ S4x1024.size b) (w : Vec F S16 .f32) (l) (t j : ℕ)
    (ho : off = ![j, 16 * t]) (s : S4x1024.Idx) (hs : (s 0).val ≠ j ∨ (s 1).val < 16 * t) :
    (outV).view.read (Elt F) ((outV).view.writes (Elt F) f (outStore F inb w :: l)) s = (outV).view.read (Elt F) ((outV).view.writes (Elt F) f l) s := by
  rcases hs with hs | hs
  · exact View.read_writes_cons_unit_of_not_mem (size := S1x16.size) (outV).view _ _ _ _ s ho 0 (by
      rcases Nat.lt_or_gt_of_ne hs with h | h
      · left; exact h
      · right; show j + 1 ≤ (s 0).val; omega)
  · exact View.read_writes_cons_unit_of_not_mem (size := S1x16.size) (outV).view _ _ _ _ s ho 1 (by left; exact hs)

/-- A store to row `j` is what that row then holds of its sixteen samples. -/
theorem outStore_same {f : S4x1024.Idx → F .f32} {off : Fin 2 → ℕ} (inb : ∀ b, off b + S1x16.size b ≤ S4x1024.size b) (w : Vec F S16 .f32) (l) (t j : ℕ)
    (ho : off = ![j, 16 * t]) (s : S4x1024.Idx) (h0 : (s 0).val = j) (hx : (s 1).val - 16 * t < 16) (h1 : 16 * t ≤ (s 1).val) :
    (outV).view.read (Elt F) ((outV).view.writes (Elt F) f (outStore F inb w :: l)) s = w (fun | 0 => ⟨(s 1).val - 16 * t, hx⟩) := by
  let y : S1x16.Idx := fun | 0 => ⟨0, by decide⟩ | 1 => ⟨(s 1).val - 16 * t, hx⟩
  rw [View.read_writes_cons_unit_of_mem (size := S1x16.size) (outV).view _ _ _ _ s y ho (fun a => by
    match a with
    | 0 => show (s 0).val = j + 0; omega
    | 1 => show (s 1).val = 16 * t + ((s 1).val - 16 * t); omega)]
  exact shapeCast_apply _ _ _ (fun | 0 => ⟨(s 1).val - 16 * t, hx⟩ : S16.Idx) (by
    rw [Shape.rowMajor_val_one, Shape.rowMajor_val_two]
    show (s 1).val - 16 * t = 0 * 16 + ((s 1).val - 16 * t); omega)

/-- The four stores of a group. -/
theorem OutOK.step {B : S6x1024.Idx → F .f32} {M : S1024.Idx → F .f32} {C : S2x1024x16.Idx → F .f32} (t : Fin k1_t3_loop.trips)
    {f f' : S4x1024.Idx → F .f32} (hf : OutOK B M C t.val f) (w : Fin 4 → Vec F S16 .f32)
    (hw : ∀ j (x : S16.Idx), w j x = outAt B M C j (16 * t.val + (x 0).val))
    (hf' : f' = (outV).view.writes (Elt F) f [outStore F (k1_off15_inb t) (w 2), outStore F (k1_off14_inb t) (w 1),
      outStore F (k1_off13_inb t) (w 0), outStore F (k1_off12_inb t) (w 3)]) :
    OutOK B M C (t.val + 1) f' := by
  intro s hs
  have h0 : (s 0).val < 4 := (s 0).isLt
  have e : f' s = (outV).view.read (Elt F) f' s := rfl
  rw [e, hf']
  by_cases hlt : (s 1).val < 16 * t.val
  · rw [outStore_other _ _ _ t.val 2 (k1_off15_eq t) s (.inr hlt), outStore_other _ _ _ t.val 1 (k1_off14_eq t) s (.inr hlt),
      outStore_other _ _ _ t.val 0 (k1_off13_eq t) s (.inr hlt), outStore_other _ _ _ t.val 3 (k1_off12_eq t) s (.inr hlt)]
    exact hf s hlt
  have hx : (s 1).val - 16 * t.val < 16 := by omega
  have hge : 16 * t.val ≤ (s 1).val := by omega
  have fin : ∀ j : Fin 4, (s 0).val = j.val → w j (fun | 0 => ⟨(s 1).val - 16 * t.val, hx⟩) = outAt B M C (s 0) (s 1).val := by
    intro j hj
    rw [hw, show s 0 = j from Fin.ext hj]
    show outAt B M C j (16 * t.val + ((s 1).val - 16 * t.val)) = _
    rw [show 16 * t.val + ((s 1).val - 16 * t.val) = (s 1).val by omega]
  by_cases h2 : (s 0).val = 2
  · rw [outStore_same _ _ _ t.val 2 (k1_off15_eq t) s h2 hx hge]; exact fin 2 h2
  rw [outStore_other _ _ _ t.val 2 (k1_off15_eq t) s (.inl h2)]
  by_cases h1 : (s 0).val = 1
  · rw [outStore_same _ _ _ t.val 1 (k1_off14_eq t) s h1 hx hge]; exact fin 1 h1
  rw [outStore_other _ _ _ t.val 1 (k1_off14_eq t) s (.inl h1)]
  by_cases h00 : (s 0).val = 0
  · rw [outStore_same _ _ _ t.val 0 (k1_off13_eq t) s h00 hx hge]; exact fin 0 h00
  rw [outStore_other _ _ _ t.val 0 (k1_off13_eq t) s (.inl h00)]
  have h3 : (s 0).val = 3 := by omega
  rw [outStore_same _ _ _ t.val 3 (k1_off12_eq t) s h3 hx hge]
  exact fin 3 h3

/-! ## The lanes of a group -/

/-- Channel `c` of the sixteen samples of a group. -/
def val (C : S2x1024x16.Idx → F .f32) (t c : ℕ) : Vec F S16 .f32 := fun x => ch C (16 * t + (x 0).val) c

theorem sample_lanes : ∀ (t : Fin k1_t3_loop.trips) (l : Fin 16), (k1_pay10 0#32 1#32 t (fun | 0 => l)).toNat = 16 * t.val + l.val := by
  decide +kernel

/-- The group's sample numbers. -/
theorem sample_lane (t : Fin k1_t3_loop.trips) (x : S16.Idx) : (k1_pay10 0#32 1#32 t x).toNat = 16 * t.val + (x 0).val := by
  have e : x = fun | 0 => x 0 := funext fun | 0 => rfl
  rw [e]; exact sample_lanes t (x 0)

theorem chan_inb (t : Fin k1_t3_loop.trips) {c : ℕ} (hc : c < 28) : ∀ (a : Fin 3) (x : S16.Idx),
    ((![broadcast S16 (BitVec.ofNat 32 (c / 16)), k1_pay10 0#32 1#32 t, broadcast S16 (BitVec.ofNat 32 (c % 16))] : Fin 3 → IVec S16 32) a x).toNat < S2x1024x16.size a := by
  have ht : t.val < 64 := Nat.lt_of_lt_of_le t.isLt k1_t3_abs.2.1
  intro a x
  have hx : (x 0).val < 16 := (x 0).isLt
  match a with
  | 0 => show (BitVec.ofNat 32 (c / 16)).toNat < 2; rw [BitVec.toNat_ofNat]; omega
  | 1 => show (k1_pay10 0#32 1#32 t x).toNat < 1024; rw [sample_lane]; omega
  | 2 => show (BitVec.ofNat 32 (c % 16)).toNat < 16; rw [BitVec.toNat_ofNat]; omega

theorem loadIdx_chan (C : S2x1024x16.Idx → F .f32) (t : Fin k1_t3_loop.trips) {c : ℕ} (hc : c < 28)
    (h : ∀ (a : Fin 3) (x : S16.Idx),
      ((![broadcast S16 (BitVec.ofNat 32 (c / 16)), k1_pay10 0#32 1#32 t, broadcast S16 (BitVec.ofNat 32 (c % 16))] : Fin 3 → IVec S16 32) a x).toNat < S2x1024x16.size a) :
    (loadIdx (C : Vec F S2x1024x16 .f32) ![broadcast S16 (BitVec.ofNat 32 (c / 16)), k1_pay10 0#32 1#32 t, broadcast S16 (BitVec.ofNat 32 (c % 16))] h : Vec F S16 .f32)
      = val C t.val c := by
  have ht : t.val < 64 := Nat.lt_of_lt_of_le t.isLt k1_t3_abs.2.1
  funext x
  have hx : (x 0).val < 16 := (x 0).isLt
  show C _ = C _
  congr 1
  funext a
  match a with
  | 0 => exact Fin.ext (by show (BitVec.ofNat 32 (c / 16)).toNat = c / 16 % 2; rw [BitVec.toNat_ofNat]; omega)
  | 1 => exact Fin.ext (by show (k1_pay10 0#32 1#32 t x).toNat = (16 * t.val + (x 0).val) % 1024; rw [sample_lane]; omega)
  | 2 => exact Fin.ext (by show (BitVec.ofNat 32 (c % 16)).toNat = c % 16; rw [BitVec.toNat_ofNat]; omega)

/-! ## The group's arithmetic, lane by lane -/

theorem sigma_lane (m d0 d1 d2 : Vec F S16 .f32) (v : ℕ → Vec F S16 .f32) (x : S16.Idx) :
    k1_pay14 m (v 0) x = res (m x) (coef (d0 x) (d1 x) (d2 x)) (fun c => v c x) 3 := rfl

theorem colour0_lane (m : Vec F S16 .f32) (a b c : Vec F S1x16 .f32) (v : ℕ → Vec F S16 .f32) (x : S16.Idx) :
    k1_pay27 m (k1_pay19 a b) (k1_pay20 (k1_pay12 b) (k1_pay13 c)) (k1_pay21 (k1_pay11 a) (k1_pay12 b) (k1_pay13 c))
        (k1_pay22 (k1_pay11 a) (k1_pay13 c)) (k1_pay23 (k1_pay11 a) (k1_pay12 b))
        (k1_pay24 k1_pay15 (k1_pay16 b) (k1_pay17 c) (k1_pay18 a) (v 1) (v 2) (v 3) (v 4)) (v 5) (v 6) (v 7) (v 8) (v 9) x
      = res (m x) (coef (k1_pay11 a x) (k1_pay12 b x) (k1_pay13 c x)) (fun c => v c x) 0 := rfl

theorem colour1_lane (m : Vec F S16 .f32) (a b c : Vec F S1x16 .f32) (v : ℕ → Vec F S16 .f32) (x : S16.Idx) :
    k1_pay30 m (k1_pay17 c) (k1_pay18 a) (k1_pay19 a b) (k1_pay20 (k1_pay12 b) (k1_pay13 c)) (k1_pay21 (k1_pay11 a) (k1_pay12 b) (k1_pay13 c))
        (k1_pay22 (k1_pay11 a) (k1_pay13 c)) (k1_pay23 (k1_pay11 a) (k1_pay12 b))
        (k1_pay28 k1_pay15 (k1_pay16 b) (v 10) (v 11)) (v 12) (v 13) (v 14) (v 15) (v 16) (v 17) (v 18) x
      = res (m x) (coef (k1_pay11 a x) (k1_pay12 b x) (k1_pay13 c x)) (fun c => v c x) 1 := rfl

theorem colour2_lane (m : Vec F S16 .f32) (a b c : Vec F S1x16 .f32) (v : ℕ → Vec F S16 .f32) (x : S16.Idx) :
    k1_pay36 m (k1_pay22 (k1_pay11 a) (k1_pay13 c)) (k1_pay23 (k1_pay11 a) (k1_pay12 b))
        (k1_pay31 k1_pay15 (k1_pay16 b) (k1_pay17 c) (k1_pay18 a) (k1_pay19 a b) (k1_pay20 (k1_pay12 b) (k1_pay13 c))
          (k1_pay21 (k1_pay11 a) (k1_pay12 b) (k1_pay13 c)) (v 19) (v 20) (v 21) (v 22) (v 23) (v 24) (v 25)) (v 26) (v 27) x
      = res (m x) (coef (k1_pay11 a x) (k1_pay12 b x) (k1_pay13 c x)) (fun c => v c x) 2 := rfl

variable (F) in
/-- What a load of sixteen words reads of the mask. -/
abbrev rdM (M : S1024.Idx → F .f32) {off : Fin 1 → ℕ} (inb : ∀ b, off b + S16.size b ≤ S1024.size b) : Vec F S16 .f32 :=
  View.readAt (Elt F) (maskV).view (Rect.unit (s := S1024) off S16.size inb).toLoadRect (M : (maskV).view.ty.Contents (Elt F))

theorem mask_at {M : S1024.Idx → F .f32} {t : ℕ} (ht : t < 64) {off : Fin 1 → ℕ} (ho : off = ![16 * t])
    {inb : ∀ b, off b + S16.size b ≤ S1024.size b} (x : S16.Idx) : rdM F M inb x = mAt M (16 * t + (x 0).val) := by
  subst ho
  have hx : (x 0).val < 16 := (x 0).isLt
  show M _ = M _
  congr 1
  funext b
  match b with
  | 0 => exact Fin.ext (by show 16 * t + 1 * (x 0).val = (16 * t + (x 0).val) % 1024; omega)

variable (F) in
/-- The four vectors a group stores. -/
def stored (B : S6x1024.Idx → F .f32) (M : S1024.Idx → F .f32) (C : S2x1024x16.Idx → F .f32) (t : Fin k1_t3_loop.trips) : Fin 4 → Vec F S16 .f32
  | 0 => k1_pay27 (rdM F M (k1_off8_inb t)) (k1_pay19 (rd F B (k1_off9_inb t)) (rd F B (k1_off10_inb t))) (k1_pay20 (k1_pay12 (rd F B (k1_off10_inb t))) (k1_pay13 (rd F B (k1_off11_inb t))))
      (k1_pay21 (k1_pay11 (rd F B (k1_off9_inb t))) (k1_pay12 (rd F B (k1_off10_inb t))) (k1_pay13 (rd F B (k1_off11_inb t))))
      (k1_pay22 (k1_pay11 (rd F B (k1_off9_inb t))) (k1_pay13 (rd F B (k1_off11_inb t)))) (k1_pay23 (k1_pay11 (rd F B (k1_off9_inb t))) (k1_pay12 (rd F B (k1_off10_inb t))))
      (k1_pay24 k1_pay15 (k1_pay16 (rd F B (k1_off10_inb t))) (k1_pay17 (rd F B (k1_off11_inb t))) (k1_pay18 (rd F B (k1_off9_inb t))) (val C t.val 1) (val C t.val 2) (val C t.val 3) (val C t.val 4))
      (val C t.val 5) (val C t.val 6) (val C t.val 7) (val C t.val 8) (val C t.val 9)
  | 1 => k1_pay30 (rdM F M (k1_off8_inb t)) (k1_pay17 (rd F B (k1_off11_inb t))) (k1_pay18 (rd F B (k1_off9_inb t))) (k1_pay19 (rd F B (k1_off9_inb t)) (rd F B (k1_off10_inb t)))
      (k1_pay20 (k1_pay12 (rd F B (k1_off10_inb t))) (k1_pay13 (rd F B (k1_off11_inb t))))
      (k1_pay21 (k1_pay11 (rd F B (k1_off9_inb t))) (k1_pay12 (rd F B (k1_off10_inb t))) (k1_pay13 (rd F B (k1_off11_inb t))))
      (k1_pay22 (k1_pay11 (rd F B (k1_off9_inb t))) (k1_pay13 (rd F B (k1_off11_inb t)))) (k1_pay23 (k1_pay11 (rd F B (k1_off9_inb t))) (k1_pay12 (rd F B (k1_off10_inb t))))
      (k1_pay28 k1_pay15 (k1_pay16 (rd F B (k1_off10_inb t))) (val C t.val 10) (val C t.val 11))
      (val C t.val 12) (val C t.val 13) (val C t.val 14) (val C t.val 15) (val C t.val 16) (val C t.val 17) (val C t.val 18)
  | 2 => k1_pay36 (rdM F M (k1_off8_inb t)) (k1_pay22 (k1_pay11 (rd F B (k1_off9_inb t))) (k1_pay13 (rd F B (k1_off11_inb t)))) (k1_pay23 (k1_pay11 (rd F B (k1_off9_inb t))) (k1_pay12 (rd F B (k1_off10_inb t))))
      (k1_pay31 k1_pay15 (k1_pay16 (rd F B (k1_off10_inb t))) (k1_pay17 (rd F B (k1_off11_inb t))) (k1_pay18 (rd F B (k1_off9_inb t))) (k1_pay19 (rd F B (k1_off9_inb t)) (rd F B (k1_off10_inb t)))
        (k1_pay20 (k1_pay12 (rd F B (k1_off10_inb t))) (k1_pay13 (rd F B (k1_off11_inb t))))
        (k1_pay21 (k1_pay11 (rd F B (k1_off9_inb t))) (k1_pay12 (rd F B (k1_off10_inb t))) (k1_pay13 (rd F B (k1_off11_inb t))))
        (val C t.val 19) (val C t.val 20) (val C t.val 21) (val C t.val 22) (val C t.val 23) (val C t.val 24) (val C t.val 25)) (val C t.val 26) (val C t.val 27)
  | 3 => k1_pay14 (rdM F M (k1_off8_inb t)) (val C t.val 0)

theorem stored_eq (B : S6x1024.Idx → F .f32) (M : S1024.Idx → F .f32) (C : S2x1024x16.Idx → F .f32) (t : Fin k1_t3_loop.trips) (j : Fin 4) (x : S16.Idx) :
    stored F B M C t j x = outAt B M C j (16 * t.val + (x 0).val) := by
  have ht : t.val < 64 := Nat.lt_of_lt_of_le t.isLt k1_t3_abs.2.1
  have e : stored F B M C t j x = res (rdM F M (k1_off8_inb t) x)
      (coef (k1_pay11 (rd F B (k1_off9_inb t)) x) (k1_pay12 (rd F B (k1_off10_inb t)) x) (k1_pay13 (rd F B (k1_off11_inb t)) x)) (fun c => val C t.val c x) j := by
    match j with
    | 0 => exact colour0_lane _ _ _ _ (val C t.val) x
    | 1 => exact colour1_lane _ _ _ _ (val C t.val) x
    | 2 => exact colour2_lane _ _ _ _ (val C t.val) x
    | 3 => exact sigma_lane _ _ _ _ (val C t.val) x
  rw [e, mask_at ht (k1_off8_eq t), show k1_pay11 (rd F B (k1_off9_inb t)) x = _ from row_at ht 3 (k1_off9_eq t) x,
    show k1_pay12 (rd F B (k1_off10_inb t)) x = _ from row_at ht 4 (k1_off10_eq t) x, show k1_pay13 (rd F B (k1_off11_inb t)) x = _ from row_at ht 5 (k1_off11_eq t) x]
  rfl

section Tile

variable (d : Dev nD) (L : grid1.Coords)

/-- The second loop's state after `k` groups. -/
def invC (B : S6x1024.Idx → F .f32) (M : S1024.Idx → F .f32) (C : S2x1024x16.Idx → F .f32) (k : ℕ) : sProp 𝕄 :=
  iprop(((bufV).view.loc (V d (cW L) (jW L)) ↦{fullShare} (B : Buf (Elt F) ((V d (cW L) (jW L)).loc cc1_scratch0)))
    ∗ ((maskV).view.loc (V d (cW L) (jW L)) ↦{fullShare} (M : Buf (Elt F) ((V d (cW L) (jW L)).loc cc1_scratch2)))
    ∗ ((gotV).view.loc (V d (cW L) (jW L)) ↦{fullShare} (C : Buf (Elt F) ((V d (cW L) (jW L)).loc cc1_scratch3)))
    ∗ ∃ f : S4x1024.Idx → F .f32, ⌜OutOK B M C k f⌝
      ∗ ((outV).view.loc (V d (cW L) (jW L)) ↦{fullShare} (f : Buf (Elt F) ((V d (cW L) (jW L)).loc cc1_scratch4))))

/-- One indexed load with its check. -/
theorem wp_load_op {α : Type} {C : S2x1024x16.Idx → F .f32} (t : Fin k1_t3_loop.trips) (c : ℕ) (hc : c < 28)
    {dec : Decidable (∀ (a : Fin 3) (x : S16.Idx), ((![broadcast S16 (BitVec.ofNat 32 (c / 16)), k1_pay10 0#32 1#32 t, broadcast S16 (BitVec.ofNat 32 (c % 16))] : Fin 3 → IVec S16 32) a x).toNat < S2x1024x16.size a)}
    {kont : PLift (∀ (a : Fin 3) (x : S16.Idx), ((![broadcast S16 (BitVec.ofNat 32 (c / 16)), k1_pay10 0#32 1#32 t, broadcast S16 (BitVec.ofNat 32 (c % 16))] : Fin 3 → IVec S16 32) a x).toNat < S2x1024x16.size a)
      → Vec F S16 .f32 → Prog (TpuEff nD τ sig (Elt F) Λ₀ (V d (cW L) (jW L)).2) α} {Q : α → sProp 𝕄} :
    ((gotV).view.loc (V d (cW L) (jW L)) ↦{fullShare} (C : Buf (Elt F) ((V d (cW L) (jW L)).loc cc1_scratch3)))
      ⊢ iprop((((gotV).view.loc (V d (cW L) (jW L)) ↦{fullShare} (C : Buf (Elt F) ((V d (cW L) (jW L)).loc cc1_scratch3)))
          -∗ wp frame (wpE (defs₀ (F := F)) 𝒱₀ (V d (cW L) (jW L)) none) Set.univ (kont ⟨chan_inb t hc⟩ (val C t.val c)) Q)
        -∗ wp frame (wpE (defs₀ (F := F)) 𝒱₀ (V d (cW L) (jW L)) none) Set.univ
          (.op (.assume _ dec) fun u => SparseCore.vectorLoadIdx gotV
            ![broadcast S16 (BitVec.ofNat 32 (c / 16)), k1_pay10 0#32 1#32 t, broadcast S16 (BitVec.ofNat 32 (c % 16))] u.down (View.loads_vmem h_S2x1024x16) >>= kont u) Q) := by
  rw [wp_assume_of _ _ _ _ (chan_inb t hc)]
  have e : loadIdx (View.read (Elt F) ((gotV).access (.whole S2x1024x16)) C)
      ![broadcast S16 (BitVec.ofNat 32 (c / 16)), k1_pay10 0#32 1#32 t, broadcast S16 (BitVec.ofNat 32 (c % 16))] (chan_inb t hc) = val C t.val c :=
    (congrArg (fun g => loadIdx (e := .f32) g ![broadcast S16 (BitVec.ofNat 32 (c / 16)), k1_pay10 0#32 1#32 t, broadcast S16 (BitVec.ofNat 32 (c % 16))] (chan_inb t hc))
      (Memref.read_access_whole (Elt F) cc1_scratch3 C)).trans (loadIdx_chan C t hc (chan_inb t hc))
  rw [← e]
  exact SparseCore.wp_vectorLoadIdx (E := Set.univ) (Q := Q) 𝒱₀ (V d (cW L) (jW L)) none (defs := defs₀ (F := F)) (base := gotV)
    (idxs := ![broadcast S16 (BitVec.ofNat 32 (c / 16)), k1_pay10 0#32 1#32 t, broadcast S16 (BitVec.ofNat 32 (c % 16))])
    (h := chan_inb t hc) (hl := View.loads_vmem h_S2x1024x16) (k := kont ⟨chan_inb t hc⟩) (S := Finset.univ) (q := fullShare) (f := C) (Finset.subset_univ _)

theorem color_step (B : S6x1024.Idx → F .f32) (M : S1024.Idx → F .f32) (C : S2x1024x16.Idx → F .f32) (t1 : Fin k1_t1_loop.trips) (t3 : Fin k1_t3_loop.trips) :
    invC (F := F) d L B M C t3.val
      ⊢ wp frame (wpE (defs₀ (F := F)) 𝒱₀ (V d (cW L) (jW L)) none) Set.univ
          (k1_t3_body L x0V (Memref.isWhole_whole _) x1V (Memref.isWhole_whole _) x2V (Memref.isWhole_whole _) x3V (Memref.isWhole_whole _)
            x4V (Memref.isWhole_whole _) x5V (Memref.isWhole_whole _) tabV (Memref.isWhole_whole _) o0V (Memref.isWhole_whole _)
            o1V (Memref.isWhole_whole _) o2V (Memref.isWhole_whole _) o3V (Memref.isWhole_whole _) bufV (Memref.isWhole_whole _)
            listV (Memref.isWhole_whole _) maskV (Memref.isWhole_whole _) gotV (Memref.isWhole_whole _) outV (Memref.isWhole_whole _)
            cc1_scratch5 cc1_scratch6 cc1_scoped0 cc1_scoped1 cc1_scoped2 cc1_scoped3 t1 t3 ()) fun _ => invC (F := F) d L B M C (t3.val + 1) := by
  unfold k1_t3_body
  simp only [k1_part3_eq_skeleton, k1_part4_eq_skeleton, k1_part5_eq_skeleton, k1_part6_eq_skeleton, k1_part7_eq_skeleton]
  unfold k1_part3_skel k1_part4_skel k1_part5_skel k1_part6_skel k1_part7_skel
  simp only [bind_assoc, pure_bind]
  unfold invC
  iintro ⟨HB, HM, HC, %f, %hf, Hf⟩
  sl_exec
  iapply (wp_load_op d L t3 0 (by decide)) $$ HC; iintro HC; sl_exec
  iapply (wp_load_op d L t3 1 (by decide)) $$ HC; iintro HC
  iapply (wp_load_op d L t3 2 (by decide)) $$ HC; iintro HC
  iapply (wp_load_op d L t3 3 (by decide)) $$ HC; iintro HC
  iapply (wp_load_op d L t3 4 (by decide)) $$ HC; iintro HC
  iapply (wp_load_op d L t3 5 (by decide)) $$ HC; iintro HC
  iapply (wp_load_op d L t3 6 (by decide)) $$ HC; iintro HC
  iapply (wp_load_op d L t3 7 (by decide)) $$ HC; iintro HC
  iapply (wp_load_op d L t3 8 (by decide)) $$ HC; iintro HC
  iapply (wp_load_op d L t3 9 (by decide)) $$ HC; iintro HC; sl_exec
  iapply (wp_load_op d L t3 10 (by decide)) $$ HC; iintro HC
  iapply (wp_load_op d L t3 11 (by decide)) $$ HC; iintro HC
  iapply (wp_load_op d L t3 12 (by decide)) $$ HC; iintro HC
  iapply (wp_load_op d L t3 13 (by decide)) $$ HC; iintro HC
  iapply (wp_load_op d L t3 14 (by decide)) $$ HC; iintro HC
  iapply (wp_load_op d L t3 15 (by decide)) $$ HC; iintro HC
  iapply (wp_load_op d L t3 16 (by decide)) $$ HC; iintro HC
  iapply (wp_load_op d L t3 17 (by decide)) $$ HC; iintro HC
  iapply (wp_load_op d L t3 18 (by decide)) $$ HC; iintro HC; sl_exec
  iapply (wp_load_op d L t3 19 (by decide)) $$ HC; iintro HC
  iapply (wp_load_op d L t3 20 (by decide)) $$ HC; iintro HC
  iapply (wp_load_op d L t3 21 (by decide)) $$ HC; iintro HC
  iapply (wp_load_op d L t3 22 (by decide)) $$ HC; iintro HC
  iapply (wp_load_op d L t3 23 (by decide)) $$ HC; iintro HC
  iapply (wp_load_op d L t3 24 (by decide)) $$ HC; iintro HC
  iapply (wp_load_op d L t3 25 (by decide)) $$ HC; iintro HC
  iapply (wp_load_op d L t3 26 (by decide)) $$ HC; iintro HC
  iapply (wp_load_op d L t3 27 (by decide)) $$ HC; iintro HC; sl_exec
  sl_step
  isplitl [HB]; · iexact HB
  isplitl [HM]; · iexact HM
  isplitl [HC]; · iexact HC
  iexists _; isplitr; swap
  · iexact Hf
  ipureintro
  exact hf.step t3 (stored F B M C t3) (stored_eq B M C t3) rfl

end Tile

end Cert.Proof.Run

end
-- ==== Proof.GatherBatch.lean ====
/-
  Several indirect gathers in flight on one semaphore.

  A gather moves one row per word of its list, and its wait asks for all of its rows' credit at once. With several gathers
  issued before the first wait, a wait may be met by rows of any of them; what is known is only that after the last wait
  every row has landed. So the rows of all the gathers together form ONE counted batch, a gather issuing as many of the
  batch's transfers as it has rows: `wp_gatherBatch` is its issue, `rowDel` what one row's landing hands back and
  `rowDel_join` what the rows of one gather make together.
-/
module

public import Idealize.ShloMosaic.Lib.Batch
public import Idealize.ShloMosaic.Lib.SparseCore.Stream

@[expose] public section

noncomputable section

namespace Cert.Proof.GatherBatch

open Idealize.ShloMosaic Idealize.ShloMosaic.Transfers Idealize.ShloMosaic.SparseCore
open Idealize.SL
open Idealize.SL.BI (sProp Storable bigSep)
open scoped Idealize.SL.BI
open Idealize.SL.BI.BIBase Idealize.SL.BI.Laws Idealize.SL.Sem Idealize.SL.ProofMode
open Idealize.SL.RA

section Families

variable {nD : Nat} {τ : Topo} {sig : RefSig} {Ix : Type} [DecidableEq Ix] {Val : EltTy → Type} {Name : Type} [DecidableEq Name]
variable {U : Type} [URA U] {Lvl : Type} [Preorder Lvl]

local notation "𝕄" => MT nD τ sig Ix Val Name U Lvl

variable {n : ℕ}

theorem eq_of_entails {P Q : sProp 𝕄} (h : P ⊢ Q) (h' : Q ⊢ P) : P = Q := BI.Entails.antisymm h h'

theorem emp_left (P : sProp 𝕄) : P = iprop(emp ∗ P) :=
  eq_of_entails (by iintro H; isplitr; (· iempintro); iexact H) (by iintro ⟨-, H⟩; iexact H)

/-- The next `o` members of a numbered family, and those after them. -/
theorem bigSep_pending_block (D : Fin n → sProp 𝕄) : ∀ (o k k' : ℕ) (hk : k + o = k') (h : k' ≤ n),
    bigSep (pending k) D = iprop((bigSep Finset.univ fun j : Fin o => D ⟨k + j.val, by omega⟩) ∗ bigSep (pending k') D)
  | 0, k, k', hk, h => by
    subst hk
    rw [Finset.univ_eq_empty, BI.bigSep_empty, Nat.add_zero]
    exact emp_left _
  | o + 1, k, k', hk, h => by
    rw [bigSep_pending_step D k (by omega), bigSep_pending_block D o (k + 1) k' (by omega) h, bigSep_univ_succ,
      show (fun j : Fin o => D ⟨k + 1 + j.val, by omega⟩) = fun j : Fin o => D ⟨k + (j.succ).val, by rw [Fin.val_succ]; omega⟩ from
        funext fun j => congrArg D (Fin.ext (by show k + 1 + j.val = k + (j.val + 1); omega))]
    have h0 : D ⟨k, by omega⟩ = D ⟨k + (0 : Fin (o + 1)).val, by rw [Fin.val_zero]; omega⟩ := rfl
    refine eq_of_entails ?_ ?_
    · iintro ⟨H0, H1, H2⟩
      isplitl [H0 H1]
      · isplitl [H0]; · iapply (Entails.of_eq h0) $$ H0
        iexact H1
      iexact H2
    · iintro ⟨⟨H0, H1⟩, H2⟩
      isplitl [H0]; · iapply (Entails.of_eq h0.symm) $$ H0
      isplitl [H1]; · iexact H1
      iexact H2

/-- A family of `m` groups of `o`, group by group. -/
theorem bigSep_groups {m o : ℕ} (hn : m * o = n) (D : Fin n → sProp 𝕄) (E : Fin m → sProp 𝕄)
    (hlt : ∀ (g : Fin m) (j : Fin o), g.val * o + j.val < n)
    (hE : ∀ g, (bigSep Finset.univ fun j : Fin o => D ⟨g.val * o + j.val, hlt g j⟩) ⊢ E g) :
    bigSep Finset.univ D ⊢ bigSep Finset.univ E := by
  subst hn
  have key : ∀ k : ℕ, k ≤ m → bigSep (pending (n := m * o) ((m - k) * o)) D ⊢ bigSep (pending (n := m) (m - k)) E := by
    intro k
    induction k with
    | zero =>
      intro _
      have e : (pending (n := m) (m - 0)) = ∅ := by
        unfold pending; exact Finset.filter_false_of_mem fun t _ => by omega
      rw [e, BI.bigSep_empty]
      iintro -
      iempintro
    | succ k ih =>
      intro hk
      have h1 : (m - (k + 1)) * o + o = (m - k) * o := by
        rw [show m - k = (m - (k + 1)) + 1 by omega, Nat.add_mul, Nat.one_mul]
      have h2 : (m - k) * o ≤ m * o := Nat.mul_le_mul_right _ (Nat.sub_le _ _)
      rw [bigSep_pending_block D o ((m - (k + 1)) * o) _ h1 h2, bigSep_pending_step E (m - (k + 1)) (by omega),
        show m - (k + 1) + 1 = m - k by omega]
      exact sep_mono (hE ⟨m - (k + 1), by omega⟩) (ih (by omega))
  have h := key m le_rfl
  rw [Nat.sub_self, Nat.zero_mul, pending_zero, pending_zero] at h
  exact h

end Families

section Gathers

variable {nD : Nat} {τ : Topo} {sig : RefSig} {Ix : Type} [DecidableEq Ix]
variable {F : FTy → Type} {Name : Type} [DecidableEq Name]
variable {U : Type} [URA U] {Lvl : Type} [Preorder Lvl] {Λ : Labels}
variable {defs : Defs nD τ sig (Elt F) Λ} (EC : UEmb Counters (MT nD τ sig Ix (Elt F) Name U Lvl)) (𝒱 : Variants) (c : Thread nD τ) (bd : Option 𝒱.V)
variable {sp : Space} {s₀ s si : Shape} {e : EltTy} {a : Nat} {α : Type} {Q : α → sProp (MT nD τ sig Ix (Elt F) Name U Lvl)}

local notation "𝕄" => MT nD τ sig Ix (Elt F) Name U Lvl

/-- What the landing of row `j` of a gather hands back: the destination's row written with the source's row that word `j`
    of the list names, that word of the list, and row `j`'s piece of the source's share. -/
def rowDel (src : Memref sig c.2.kind sp s₀ e) (dst : Memref sig c.2.kind .vmem s e) (hg : s₀.Gathers a s)
    (offs : Memref sig c.2.kind .vmem si .i32) (hn : si.numel = s.size hg.axis') (ho : 0 < s.size hg.axis')
    (q qo : PosShare TreeShare) (fs : Buf (Elt F) (src.view.loc c)) (fd : Buf (Elt F) (dst.view.loc c)) (fo : Buf (Elt F) (offs.view.loc c))
    (hin : ∀ x, (offs.view.read (Elt F) fo x).toNat < s₀.size hg.axis) (j : Fin (s.size hg.axis')) : sProp 𝕄 :=
  iprop(((dst.view.loc c ↦[(dst.view.slice (s.rowRect hg.axis' j)).set]{fullShare}
        ((dst.view.slice (s.rowRect hg.axis' j)).write (Elt F) fd
          (fun i : (s.rowShape hg.axis').Idx => src.view.read (Elt F) fs (hg.rowIdx (rows (offs.view.read (Elt F) fo) hn hin j) i)) Finset.univ))
      ∗ (offs.view.loc c ↦[{offs.view.emb (si.rowMajor.symm (j.cast hn.symm))}]{qo} fo))
    ∗ (src.view.loc c ↦[src.view.set]{pieceOf q _ ho j} fs))

instance rowDel_storable (src : Memref sig c.2.kind sp s₀ e) (dst : Memref sig c.2.kind .vmem s e) (hg : s₀.Gathers a s)
    (offs : Memref sig c.2.kind .vmem si .i32) (hn : si.numel = s.size hg.axis') (ho : 0 < s.size hg.axis')
    (q qo : PosShare TreeShare) (fs : Buf (Elt F) (src.view.loc c)) (fd : Buf (Elt F) (dst.view.loc c)) (fo : Buf (Elt F) (offs.view.loc c))
    (hin : ∀ x, (offs.view.read (Elt F) fo x).toNat < s₀.size hg.axis) (j : Fin (s.size hg.axis')) :
    Storable (upEmb : UEmb _ 𝕄) (rowDel c src dst hg offs hn ho q qo fs fd fo hin j) := by
  unfold rowDel; infer_instance

omit [Preorder Lvl] in
theorem entry_bijective {o : ℕ} (hn : si.numel = o) : Function.Bijective fun j : Fin o => si.rowMajor.symm (j.cast hn.symm) :=
  si.rowMajor.symm.bijective.comp (finCongr hn.symm).bijective

/-- All the rows of a gather: the destination written with what the gather reads, the source's and the list's shares. -/
theorem rowDel_join (src : Memref sig c.2.kind sp s₀ e) (dst : Memref sig c.2.kind .vmem s e) (hg : s₀.Gathers a s)
    (offs : Memref sig c.2.kind .vmem si .i32) (hn : si.numel = s.size hg.axis') (ho : 0 < s.size hg.axis')
    (q qo : PosShare TreeShare) (fs : Buf (Elt F) (src.view.loc c)) (fd : Buf (Elt F) (dst.view.loc c)) (fo : Buf (Elt F) (offs.view.loc c))
    (hin : ∀ x, (offs.view.read (Elt F) fo x).toNat < s₀.size hg.axis) :
    bigSep Finset.univ (rowDel (Ix := Ix) (Name := Name) (U := U) (Lvl := Lvl) c src dst hg offs hn ho q qo fs fd fo hin)
      ⊢ iprop((dst.view.loc c ↦[dst.view.set]{fullShare}
            (dst.view.write (Elt F) fd (gatherPayload hg (src.view.read (Elt F) fs) (rows (offs.view.read (Elt F) fo) hn hin)) Finset.univ))
          ∗ (src.view.loc c ↦[src.view.set]{q} fs) ∗ (offs.view.loc c ↦[offs.view.set]{qo} fo)) := by
  unfold rowDel
  iintro H
  ihave H := Transfers.bigSep_sep_out _ _ _ $$ H
  icases H with ⟨H, Hs⟩
  ihave H := Transfers.bigSep_sep_out _ _ _ $$ H
  icases H with ⟨Hd, Ho⟩
  ihave Hs := (Entails.of_eq (pointsTo_piecesOf src.view.set fs ho q).symm) $$ Hs
  ihave Ho := (Entails.of_eq (pointsTo_entries c offs.view (fun j => si.rowMajor.symm (j.cast hn.symm)) (entry_bijective hn) qo fo).symm) $$ Ho
  isplitl [Hd]
  · have hW : ∀ k (j : (s.rowShape hg.axis').Idx), src.view.read (Elt F) fs (hg.rowIdx (rows (offs.view.read (Elt F) fo) hn hin k) j)
        = gatherPayload hg (src.view.read (Elt F) fs) (rows (offs.view.read (Elt F) fo) hn hin) ((s.rowRect hg.axis' k).emb j) := fun k j => by
      unfold gatherPayload; rw [Shape.Gathers.idx_rowRect_emb]
    iapply (pointsTo_rows_write c dst.view hg.axis' fd _ _ hW) $$ Hd
  isplitl [Hs]; · iexact Hs
  iexact Ho

/-- The issue of a gather among the transfers of a batch: from a share of the source, the destination's window and a share of
    the list, whose words are in range, the batch goes on by as many transfers as the gather has rows, transfer `k + j`
    delivering row `j`. -/
theorem wp_gatherBatch [Infinite Name] [EC.LandsIn (upEmb : UEmb _ 𝕄)] {n k : ℕ}
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {kont : PUnit → Prog (TpuEff nD τ sig (Elt F) Λ c.2) α}
    {q qo : PosShare TreeShare} {fs : Buf (Elt F) (src.view.loc c)} {fd : Buf (Elt F) (dst.view.loc c)} {fo : Buf (Elt F) (offs.view.loc c)}
    (ι : Ix) (N : ℕ) (hN : ∀ j, (dst.slice (s.rowRect hg.axis' j) (s.stride_rowRect hg.axis' j)).view.dmaCredit = N)
    (ho : 0 < s.size hg.axis') (hk : k + s.size hg.axis' ≤ n) (hin : ∀ x, (offs.view.read (Elt F) fo x).toNat < s₀.size hg.axis)
    {D : Fin n → sProp 𝕄} (hD : ∀ j : Fin (s.size hg.axis'), rowDel c src dst hg offs hn ho q qo fs fd fo hin j ⊢ D ⟨k + j.val, by omega⟩) :
    iprop((src.view.loc c ↦[src.view.set]{q} fs) ∗ (dst.view.loc c ↦[dst.view.set]{fullShare} fd)
        ∗ (offs.view.loc c ↦[offs.view.set]{qo} fo) ∗ Batch EC c (.dma sem) ι N D k 0)
      ⊢ iprop((Batch EC c (.dma sem) ι N D (k + s.size hg.axis') 0 -∗ wp frame (wpE defs 𝒱 c bd) Set.univ (kont ⟨⟩) Q)
          -∗ wp frame (wpE defs 𝒱 c bd) Set.univ (enqueueIndirectGather hp src dst hg offs hn sem hsrc he hsp hr >>= kont) Q) := by
  rw [enqueueIndirectGather_bind]
  let S : Stream nD τ sig (Elt F) :=
    Stream.issued c offs.view hn sem (fun j w => (rowOf (s₀.size hg.axis) w).map (gatherRow c src dst hg sem hsrc he hsp hr j)) 0
  let rd : Fin (s.size hg.axis') → RowDma τ sig (Elt F) c.2 sem := fun j =>
    gatherRow c src dst hg sem hsrc he hsp hr j (rows (offs.view.read (Elt F) fo) hn hin j)
  have hA : S.RowsAgree := by
    intro j x x' ρ ρ' h h'
    obtain ⟨_, _, rfl⟩ := Option.map_eq_some_iff.mp h
    obtain ⟨_, _, rfl⟩ := Option.map_eq_some_iff.mp h'
    rfl
  have hrd : ∀ j, S.row j (S.word fo j) = some (rd j) := fun j => by
    change (rowOf (s₀.size hg.axis) (offs.view.read (Elt F) fo (S.entry j))).map _ = _
    rw [rowOf_of_lt (hin _)]; rfl
  have hsum : ∑ j, (rd j).dst.view.dmaCredit = s.size hg.axis' * N := by
    rw [Finset.sum_congr rfl fun j _ => show (rd j).dst.view.dmaCredit = N from hN j, Finset.sum_const, Finset.card_univ, Fintype.card_fin, smul_eq_mul]
  unfold Batch
  iintro ⟨Hs, Hd, Ho, ⟨%γ, %γ₀, %κ, #Hinv, Hγ, H0, Hcred⟩⟩ Hk
  ihave Hγ := (Entails.of_eq (bigSep_pending_block _ (s.size hg.axis') k _ rfl hk)) $$ Hγ
  icases Hγ with ⟨Hγ, Hγ'⟩
  ihave Hd := (Entails.of_eq (pointsTo_rows c dst.view hg.axis' fullShare fd)) $$ Hd
  ihave Ho := (Entails.of_eq (pointsTo_entries c offs.view S.entry (entry_bijective hn) qo fo)) $$ Ho
  ihave Hs := (Entails.of_eq (pointsTo_piecesOf (src.view.set) fs ho q)) $$ Hs
  have hrow : ∀ j : Fin (s.size hg.axis'), iprop(inv κ (batchBody EC (c, SemLoc.dma sem) N D γ γ₀)
        ∗ ((((dst.view.loc c ↦[(dst.view.slice (s.rowRect hg.axis' j)).set]{fullShare} fd) ∗ S.heldEntry qo fo j)
        ∗ (src.view.loc c ↦[src.view.set]{pieceOf q _ ho j} fs)) ∗ count EC (γ ⟨k + j.val, by omega⟩) 0))
      ⊢ iprop(S.heldEntry qo fo j ∗ (S.heldEntry qo fo j -∗ rowRes c (rd j))) := fun j => by
    iintro ⟨#Hinv, ⟨⟨Hr, He⟩, Hsq⟩, Hγj⟩
    isplitl [He]; · iexact He
    iintro He
    unfold rowRes
    iexists pieceOf q _ ho j, fs, iprop((dst.view.loc c ↦[(dst.view.slice (s.rowRect hg.axis' j)).set]{fullShare}
      ((dst.view.slice (s.rowRect hg.axis' j)).write (Elt F) fd
          (fun i : (s.rowShape hg.axis').Idx => src.view.read (Elt F) fs (hg.rowIdx (rows (offs.view.read (Elt F) fo) hn hin j) i)) Finset.univ)) ∗ S.heldEntry qo fo j)
    isplitl [Hsq]; · iexact Hsq
    isplitl [Hr He]
    · iapply writeUpdate_frame
      isplitl [Hr]
      · iapply (pointsTo_writeUpdate c (v := dst.view.slice (s.rowRect hg.axis' j)) subset_rfl) $$ Hr
      · iexact He
    · ihave Hcu := (batch_creditUpdate EC (g := (c, SemLoc.dma sem)) (N := N) (D := D) (γ := γ) (γ₀ := γ₀) (ι := κ) ⟨k + j.val, by omega⟩ (hD j)) $$ [Hγj]
      · isplitr; · iexact Hinv
        iexact Hγj
      iapply (Entails.of_eq (congrArg (fun x => creditUpdate (c, SemLoc.dma sem) x 0 _) (show N = (rd j).dst.view.amount (.dma sem) from (hN j).symm))) $$ Hcu
  iapply (wp_enqueueIndirectDma 𝒱 c bd Set.univ (qo := qo) (fo := fo) (rd := rd) ι (s.size hg.axis' * N) hA hrd hsum) $$ [Hd Ho Hs Hγ]
  · unfold Stream.res
    ihave H1 := Transfers.bigSep_sep_in _ _ _ $$ [Hd Ho]; · isplitl [Hd] <;> iassumption
    ihave H2 := Transfers.bigSep_sep_in _ _ _ $$ [H1 Hs]; · isplitl [H1] <;> iassumption
    ihave H3 := Transfers.bigSep_sep_in _ _ _ $$ [H2 Hγ]; · isplitl [H2] <;> iassumption
    iapply (Transfers.bigSep_mono_pers Finset.univ _ _ _ fun j _ => hrow j)
    isplitr; · iexact Hinv
    iexact H3
  iintro Hcred'
  iapply Hk
  iexists γ, γ₀, κ
  isplitr; · iexact Hinv
  isplitl [Hγ']; · iexact Hγ'
  isplitl [H0]; · iexact H0
  have hc : (k + s.size hg.axis') * N - 0 = (k * N - 0) + s.size hg.axis' * N := by rw [Nat.add_mul]; omega
  icombine Hcred Hcred' as H
  iapply (Entails.of_eq (congrArg cred ((tallyAt_add _ _ _ _).trans (congrArg _ hc.symm)))) $$ H

end Gathers

end Cert.Proof.GatherBatch

end
-- ==== Proof.ShadeGather.lean ====
/-
  Call 1, the gather of a chunk: sixteen indirect copies in flight on one semaphore.

  Gather `g` reads row `g % 8` of half `g / 8` of the list and brings that many rows of the table to rows
  `128 (g % 8) ..` of half `g / 8` of the receiving scratch. All are issued before the first wait, so their 2048 rows form
  one counted batch, collected after the sixteenth wait. `gathered` is what the scratch then holds.
-/
module

public import proofs.«01_k».proof.Proof.ShadeIndex
public import proofs.«01_k».proof.Proof.GatherBatch

@[expose] public section

noncomputable section

namespace Cert.Proof.Run

open Cert.KernelIdeal Cert.KernelIdeal.Gen Cert.Proof.Spec
open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ShareLeaves (leaf pointsTo_leaves)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

local notation "x0V" => (Memref.whole Cert.KernelIdeal.main_v4_scv : Memref Cert.KernelIdeal.sig Kind.scVector Space.hbm Cert.KernelIdeal.S1048576 EltTy.f32)
local notation "x1V" => (Memref.whole Cert.KernelIdeal.main_v6_scv : Memref Cert.KernelIdeal.sig Kind.scVector Space.hbm Cert.KernelIdeal.S1048576 EltTy.f32)
local notation "x2V" => (Memref.whole Cert.KernelIdeal.main_v8_scv : Memref Cert.KernelIdeal.sig Kind.scVector Space.hbm Cert.KernelIdeal.S1048576 EltTy.f32)
local notation "x3V" => (Memref.whole Cert.KernelIdeal.main_v10_scv : Memref Cert.KernelIdeal.sig Kind.scVector Space.hbm Cert.KernelIdeal.S1048576 EltTy.f32)
local notation "x4V" => (Memref.whole Cert.KernelIdeal.main_v12_scv : Memref Cert.KernelIdeal.sig Kind.scVector Space.hbm Cert.KernelIdeal.S1048576 EltTy.f32)
local notation "x5V" => (Memref.whole Cert.KernelIdeal.main_v14_scv : Memref Cert.KernelIdeal.sig Kind.scVector Space.hbm Cert.KernelIdeal.S1048576 EltTy.f32)
local notation "tabV" => (Memref.whole Cert.KernelIdeal.main_v2_scv : Memref Cert.KernelIdeal.sig Kind.scVector Space.hbm Cert.KernelIdeal.S4194304x16 EltTy.f32)
local notation "o0V" => (Memref.whole Cert.KernelIdeal.main_v15_0_scv : Memref Cert.KernelIdeal.sig Kind.scVector Space.hbm Cert.KernelIdeal.S1048576 EltTy.f32)
local notation "o1V" => (Memref.whole Cert.KernelIdeal.main_v15_1_scv : Memref Cert.KernelIdeal.sig Kind.scVector Space.hbm Cert.KernelIdeal.S1048576 EltTy.f32)
local notation "o2V" => (Memref.whole Cert.KernelIdeal.main_v15_2_scv : Memref Cert.KernelIdeal.sig Kind.scVector Space.hbm Cert.KernelIdeal.S1048576 EltTy.f32)
local notation "o3V" => (Memref.whole Cert.KernelIdeal.main_v15_3_scv : Memref Cert.KernelIdeal.sig Kind.scVector Space.hbm Cert.KernelIdeal.S1048576 EltTy.f32)
local notation "bufV" => (Memref.whole Cert.KernelIdeal.cc1_scratch0 : Memref Cert.KernelIdeal.sig Kind.scVector Space.vmem Cert.KernelIdeal.S6x1024 EltTy.f32)
local notation "listV" => (Memref.whole Cert.KernelIdeal.cc1_scratch1 : Memref Cert.KernelIdeal.sig Kind.scVector Space.vmem Cert.KernelIdeal.S2x8x128 EltTy.i32)
local notation "maskV" => (Memref.whole Cert.KernelIdeal.cc1_scratch2 : Memref Cert.KernelIdeal.sig Kind.scVector Space.vmem Cert.KernelIdeal.S1024 EltTy.f32)
local notation "gotV" => (Memref.whole Cert.KernelIdeal.cc1_scratch3 : Memref Cert.KernelIdeal.sig Kind.scVector Space.vmem Cert.KernelIdeal.S2x1024x16 EltTy.f32)
local notation "outV" => (Memref.whole Cert.KernelIdeal.cc1_scratch4 : Memref Cert.KernelIdeal.sig Kind.scVector Space.vmem Cert.KernelIdeal.S4x1024 EltTy.f32)

variable [FloatOps F]

/-! ## The windows -/

theorem gotInb (g : ℕ) (hg : g < 16) : ∀ b, (![g / 8, 128 * (g % 8), 0] : Fin 3 → ℕ) b + S1x128x16.size b ≤ S2x1024x16.size b := by
  intro b
  match b with
  | 0 => show g / 8 + 1 ≤ 2; omega
  | 1 => show 128 * (g % 8) + 128 ≤ 1024; omega
  | 2 => show 0 + 16 ≤ 16; omega

theorem offInb (g : ℕ) (hg : g < 16) : ∀ b, (![g / 8, g % 8, 0] : Fin 3 → ℕ) b + S1x1x128.size b ≤ S2x8x128.size b := by
  intro b
  match b with
  | 0 => show g / 8 + 1 ≤ 2; omega
  | 1 => show g % 8 + 1 ≤ 8; omega
  | 2 => show 0 + 128 ≤ 128; omega

/-- Gather `g`'s destination, its part of the list, and its source. -/
abbrev gotW (g : ℕ) (hg : g < 16) := ((gotV).slice (Rect.unit (s := S2x1024x16) ![g / 8, 128 * (g % 8), 0] S1x128x16.size (gotInb g hg)) (fun _ => rfl)).squeeze S128x16 squeezes_S1x128x16_S128x16
abbrev offW (g : ℕ) (hg : g < 16) := ((listV).slice (Rect.unit (s := S2x8x128) ![g / 8, g % 8, 0] S1x1x128.size (offInb g hg)) (fun _ => rfl)).squeeze S128 squeezes_S1x1x128_S128
abbrev tabS := (tabV).slice (Rect.unit (s := S4194304x16) ![0, 0] S4194304x16.size inb_S4194304x16_S4194304x16_0_0) (fun _ => rfl)

theorem mem_gotW {g : ℕ} (hg : g < 16) (s : S2x1024x16.Idx) :
    s ∈ ((gotW g hg).view.set : Finset S2x1024x16.Idx) ↔ 8 * (s 0).val + (s 1).val / 128 = g := by
  have e : ((gotW g hg).view.set : Finset S2x1024x16.Idx) = (Rect.unit (s := S2x1024x16) ![g / 8, 128 * (g % 8), 0] S1x128x16.size (gotInb g hg)).set :=
    (View.set_reshape _ _).trans (View.set_slice_whole cc1_scratch3 _)
  have h0 : (s 0).val < 2 := (s 0).isLt
  have h1 : (s 1).val < 1024 := (s 1).isLt
  have h2 : (s 2).val < 16 := (s 2).isLt
  rw [e, Rect.mem_set_unit]
  constructor
  · intro h
    have a0 : g / 8 ≤ (s 0).val ∧ (s 0).val < g / 8 + 1 := h 0
    have a1 : 128 * (g % 8) ≤ (s 1).val ∧ (s 1).val < 128 * (g % 8) + 128 := h 1
    omega
  · intro h a
    match a with
    | 0 => show g / 8 ≤ (s 0).val ∧ (s 0).val < g / 8 + 1; omega
    | 1 => show 128 * (g % 8) ≤ (s 1).val ∧ (s 1).val < 128 * (g % 8) + 128; omega
    | 2 => show 0 ≤ (s 2).val ∧ (s 2).val < 0 + 16; omega

theorem mem_offW {g : ℕ} (hg : g < 16) (s : S2x8x128.Idx) :
    s ∈ ((offW g hg).view.set : Finset S2x8x128.Idx) ↔ 8 * (s 0).val + (s 1).val = g := by
  have e : ((offW g hg).view.set : Finset S2x8x128.Idx) = (Rect.unit (s := S2x8x128) ![g / 8, g % 8, 0] S1x1x128.size (offInb g hg)).set :=
    (View.set_reshape _ _).trans (View.set_slice_whole cc1_scratch1 _)
  have h0 : (s 0).val < 2 := (s 0).isLt
  have h1 : (s 1).val < 8 := (s 1).isLt
  have h2 : (s 2).val < 128 := (s 2).isLt
  rw [e, Rect.mem_set_unit]
  constructor
  · intro h
    have a0 : g / 8 ≤ (s 0).val ∧ (s 0).val < g / 8 + 1 := h 0
    have a1 : g % 8 ≤ (s 1).val ∧ (s 1).val < g % 8 + 1 := h 1
    omega
  · intro h a
    match a with
    | 0 => show g / 8 ≤ (s 0).val ∧ (s 0).val < g / 8 + 1; omega
    | 1 => show g % 8 ≤ (s 1).val ∧ (s 1).val < g % 8 + 1; omega
    | 2 => show 0 ≤ (s 2).val ∧ (s 2).val < 0 + 128; omega

/-- A buffer held whole is held part by part. -/
theorem pointsTo_parts {n : ℕ} {ℓ : Loc nD τ sig} (S : Fin n → Finset (Idx ℓ)) (hd : ∀ a b, a ≠ b → Disjoint (S a) (S b)) (hc : ∀ i, ∃ a, i ∈ S a)
    (q : PosShare TreeShare) (f : Buf (Elt F) ℓ) :
    (ℓ ↦{q} f : sProp 𝕄) = bigSep Finset.univ fun a => ℓ ↦[S a]{q} f := by
  rw [← pointsTo_biUnion Finset.univ S (fun a _ b _ h => hd a b h)]
  congr 1
  ext i
  simp only [Finset.mem_univ, Finset.mem_biUnion, true_and, true_iff]
  exact hc i

/-! ## The batch -/

section Tile

variable (d : Dev nD) (L : grid1.Coords)

/-- This tile's number. -/
abbrev wW (L : grid1.Coords) : ℕ := wid (L 0).val (L 1).val

abbrev inCell (d : Dev nD) (c : Fin τ.nSC) (i : Fin τ.nSub) : GSem nD τ sig := (V d c i, .dma cc1_scratch5.sem)
abbrev rowCell (d : Dev nD) (c : Fin τ.nSC) (i : Fin τ.nSub) : GSem nD τ sig := (V d c i, .dma cc1_scratch6.sem)

/-- What one row of the table counts on the semaphore. -/
def rowN : ℕ := ((gotW 0 (by decide)).slice (S128x16.rowRect gathers_S4194304x16_S128x16.axis' ⟨0, by decide⟩) (S128x16.stride_rowRect _ _)).view.dmaCredit

theorem rowN_pos : 0 < rowN := by decide
theorem gotW_credit (g : ℕ) (hg : g < 16) : (gotW g hg).view.dmaCredit = 128 * rowN :=
  have h : (gotW 0 (by decide)).view.dmaCredit = 128 * rowN := by decide
  h

variable (T : S4194304x16.Idx → F .f32) (l : S2x8x128.Idx → BitVec 32) (C : S2x1024x16.Idx → F .f32)

theorem list_inb {l : S2x8x128.Idx → BitVec 32} (hl : ∀ s, (l s).toNat < 4194304) (g : ℕ) (hg : g < 16) (x : S128.Idx) :
    ((offW g hg).view.read (Elt F) (l : (offW g hg).view.ty.Contents (Elt F)) x).toNat < S4194304x16.size gathers_S4194304x16_S128x16.axis :=
  hl _

/-- Row `t % 128` of gather `t / 128`. -/
def delRow (hl : ∀ s, (l s).toNat < 4194304) (t : Fin 2048) : sProp 𝕄 :=
  GatherBatch.rowDel (V d (cW L) (jW L)) tabS (gotW (t.val / 128) (by omega)) gathers_S4194304x16_S128x16 (offW (t.val / 128) (by omega)) rfl (by decide)
    (leaf 4 (shr (wW L)) ⟨t.val / 128, by omega⟩) fullShare
    (T : Buf (Elt F) ((tabV).view.loc (V d (cW L) (jW L)))) (C : Buf (Elt F) ((gotV).view.loc (V d (cW L) (jW L)))) (l : Buf (Elt F) ((listV).view.loc (V d (cW L) (jW L))))
    (list_inb hl _ _) ⟨t.val % 128, Nat.mod_lt _ (by decide)⟩

instance delRow_storable (hl : ∀ s, (l s).toNat < 4194304) (t : Fin 2048) : BI.Storable (upEmb : UEmb _ 𝕄) (delRow (F := F) d L T l C hl t) := by
  unfold delRow; exact GatherBatch.rowDel_storable _ _ _ _ _ _ _ _ _ _ _ _ _ _

theorem delRow_eq (hl : ∀ s, (l s).toNat < 4194304) (g : ℕ) (hg : g < 16) (j : Fin (S128x16.size gathers_S4194304x16_S128x16.axis')) (t : Fin 2048) (ht : t.val = 128 * g + j.val) :
    (GatherBatch.rowDel (V d (cW L) (jW L)) tabS (gotW g hg) gathers_S4194304x16_S128x16 (offW g hg) rfl (by decide)
      (leaf 4 (shr (wW L)) ⟨g, hg⟩) fullShare
      (T : Buf (Elt F) ((tabV).view.loc (V d (cW L) (jW L)))) (C : Buf (Elt F) ((gotV).view.loc (V d (cW L) (jW L)))) (l : Buf (Elt F) ((listV).view.loc (V d (cW L) (jW L))))
      (list_inb hl _ _) j : sProp 𝕄) = delRow (F := F) d L T l C hl t := by
  have hj : j.val < 128 := j.isLt
  have key : ∀ (g' : ℕ) (hg' : g' < 16) (j' : Fin (S128x16.size gathers_S4194304x16_S128x16.axis')), g' = g → j' = j →
      (GatherBatch.rowDel (V d (cW L) (jW L)) tabS (gotW g hg) gathers_S4194304x16_S128x16 (offW g hg) rfl (by decide)
      (leaf 4 (shr (wW L)) ⟨g, hg⟩) fullShare
      (T : Buf (Elt F) ((tabV).view.loc (V d (cW L) (jW L)))) (C : Buf (Elt F) ((gotV).view.loc (V d (cW L) (jW L)))) (l : Buf (Elt F) ((listV).view.loc (V d (cW L) (jW L))))
      (list_inb hl _ _) j : sProp 𝕄) = GatherBatch.rowDel (V d (cW L) (jW L)) tabS (gotW g' hg') gathers_S4194304x16_S128x16 (offW g' hg') rfl (by decide)
      (leaf 4 (shr (wW L)) ⟨g', hg'⟩) fullShare
      (T : Buf (Elt F) ((tabV).view.loc (V d (cW L) (jW L)))) (C : Buf (Elt F) ((gotV).view.loc (V d (cW L) (jW L)))) (l : Buf (Elt F) ((listV).view.loc (V d (cW L) (jW L))))
      (list_inb hl _ _) j' := by
    rintro g' hg' j' rfl rfl
    rfl
  unfold delRow
  exact key _ _ _ (by omega) (Fin.ext (by show t.val % 128 = j.val; omega))

/-- What gather `g` takes. -/
def winG (g : Fin 16) : sProp 𝕄 :=
  iprop(((tabS).view.loc (V d (cW L) (jW L)) ↦[(tabS).view.set]{leaf 4 (shr (wW L)) g} (T : Buf (Elt F) ((tabV).view.loc (V d (cW L) (jW L)))))
    ∗ ((gotW g.val g.isLt).view.loc (V d (cW L) (jW L)) ↦[(gotW g.val g.isLt).view.set]{fullShare} (C : Buf (Elt F) ((gotV).view.loc (V d (cW L) (jW L)))))
    ∗ ((offW g.val g.isLt).view.loc (V d (cW L) (jW L)) ↦[(offW g.val g.isLt).view.set]{fullShare} (l : Buf (Elt F) ((listV).view.loc (V d (cW L) (jW L))))))

/-- After `k` issues. -/
def GB (hl : ∀ s, (l s).toNat < 4194304) (k : ℕ) : sProp 𝕄 :=
  iprop(Transfers.Batch countersEmb (V d (cW L) (jW L)) (.dma cc1_scratch6.sem) (default : HIx 2) rowN (delRow (F := F) d L T l C hl) (128 * k) 0
    ∗ bigSep (Transfers.pending k) (winG (F := F) d L T l C))

theorem gather_step {α : Type} {Q : α → sProp 𝕄} (hl : ∀ s, (l s).toNat < 4194304) (g : ℕ) (hg : g < 16)
    {kont : PUnit → Prog (TpuEff nD τ sig (Elt F) Λ₀ (V d (cW L) (jW L)).2) α} :
    GB (F := F) d L T l C hl g
      ⊢ iprop((GB (F := F) d L T l C hl (g + 1) -∗ wp frame (wpE (defs₀ (F := F)) 𝒱₀ (V d (cW L) (jW L)) none) Set.univ (kont ⟨⟩) Q)
        -∗ wp frame (wpE (defs₀ (F := F)) 𝒱₀ (V d (cW L) (jW L)) none) Set.univ
          (SparseCore.enqueueIndirectGather rfl tabS (gotW g hg) gathers_S4194304x16_S128x16 (offW g hg) rfl cc1_scratch6.sem (View.wordExact_bits rfl) rfl (Or.inl rfl) >>= kont) Q) := by
  unfold GB
  iintro ⟨HB, Hp⟩ Hk
  ihave Hp := (Entails.of_eq (Transfers.bigSep_pending_step (winG (F := F) d L T l C) g hg)) $$ Hp
  icases Hp with ⟨Hg, Hp⟩
  ihave Hg := (Entails.of_eq (winG.eq_1 d L T l C ⟨g, hg⟩)) $$ Hg
  icases Hg with ⟨Ht, Hd, Ho⟩
  iapply (GatherBatch.wp_gatherBatch countersEmb 𝒱₀ (V d (cW L) (jW L)) none (k := 128 * g) (default : HIx 2) rowN (fun j => by rfl) (by decide)
    (by show 128 * g + 128 ≤ 2048; omega) (list_inb hl g hg) (fun j => Entails.of_eq (delRow_eq d L T l C hl g hg j _ rfl))) $$ [Ht Hd Ho HB]
  · isplitl [Ht]; · iexact Ht
    isplitl [Hd]; · iexact Hd
    isplitl [Ho]; · iexact Ho
    iexact HB
  iintro HB
  iapply Hk
  isplitl [HB]; · iexact HB
  iexact Hp

/-- After `k` waits. -/
def GW (hl : ∀ s, (l s).toNat < 4194304) (O : CellTallies nD τ sig (HIx 2)) (W : Waits sig (HIx 2)) (k : ℕ) : sProp 𝕄 :=
  iprop(Transfers.MayWaits (V d (cW L) (jW L)) (none : HIx 2) O
    ∗ Transfers.Batch countersEmb (V d (cW L) (jW L)) (.dma cc1_scratch6.sem) (default : HIx 2) rowN (delRow (F := F) d L T l C hl) 2048 (k * (128 * rowN))
    ∗ ∃ W', ⌜∀ p ∈ W', p ∈ W ∨ p.2 = none⌝ ∗ owes (V d (cW L) (jW L)) O W')

theorem wait_step {α : Type} {Q : α → sProp 𝕄} (hl : ∀ s, (l s).toNat < 4194304) (O : CellTallies nD τ sig (HIx 2)) (W : Waits sig (HIx 2)) (g : ℕ) (hg : g < 16)
    {h1 : (tabS).view.WordExact} {h2 : (gotW g hg).view.WordExact} {kont : PUnit → Prog (TpuEff nD τ sig (Elt F) Λ₀ (V d (cW L) (jW L)).2) α} :
    GW (F := F) d L T l C hl O W g
      ⊢ iprop((GW (F := F) d L T l C hl O W (g + 1) -∗ wp frame (wpE (defs₀ (F := F)) 𝒱₀ (V d (cW L) (jW L)) none) Set.univ (kont ⟨⟩) Q)
        -∗ wp frame (wpE (defs₀ (F := F)) 𝒱₀ (V d (cW L) (jW L)) none) Set.univ
          (SparseCore.waitIndirectGather cc1_scratch6.sem tabS (gotW g hg) h1 h2 >>= kont) Q) := by
  have hu : g * (128 * rowN) + 128 * rowN ≤ rowN * 2048 := by
    have h := Nat.mul_le_mul_right (128 * rowN) (show g + 1 ≤ 16 by omega)
    rw [Nat.succ_mul] at h
    omega
  change GW (F := F) d L T l C hl O W g
      ⊢ iprop((GW (F := F) d L T l C hl O W (g + 1) -∗ wp frame (wpE (defs₀ (F := F)) 𝒱₀ (V d (cW L) (jW L)) none) Set.univ (kont ⟨⟩) Q)
        -∗ wp frame (wpE (defs₀ (F := F)) 𝒱₀ (V d (cW L) (jW L)) none) Set.univ (.op (.waitDma2 cc1_scratch6.sem tabS (gotW g hg) h1 h2) kont) Q)
  unfold GW
  iintro ⟨#Hmw, HB, %W', %hW', HO⟩ Hk
  iapply (Transfers.wp_waitBatchMulO countersEmb 𝒱₀ (V d (cW L) (jW L)) none (default : HIx 2) 128 (gotW_credit g hg)
    (hsrc := h1) (hdst := h2) (D := delRow (F := F) d L T l C hl) (j := 2048) (u := g * (128 * rowN)) hu (O := O) (W := W')) $$ [HB HO]
  · isplitl [HB]; · iexact HB
    isplitl [HO]; · iexact HO
    iapply (Transfers.MayWaits.elim (SemLoc.dma cc1_scratch6.sem)) $$ Hmw
  iintro ⟨HB, HO⟩
  iapply Hk
  isplitr; · iexact Hmw
  isplitl [HB]
  · iapply (Entails.of_eq (congrArg (fun u => Transfers.Batch countersEmb (V d (cW L) (jW L)) (.dma cc1_scratch6.sem) (default : HIx 2) rowN (delRow (F := F) d L T l C hl) 2048 u)
      (show g * (128 * rowN) + 128 * rowN = (g + 1) * (128 * rowN) from (Nat.succ_mul _ _).symm))) $$ HB
  iexists (insert (SemLoc.dma cc1_scratch6.sem, (default : HIx 2)) W'); isplitr
  · ipureintro; intro p hp
    rcases Finset.mem_insert.mp hp with hp | hp
    · exact .inr (hp ▸ rfl)
    · exact hW' p hp
  · iexact HO

/-! ## Before and after -/

theorem set_tabS : ((tabS).view.set : Finset S4194304x16.Idx) = Finset.univ := by
  have e : ((tabS).view.set : Finset S4194304x16.Idx) = (Rect.unit (s := S4194304x16) ![0, 0] S4194304x16.size inb_S4194304x16_S4194304x16_0_0).set :=
    View.set_slice_whole main_v2_scv _
  rw [e]
  ext r
  rw [Rect.mem_set_unit]
  have h0 : (r 0).val < 4194304 := (r 0).isLt
  have h1 : (r 1).val < 16 := (r 1).isLt
  refine ⟨fun _ => Finset.mem_univ _, fun _ a => ?_⟩
  match a with
  | 0 => show 0 ≤ (r 0).val ∧ (r 0).val < 0 + 4194304; omega
  | 1 => show 0 ≤ (r 1).val ∧ (r 1).val < 0 + 16; omega

/-- The table's share cut into sixteen. -/
theorem tab_leaves : (((tabV).view.loc (V d (cW L) (jW L)) ↦{shr (wW L)} (T : Buf (Elt F) ((tabV).view.loc (V d (cW L) (jW L))))) : sProp 𝕄)
    = bigSep Finset.univ fun g : Fin 16 => ((tabS).view.loc (V d (cW L) (jW L)) ↦[(tabS).view.set]{leaf 4 (shr (wW L)) g} (T : Buf (Elt F) ((tabV).view.loc (V d (cW L) (jW L))))) := by
  refine (pointsTo_leaves Finset.univ _ 4 (shr (wW L))).trans ?_
  refine bigSep_congr fun g _ => ?_
  exact (congrArg (fun I => ((tabV).view.loc (V d (cW L) (jW L)) ↦[I]{leaf 4 (shr (wW L)) g} (T : Buf (Elt F) ((tabV).view.loc (V d (cW L) (jW L)))) : sProp 𝕄)) set_tabS).symm

theorem got_parts (f : Buf (Elt F) ((gotV).view.loc (V d (cW L) (jW L)))) : ((gotV).view.loc (V d (cW L) (jW L)) ↦{fullShare} f : sProp 𝕄)
    = bigSep Finset.univ fun g : Fin 16 => (gotW g.val g.isLt).view.loc (V d (cW L) (jW L)) ↦[(gotW g.val g.isLt).view.set]{fullShare} f := by
  refine pointsTo_parts (ℓ := (gotV).view.loc (V d (cW L) (jW L))) (fun g : Fin 16 => ((gotW g.val g.isLt).view.set : Finset S2x1024x16.Idx)) (fun a b hab => ?_) (fun s => ?_) _ _
  · rw [Finset.disjoint_left]
    intro s ha hb
    exact hab (Fin.ext (((mem_gotW a.isLt s).mp ha).symm.trans ((mem_gotW b.isLt s).mp hb)))
  · have h0 : ((s : S2x1024x16.Idx) 0).val < 2 := ((s : S2x1024x16.Idx) 0).isLt
    have h1 : ((s : S2x1024x16.Idx) 1).val < 1024 := ((s : S2x1024x16.Idx) 1).isLt
    have hlt : 8 * ((s : S2x1024x16.Idx) 0).val + ((s : S2x1024x16.Idx) 1).val / 128 < 16 := by omega
    have h := (mem_gotW hlt (s : S2x1024x16.Idx)).mpr rfl
    exact ⟨⟨_, hlt⟩, h⟩

theorem list_parts (f : Buf (Elt F) ((listV).view.loc (V d (cW L) (jW L)))) : ((listV).view.loc (V d (cW L) (jW L)) ↦{fullShare} f : sProp 𝕄)
    = bigSep Finset.univ fun g : Fin 16 => (offW g.val g.isLt).view.loc (V d (cW L) (jW L)) ↦[(offW g.val g.isLt).view.set]{fullShare} f := by
  refine pointsTo_parts (ℓ := (listV).view.loc (V d (cW L) (jW L))) (fun g : Fin 16 => ((offW g.val g.isLt).view.set : Finset S2x8x128.Idx)) (fun a b hab => ?_) (fun s => ?_) _ _
  · rw [Finset.disjoint_left]
    intro s ha hb
    exact hab (Fin.ext (((mem_offW a.isLt s).mp ha).symm.trans ((mem_offW b.isLt s).mp hb)))
  · have h0 : ((s : S2x8x128.Idx) 0).val < 2 := ((s : S2x8x128.Idx) 0).isLt
    have h1 : ((s : S2x8x128.Idx) 1).val < 8 := ((s : S2x8x128.Idx) 1).isLt
    have hlt : 8 * ((s : S2x8x128.Idx) 0).val + ((s : S2x8x128.Idx) 1).val < 16 := by omega
    have h := (mem_offW hlt (s : S2x8x128.Idx)).mpr rfl
    exact ⟨⟨_, hlt⟩, h⟩

/-- Nothing issued yet. -/
theorem gather_begin (hl : ∀ s, (l s).toNat < 4194304) :
    (iprop(((tabV).view.loc (V d (cW L) (jW L)) ↦{shr (wW L)} (T : Buf (Elt F) ((tabV).view.loc (V d (cW L) (jW L)))))
      ∗ ((gotV).view.loc (V d (cW L) (jW L)) ↦{fullShare} (C : Buf (Elt F) ((gotV).view.loc (V d (cW L) (jW L)))))
      ∗ ((listV).view.loc (V d (cW L) (jW L)) ↦{fullShare} (l : Buf (Elt F) ((listV).view.loc (V d (cW L) (jW L)))))
      ∗ semVal (rowCell d (cW L) (jW L)) 0) : sProp 𝕄)
      ⊢ |={Set.univ}=> GB (F := F) d L T l C hl 0 := by
  rw [tab_leaves, got_parts, list_parts]
  iintro ⟨Ht, Hc, Hl, Hs⟩
  ihave H := Transfers.bigSep_sep_in _ _ _ $$ [Hc Hl]; · isplitl [Hc] <;> iassumption
  ihave H := Transfers.bigSep_sep_in _ _ _ $$ [Ht H]; · isplitl [Ht] <;> iassumption
  imod (Transfers.batch_alloc' countersEmb (V d (cW L) (jW L)) (default : HIx 2) rowN (delRow (F := F) d L T l C hl) (sm := .dma cc1_scratch6.sem) (E := Set.univ)) $$ Hs with HB
  imodintro
  unfold GB
  isplitl [HB]; · iexact HB
  rw [Transfers.pending_zero]
  iexact H

/-- What the receiving scratch holds after the gather: word `w` of sample `p` in half `h` is word `w` of the table's row
    that the list names. -/
def gathered : S2x1024x16.Idx → F .f32 := fun s =>
  T fun
    | 0 => ⟨(l fun | 0 => s 0 | 1 => ⟨(s 1).val / 128, by have h : (s 1).val < 1024 := (s 1).isLt; show (s 1).val / 128 < 8; omega⟩ | 2 => ⟨(s 1).val % 128, Nat.mod_lt _ (by decide)⟩).toNat % 4194304, Nat.mod_lt _ (by decide)⟩
    | 1 => s 2

theorem gotW_emb {g : ℕ} (hg : g < 16) (x : S128x16.Idx) :
    ((gotW g hg).view.emb x : S2x1024x16.Idx) = fun
      | 0 => ⟨g / 8, by show g / 8 < 2; omega⟩
      | 1 => ⟨128 * (g % 8) + (x 0).val, by have h : (x 0).val < 128 := (x 0).isLt; show 128 * (g % 8) + (x 0).val < 1024; omega⟩
      | 2 => x 1 := by
  have h1 := congrFun (Memref.read_squeeze_slice (Val := fun _ => S2x1024x16.Idx) gotV (Rect.unit (s := S2x1024x16) ![g / 8, 128 * (g % 8), 0] S1x128x16.size (gotInb g hg))
    (fun _ => rfl) squeezes_S1x128x16_S128x16 (show S1x128x16.ShapeCasts S128x16 by decide) (fun s => s)) x
  have h2 := h1.trans (shapeCast_dropUnit_apply (![128, 16] : Fin 2 → ℕ) _ _ x)
  refine (show _ = _ from h2).trans ?_
  funext a
  match a with
  | 0 => exact Fin.ext (by show g / 8 + 1 * 0 = g / 8; omega)
  | 1 => exact Fin.ext (by show 128 * (g % 8) + 1 * (x 0).val = 128 * (g % 8) + (x 0).val; omega)
  | 2 => exact Fin.ext (by show 0 + 1 * (x 1).val = (x 1).val; omega)

theorem offW_emb {g : ℕ} (hg : g < 16) (x : S128.Idx) :
    ((offW g hg).view.emb x : S2x8x128.Idx) = fun
      | 0 => ⟨g / 8, by show g / 8 < 2; omega⟩
      | 1 => ⟨g % 8, by show g % 8 < 8; omega⟩
      | 2 => x 0 := by
  have h1 := congrFun (Memref.read_squeeze_slice (Val := fun _ => S2x8x128.Idx) listV (Rect.unit (s := S2x8x128) ![g / 8, g % 8, 0] S1x1x128.size (offInb g hg))
    (fun _ => rfl) squeezes_S1x1x128_S128 (show S1x1x128.ShapeCasts S128 by decide) (fun s => s)) x
  have h2 := h1.trans (shapeCast_apply (s := S1x1x128) _ _ x (fun | 0 => ⟨0, by decide⟩ | 1 => ⟨0, by decide⟩ | 2 => x 0) (by
    rw [Shape.rowMajor_val_one, Shape.rowMajor_val_three]
    show (0 * 1 + 0) * 128 + (x 0).val = (x 0).val; omega))
  refine (show _ = _ from h2).trans ?_
  funext a
  match a with
  | 0 => exact Fin.ext (by show g / 8 + 1 * 0 = g / 8; omega)
  | 1 => exact Fin.ext (by show g % 8 + 1 * 0 = g % 8; omega)
  | 2 => exact Fin.ext (by show 0 + 1 * (x 0).val = (x 0).val; omega)

/-- What a window holds once its gather has landed. -/
theorem gathered_win (hl : ∀ s, (l s).toNat < 4194304) {g : ℕ} (hg : g < 16) (s : S2x1024x16.Idx) (hs : s ∈ ((gotW g hg).view.set : Finset S2x1024x16.Idx)) :
    ((gotW g hg).view.write (Elt F) (C : (gotW g hg).view.ty.Contents (Elt F))
      (SparseCore.gatherPayload gathers_S4194304x16_S128x16 ((tabS).view.read (Elt F) (T : (tabS).view.ty.Contents (Elt F)))
        (SparseCore.rows ((offW g hg).view.read (Elt F) (l : (offW g hg).view.ty.Contents (Elt F))) rfl (list_inb hl g hg))) Finset.univ : S2x1024x16.Idx → F .f32) s
      = gathered T l s := by
  obtain ⟨x, -, hx⟩ := Finset.mem_map.mp hs
  have hx0 : (x 0).val < 128 := (x 0).isLt
  rw [← hx]
  refine ((View.write_emb_of_mem (Val := Elt F) (v := (gotW g hg).view) _ _ (Finset.mem_univ x)).trans (cast_eq _ _)).trans ?_
  let R := SparseCore.rows ((offW g hg).view.read (Elt F) (l : (offW g hg).view.ty.Contents (Elt F))) rfl (list_inb hl g hg)
  show (T : S4194304x16.Idx → F .f32) ((Rect.unit (s := S4194304x16) ![0, 0] S4194304x16.size inb_S4194304x16_S4194304x16_0_0).emb (gathers_S4194304x16_S128x16.idx R x))
    = gathered T l ((gotW g hg).view.emb x : S2x1024x16.Idx)
  rw [gotW_emb hg x]
  unfold gathered
  congr 1
  funext a
  apply Fin.ext
  match a with
  | 0 =>
    have h1 : (gathers_S4194304x16_S128x16.idx R x 0).val = (R (x 0)).val := congrArg Fin.val (Shape.Gathers.idx_axis gathers_S4194304x16_S128x16 R x)
    have h2 : (R (x 0)).val = (l ((offW g hg).view.emb (S128.rowMajor.symm (x 0)) : S2x8x128.Idx)).toNat := rfl
    have h3 : ∀ k : Fin S128.numel, ((S128.rowMajor.symm k) 0).val = k.val := by
      intro k
      have e := congrArg Fin.val (S128.rowMajor.apply_symm_apply k)
      have e' := Shape.rowMajor_val_one (d := ![128]) (S128.rowMajor.symm k)
      exact e'.symm.trans e
    have b1 : (128 * (g % 8) + (x 0).val) / 128 < 8 := by omega
    have b2 : (128 * (g % 8) + (x 0).val) % 128 < 128 := Nat.mod_lt _ (by decide)
    have h4 : ∀ i j : S2x8x128.Idx, (i 0).val = (j 0).val → (i 1).val = (j 1).val → (i 2).val = (j 2).val → i = j := by
      intro i j e0 e1 e2
      funext a
      match a with
      | 0 => exact Fin.ext e0
      | 1 => exact Fin.ext e1
      | 2 => exact Fin.ext e2
    show 0 + 1 * (gathers_S4194304x16_S128x16.idx R x 0).val = (l _).toNat % 4194304
    rw [h1, h2, offW_emb hg, Nat.zero_add, Nat.one_mul]
    refine (Nat.mod_eq_of_lt (hl _)).symm.trans ?_
    refine congrArg (fun i => (l i).toNat % 4194304) (h4 _ _ rfl ?_ ?_)
    · show g % 8 = (128 * (g % 8) + (x 0).val) / 128; omega
    · refine (h3 _).trans ?_
      show (x 0).val = (128 * (g % 8) + (x 0).val) % 128
      omega
  | 1 =>
    have h1 : (gathers_S4194304x16_S128x16.idx R x 1).val = (x 1).val := Shape.Gathers.idx_of_ne gathers_S4194304x16_S128x16 R x 1 (by decide)
    show 0 + 1 * (gathers_S4194304x16_S128x16.idx R x 1).val = (x 1).val
    omega

/-- Everything landed. -/
theorem gather_end (hl : ∀ s, (l s).toNat < 4194304) (O : CellTallies nD τ sig (HIx 2)) (W : Waits sig (HIx 2)) :
    GW (F := F) d L T l C hl O W 16
      ⊢ |={Set.univ}=> iprop(Transfers.MayWaits (V d (cW L) (jW L)) (none : HIx 2) O
      ∗ ((tabV).view.loc (V d (cW L) (jW L)) ↦{shr (wW L)} (T : Buf (Elt F) ((tabV).view.loc (V d (cW L) (jW L)))))
      ∗ ((gotV).view.loc (V d (cW L) (jW L)) ↦{fullShare} (gathered T l : Buf (Elt F) ((gotV).view.loc (V d (cW L) (jW L)))))
      ∗ ((listV).view.loc (V d (cW L) (jW L)) ↦{fullShare} (l : Buf (Elt F) ((listV).view.loc (V d (cW L) (jW L)))))
      ∗ semVal (rowCell d (cW L) (jW L)) 0
      ∗ ∃ W', ⌜∀ p ∈ W', p ∈ W ∨ p.2 = none⌝ ∗ owes (V d (cW L) (jW L)) O W') := by
  rw [tab_leaves, got_parts, list_parts]
  unfold GW
  iintro ⟨Hmw, HB, HO⟩
  ihave HB := (Entails.of_eq (congrArg (fun u => Transfers.Batch countersEmb (V d (cW L) (jW L)) (.dma cc1_scratch6.sem) (default : HIx 2) rowN (delRow (F := F) d L T l C hl) 2048 u)
      (show 16 * (128 * rowN) = rowN * 2048 by omega))) $$ HB
  imod (Transfers.batch_collect' countersEmb (V d (cW L) (jW L)) rowN_pos) $$ HB with ⟨HD, Hs⟩
  imodintro
  ihave HD := (GatherBatch.bigSep_groups (m := 16) (o := 128) rfl (delRow (F := F) d L T l C hl)
    (fun g : Fin 16 => iprop(((gotW g.val g.isLt).view.loc (V d (cW L) (jW L)) ↦[(gotW g.val g.isLt).view.set]{fullShare} (gathered T l : Buf (Elt F) ((gotV).view.loc (V d (cW L) (jW L)))))
      ∗ ((tabS).view.loc (V d (cW L) (jW L)) ↦[(tabS).view.set]{leaf 4 (shr (wW L)) g} (T : Buf (Elt F) ((tabV).view.loc (V d (cW L) (jW L)))))
      ∗ ((offW g.val g.isLt).view.loc (V d (cW L) (jW L)) ↦[(offW g.val g.isLt).view.set]{fullShare} (l : Buf (Elt F) ((listV).view.loc (V d (cW L) (jW L)))))))
    (fun g j => by omega) (fun g => by
      refine (Entails.of_eq (bigSep_congr fun j _ => (delRow_eq d L T l C hl g.val g.isLt j _ (by show g.val * 128 + j.val = 128 * g.val + j.val; omega)).symm)).trans ?_
      refine (GatherBatch.rowDel_join (V d (cW L) (jW L)) _ _ _ _ _ _ _ _ _ _ _ _).trans ?_
      exact sep_mono (Entails.of_eq (pointsTo_congr (ℓ := (gotV).view.loc (V d (cW L) (jW L))) (q := fullShare) fun s hs => gathered_win T l C hl g.isLt s hs)) .rfl)) $$ HD
  ihave HD := Transfers.bigSep_sep_out _ _ _ $$ HD
  icases HD with ⟨Hc, HD⟩
  ihave HD := Transfers.bigSep_sep_out _ _ _ $$ HD
  icases HD with ⟨Ht, Hl⟩
  isplitl [Hmw]; · iexact Hmw
  isplitl [Ht]; · iexact Ht
  isplitl [Hc]; · iexact Hc
  isplitl [Hl]; · iexact Hl
  isplitl [Hs]; · iexact Hs
  iexact HO

end Tile

end Cert.Proof.Run

end
-- ==== Proof.ShadeValue.lean ====
/-
  Call 1, what a chunk computes: the contents of the scratches put together.

  The input scratch holds the chunk's 1024 entries of the six columns, the list names each sample's two rows of the table,
  the gather brings them, and so the output scratch holds the four results of the chunk's samples.
-/
module

public import proofs.«01_k».proof.Proof.ShadeColor
public import proofs.«01_k».proof.Proof.ShadeGather
public import Idealize.ShloMosaic.Lib.WordArith

@[expose] public section

noncomputable section

namespace Cert.Proof.Run

open Cert.KernelIdeal Cert.KernelIdeal.Gen Cert.Proof.Spec
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

local notation "x0V" => (Memref.whole Cert.KernelIdeal.main_v4_scv : Memref Cert.KernelIdeal.sig Kind.scVector Space.hbm Cert.KernelIdeal.S1048576 EltTy.f32)
local notation "x1V" => (Memref.whole Cert.KernelIdeal.main_v6_scv : Memref Cert.KernelIdeal.sig Kind.scVector Space.hbm Cert.KernelIdeal.S1048576 EltTy.f32)
local notation "x2V" => (Memref.whole Cert.KernelIdeal.main_v8_scv : Memref Cert.KernelIdeal.sig Kind.scVector Space.hbm Cert.KernelIdeal.S1048576 EltTy.f32)
local notation "x3V" => (Memref.whole Cert.KernelIdeal.main_v10_scv : Memref Cert.KernelIdeal.sig Kind.scVector Space.hbm Cert.KernelIdeal.S1048576 EltTy.f32)
local notation "x4V" => (Memref.whole Cert.KernelIdeal.main_v12_scv : Memref Cert.KernelIdeal.sig Kind.scVector Space.hbm Cert.KernelIdeal.S1048576 EltTy.f32)
local notation "x5V" => (Memref.whole Cert.KernelIdeal.main_v14_scv : Memref Cert.KernelIdeal.sig Kind.scVector Space.hbm Cert.KernelIdeal.S1048576 EltTy.f32)
local notation "tabV" => (Memref.whole Cert.KernelIdeal.main_v2_scv : Memref Cert.KernelIdeal.sig Kind.scVector Space.hbm Cert.KernelIdeal.S4194304x16 EltTy.f32)
local notation "o0V" => (Memref.whole Cert.KernelIdeal.main_v15_0_scv : Memref Cert.KernelIdeal.sig Kind.scVector Space.hbm Cert.KernelIdeal.S1048576 EltTy.f32)
local notation "o1V" => (Memref.whole Cert.KernelIdeal.main_v15_1_scv : Memref Cert.KernelIdeal.sig Kind.scVector Space.hbm Cert.KernelIdeal.S1048576 EltTy.f32)
local notation "o2V" => (Memref.whole Cert.KernelIdeal.main_v15_2_scv : Memref Cert.KernelIdeal.sig Kind.scVector Space.hbm Cert.KernelIdeal.S1048576 EltTy.f32)
local notation "o3V" => (Memref.whole Cert.KernelIdeal.main_v15_3_scv : Memref Cert.KernelIdeal.sig Kind.scVector Space.hbm Cert.KernelIdeal.S1048576 EltTy.f32)
local notation "bufV" => (Memref.whole Cert.KernelIdeal.cc1_scratch0 : Memref Cert.KernelIdeal.sig Kind.scVector Space.vmem Cert.KernelIdeal.S6x1024 EltTy.f32)
local notation "listV" => (Memref.whole Cert.KernelIdeal.cc1_scratch1 : Memref Cert.KernelIdeal.sig Kind.scVector Space.vmem Cert.KernelIdeal.S2x8x128 EltTy.i32)
local notation "maskV" => (Memref.whole Cert.KernelIdeal.cc1_scratch2 : Memref Cert.KernelIdeal.sig Kind.scVector Space.vmem Cert.KernelIdeal.S1024 EltTy.f32)
local notation "gotV" => (Memref.whole Cert.KernelIdeal.cc1_scratch3 : Memref Cert.KernelIdeal.sig Kind.scVector Space.vmem Cert.KernelIdeal.S2x1024x16 EltTy.f32)
local notation "outV" => (Memref.whole Cert.KernelIdeal.cc1_scratch4 : Memref Cert.KernelIdeal.sig Kind.scVector Space.vmem Cert.KernelIdeal.S4x1024 EltTy.f32)

variable [FloatOps F]

/-! ## A voxel's number -/

theorem clip_lt (x : BitVec 32) : (IntOp.minsi 127#32 (IntOp.maxsi 0#32 x)).toNat < 128 := by
  have h := WordArith.two_mul_toNat_maxsi_zero_lt x
  replace h : 2 * (IntOp.maxsi 0#32 x).toNat < 2 ^ 32 := h
  rw [WordArith.toNat_minsi_of_lt _ _ (by decide) (by omega)]
  exact Nat.lt_of_le_of_lt (Nat.min_le_left _ _) (by decide)

theorem voxW_lt (x y z : F .f32) : (voxW x y z).toNat < 2097152 := by
  have hx : (ix x).toNat < 128 := clip_lt _
  have hy : (ix y).toNat < 128 := clip_lt _
  have hz : (ix z).toNat < 128 := clip_lt _
  unfold voxW IntOp.addi IntOp.muli
  rw [BitVec.toNat_add, BitVec.toNat_add, BitVec.toNat_mul, BitVec.toNat_mul]
  show ((((ix x).toNat * 16384) % 4294967296 + ((ix y).toNat * 128) % 4294967296) % 4294967296 + (ix z).toNat) % 4294967296 < 2097152
  omega

/-- A word of the list. -/
theorem row_toNat (x y z : F .f32) (h : ℕ) (hh : h < 2) :
    (IntOp.addi (IntOp.muli (voxW x y z) 2#32) (BitVec.ofNat 32 h)).toNat = 2 * (voxW x y z).toNat + h := by
  have hv := voxW_lt x y z
  unfold IntOp.addi IntOp.muli
  rw [BitVec.toNat_add, BitVec.toNat_mul, BitVec.toNat_ofNat]
  show ((voxW x y z).toNat * 2 % 4294967296 + h % 4294967296) % 4294967296 = _
  omega

theorem ListOK.lt {B : S6x1024.Idx → F .f32} {f : S2x8x128.Idx → BitVec 32} (hf : ListOK B 64 f) (s : S2x8x128.Idx) : (f s).toNat < 4194304 := by
  have h0 : (s 0).val < 2 := (s 0).isLt
  have h1 : (s 1).val < 8 := (s 1).isLt
  have h2 : (s 2).val < 128 := (s 2).isLt
  rw [hf s (by omega), row_toNat _ _ _ _ h0]
  have hv := voxW_lt (at6 B 0 (128 * (s 1).val + (s 2).val)) (at6 B 1 (128 * (s 1).val + (s 2).val)) (at6 B 2 (128 * (s 1).val + (s 2).val))
  omega

/-! ## The results -/

/-- Results read channels below 28 only. -/
theorem res_congr (m : F .f32) (k : Fin 9 → F .f32) {c c' : ℕ → F .f32} (h : ∀ i, i < 28 → c i = c' i) (j : Fin 4) : res m k c j = res m k c' j := by
  match j with
  | 0 => unfold res nine; simp only [h _ (show 1 + 0 < 28 by decide), h _ (show 1 + 1 < 28 by decide), h _ (show 1 + 2 < 28 by decide), h _ (show 1 + 3 < 28 by decide), h _ (show 1 + 4 < 28 by decide), h _ (show 1 + 5 < 28 by decide), h _ (show 1 + 6 < 28 by decide), h _ (show 1 + 7 < 28 by decide), h _ (show 1 + 8 < 28 by decide)]
  | 1 => unfold res nine; simp only [h _ (show 10 + 0 < 28 by decide), h _ (show 10 + 1 < 28 by decide), h _ (show 10 + 2 < 28 by decide), h _ (show 10 + 3 < 28 by decide), h _ (show 10 + 4 < 28 by decide), h _ (show 10 + 5 < 28 by decide), h _ (show 10 + 6 < 28 by decide), h _ (show 10 + 7 < 28 by decide), h _ (show 10 + 8 < 28 by decide)]
  | 2 => unfold res nine; simp only [h _ (show 19 + 0 < 28 by decide), h _ (show 19 + 1 < 28 by decide), h _ (show 19 + 2 < 28 by decide), h _ (show 19 + 3 < 28 by decide), h _ (show 19 + 4 < 28 by decide), h _ (show 19 + 5 < 28 by decide), h _ (show 19 + 6 < 28 by decide), h _ (show 19 + 7 < 28 by decide), h _ (show 19 + 8 < 28 by decide)]
  | 3 => unfold res; rw [h 0 (by decide)]

/-- Channel `c` of sample `p`, gathered, is that channel of the sample's voxel. -/
theorem ch_gathered {G : S3584x16384.Idx → F .f32} {T : S4194304x16.Idx → F .f32} (hT : ∀ r, RowOK G T r) {B : S6x1024.Idx → F .f32}
    {l : S2x8x128.Idx → BitVec 32} (hl : ListOK B 64 l) {p : ℕ} (hp : p < 1024) {c : ℕ} (hc : c < 28) :
    ch (gathered T l) p c = chan G (voxW (at6 B 0 p) (at6 B 1 p) (at6 B 2 p)).toNat c := by
  have hv := voxW_lt (at6 B 0 p) (at6 B 1 p) (at6 B 2 p)
  let s : S2x8x128.Idx := fun
    | 0 => ⟨c / 16 % 2, Nat.mod_lt _ (by decide)⟩
    | 1 => ⟨p % 1024 / 128, by show p % 1024 / 128 < 8; omega⟩
    | 2 => ⟨p % 1024 % 128, Nat.mod_lt _ (by decide)⟩
  have hs : (l s).toNat = 2 * (voxW (at6 B 0 p) (at6 B 1 p) (at6 B 2 p)).toNat + c / 16 % 2 := by
    have h := hl s (by show 128 * (p % 1024 / 128) + p % 1024 % 128 < 16 * 64; omega)
    replace h : l s = IntOp.addi (IntOp.muli (voxW (at6 B 0 (128 * (p % 1024 / 128) + p % 1024 % 128)) (at6 B 1 (128 * (p % 1024 / 128) + p % 1024 % 128))
      (at6 B 2 (128 * (p % 1024 / 128) + p % 1024 % 128))) 2#32) (BitVec.ofNat 32 (c / 16 % 2)) := h
    rw [show 128 * (p % 1024 / 128) + p % 1024 % 128 = p by omega] at h
    rw [h, row_toNat _ _ _ _ (Nat.mod_lt _ (by decide))]
  let r : S4194304x16.Idx := fun
    | 0 => ⟨(l s).toNat % 4194304, Nat.mod_lt _ (by decide)⟩
    | 1 => ⟨c % 16, Nat.mod_lt _ (by decide)⟩
  have h := hT r (by show 16 * ((l s).toNat % 4194304 % 2) + c % 16 < 28; omega)
  replace h : T r = chan G ((l s).toNat % 4194304 / 2) (16 * ((l s).toNat % 4194304 % 2) + c % 16) := h
  rw [show (l s).toNat % 4194304 / 2 = (voxW (at6 B 0 p) (at6 B 1 p) (at6 B 2 p)).toNat by omega,
    show 16 * ((l s).toNat % 4194304 % 2) + c % 16 = c by omega] at h
  exact h

section Tile

variable (d : Dev nD) (L : grid1.Coords)
variable (G : Dev nD → S3584x16384.Idx → F .f32) (X : Dev nD → Fin 6 → S1048576.Idx → F .f32)

/-- Sample `x` of chunk `t1` of this tile, in the columns. -/
def colAt (t1 : Fin k1_t1_loop.trips) (x : S1024.Idx) : S1048576.Idx := (Rect.unit (s := S1048576) (k1_off1 L t1) S1024.size (k1_off1_inb L t1)).emb x

theorem colAt_val (t1 : Fin k1_t1_loop.trips) (x : S1024.Idx) : (colAt L t1 x 0).val = 32768 * wW L + 1024 * t1.val + (x 0).val := by
  have ho : k1_off1 L t1 0 = 65536 * (L 1).val + 32768 * (L 0).val + 1024 * t1.val := congrFun (k1_off1_eq L t1) 0
  have hw : wW L = 2 * (L 1).val + (L 0).val := rfl
  show k1_off1 L t1 0 + 1 * (x 0).val = _
  omega

/-- The chunk's window of a column. -/
def colW (t1 : Fin k1_t1_loop.trips) : Finset S1048576.Idx := (Rect.unit (s := S1048576) (k1_off1 L t1) S1024.size (k1_off1_inb L t1)).set

theorem mem_colW (t1 : Fin k1_t1_loop.trips) (r : S1048576.Idx) :
    r ∈ colW L t1 ↔ 32768 * wW L + 1024 * t1.val ≤ (r 0).val ∧ (r 0).val < 32768 * wW L + 1024 * t1.val + 1024 := by
  have ho : k1_off1 L t1 0 = 65536 * (L 1).val + 32768 * (L 0).val + 1024 * t1.val := congrFun (k1_off1_eq L t1) 0
  have hw : wW L = 2 * (L 1).val + (L 0).val := rfl
  unfold colW
  rw [Rect.mem_set_unit]
  constructor
  · intro h
    have h : k1_off1 L t1 0 ≤ (r 0).val ∧ (r 0).val < k1_off1 L t1 0 + 1024 := h 0
    omega
  · intro h a
    match a with
    | 0 => show k1_off1 L t1 0 ≤ (r 0).val ∧ (r 0).val < k1_off1 L t1 0 + 1024; omega

theorem colW_subset (t1 : Fin k1_t1_loop.trips) : colW L t1 ⊆ colSet (wW L) := by
  intro r hr
  have ht : t1.val < 32 := Nat.lt_of_lt_of_le t1.isLt k1_t1_abs.2.1
  rw [mem_colW] at hr
  rw [mem_colSet]; omega

/-- The chunk's entries of the six columns. -/
def cols6 (t1 : Fin k1_t1_loop.trips) : S6x1024.Idx → F .f32 := fun s => X d (s 0) (colAt L t1 fun | 0 => s 1)

theorem at6_cols6 (t1 : Fin k1_t1_loop.trips) (a : Fin 6) (x : S1024.Idx) : at6 (cols6 d L X t1) a (x 0).val = X d a (colAt L t1 x) := by
  have hx : (x 0).val < 1024 := (x 0).isLt
  unfold at6 cols6
  congr 2
  funext b
  match b with
  | 0 => exact Fin.ext (Nat.mod_eq_of_lt hx)

/-- The output scratch after the chunk. -/
theorem out_chunk {T : S4194304x16.Idx → F .f32} (hT : ∀ r, RowOK (G d) T r) (t1 : Fin k1_t1_loop.trips) {l : S2x8x128.Idx → BitVec 32} (hl : ListOK (cols6 d L X t1) 64 l)
    {M : S1024.Idx → F .f32} (hM : MaskOK (cols6 d L X t1) 64 M) {f : S4x1024.Idx → F .f32} (hf : OutOK (cols6 d L X t1) M (gathered T l) 64 f)
    (j : Fin 4) (x : S1024.Idx) : f (fun | 0 => j | 1 => x 0) = outCol G X d j (colAt L t1 x) := by
  have hx : (x 0).val < 1024 := (x 0).isLt
  rw [hf _ (by show (x 0).val < 16 * 64; omega)]
  show outAt (cols6 d L X t1) M (gathered T l) j (x 0).val = _
  unfold outAt outCol shade
  have hm : mAt M (x 0).val = mk (at6 (cols6 d L X t1) 0 (x 0).val) (at6 (cols6 d L X t1) 1 (x 0).val) (at6 (cols6 d L X t1) 2 (x 0).val) := by
    have h := hM (fun | 0 => ⟨(x 0).val % 1024, Nat.mod_lt _ (by decide)⟩) (by show (x 0).val % 1024 < 16 * 64; omega)
    unfold mAt
    refine h.trans ?_
    show Spec.mk (at6 _ 0 ((x 0).val % 1024)) (at6 _ 1 ((x 0).val % 1024)) (at6 _ 2 ((x 0).val % 1024)) = _
    rw [Nat.mod_eq_of_lt hx]
  rw [hm, res_congr _ _ (fun c hc => ch_gathered hT hl hx hc)]
  simp only [at6_cols6]

/-- A result column is done for the samples before chunk `k` of this tile. -/
def ColOK (j : Fin 4) (k : ℕ) (f : S1048576.Idx → F .f32) : Prop :=
  ∀ r ∈ colSet (wW L), (r 0).val < 32768 * wW L + 1024 * k → f r = outCol G X d j r

theorem ColOK.step {j : Fin 4} {t1 : Fin k1_t1_loop.trips} {f g : S1048576.Idx → F .f32} (hf : ColOK d L G X j t1.val f)
    (hout : ∀ r, r ∉ colW L t1 → g r = f r) (hin : ∀ x, g (colAt L t1 x) = outCol G X d j (colAt L t1 x)) :
    ColOK d L G X j (t1.val + 1) g ∧ ∀ r ∈ colSet (wW L) \ colW L t1, f r = g r := by
  refine ⟨fun r hr hlt => ?_, fun r hr => (hout r (Finset.mem_sdiff.mp hr).2).symm⟩
  by_cases h : r ∈ colW L t1
  · rw [mem_colW] at h
    have hx : colAt L t1 (fun | 0 => ⟨(r 0).val - (32768 * wW L + 1024 * t1.val), by show _ < 1024; omega⟩) = r := by
      funext b
      match b with
      | 0 =>
        refine Fin.ext ((colAt_val L t1 _).trans ?_)
        show 32768 * wW L + 1024 * t1.val + ((r 0).val - (32768 * wW L + 1024 * t1.val)) = (r 0).val
        omega
    rw [← hx]; exact hin _
  · rw [hout r h]
    refine hf r hr ?_
    rw [mem_colW] at h
    omega

end Tile

end Cert.Proof.Run

end
-- ==== Proof.ShadeRows.lean ====
/-
  Call 1, the row-wise pieces of two scratches: the input scratch taken apart into the six rows that the columns are
  fetched to, and the output scratch into the four rows that leave.
-/
module

public import proofs.«01_k».proof.Proof.ShadeValue
public import proofs.«01_k».proof.Proof.Windows

@[expose] public section

noncomputable section

namespace Cert.Proof.Run

open Cert.KernelIdeal Cert.KernelIdeal.Gen Cert.Proof.Spec
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

local notation "x0V" => (Memref.whole Cert.KernelIdeal.main_v4_scv : Memref Cert.KernelIdeal.sig Kind.scVector Space.hbm Cert.KernelIdeal.S1048576 EltTy.f32)
local notation "x1V" => (Memref.whole Cert.KernelIdeal.main_v6_scv : Memref Cert.KernelIdeal.sig Kind.scVector Space.hbm Cert.KernelIdeal.S1048576 EltTy.f32)
local notation "x2V" => (Memref.whole Cert.KernelIdeal.main_v8_scv : Memref Cert.KernelIdeal.sig Kind.scVector Space.hbm Cert.KernelIdeal.S1048576 EltTy.f32)
local notation "x3V" => (Memref.whole Cert.KernelIdeal.main_v10_scv : Memref Cert.KernelIdeal.sig Kind.scVector Space.hbm Cert.KernelIdeal.S1048576 EltTy.f32)
local notation "x4V" => (Memref.whole Cert.KernelIdeal.main_v12_scv : Memref Cert.KernelIdeal.sig Kind.scVector Space.hbm Cert.KernelIdeal.S1048576 EltTy.f32)
local notation "x5V" => (Memref.whole Cert.KernelIdeal.main_v14_scv : Memref Cert.KernelIdeal.sig Kind.scVector Space.hbm Cert.KernelIdeal.S1048576 EltTy.f32)
local notation "tabV" => (Memref.whole Cert.KernelIdeal.main_v2_scv : Memref Cert.KernelIdeal.sig Kind.scVector Space.hbm Cert.KernelIdeal.S4194304x16 EltTy.f32)
local notation "o0V" => (Memref.whole Cert.KernelIdeal.main_v15_0_scv : Memref Cert.KernelIdeal.sig Kind.scVector Space.hbm Cert.KernelIdeal.S1048576 EltTy.f32)
local notation "o1V" => (Memref.whole Cert.KernelIdeal.main_v15_1_scv : Memref Cert.KernelIdeal.sig Kind.scVector Space.hbm Cert.KernelIdeal.S1048576 EltTy.f32)
local notation "o2V" => (Memref.whole Cert.KernelIdeal.main_v15_2_scv : Memref Cert.KernelIdeal.sig Kind.scVector Space.hbm Cert.KernelIdeal.S1048576 EltTy.f32)
local notation "o3V" => (Memref.whole Cert.KernelIdeal.main_v15_3_scv : Memref Cert.KernelIdeal.sig Kind.scVector Space.hbm Cert.KernelIdeal.S1048576 EltTy.f32)
local notation "bufV" => (Memref.whole Cert.KernelIdeal.cc1_scratch0 : Memref Cert.KernelIdeal.sig Kind.scVector Space.vmem Cert.KernelIdeal.S6x1024 EltTy.f32)
local notation "listV" => (Memref.whole Cert.KernelIdeal.cc1_scratch1 : Memref Cert.KernelIdeal.sig Kind.scVector Space.vmem Cert.KernelIdeal.S2x8x128 EltTy.i32)
local notation "maskV" => (Memref.whole Cert.KernelIdeal.cc1_scratch2 : Memref Cert.KernelIdeal.sig Kind.scVector Space.vmem Cert.KernelIdeal.S1024 EltTy.f32)
local notation "gotV" => (Memref.whole Cert.KernelIdeal.cc1_scratch3 : Memref Cert.KernelIdeal.sig Kind.scVector Space.vmem Cert.KernelIdeal.S2x1024x16 EltTy.f32)
local notation "outV" => (Memref.whole Cert.KernelIdeal.cc1_scratch4 : Memref Cert.KernelIdeal.sig Kind.scVector Space.vmem Cert.KernelIdeal.S4x1024 EltTy.f32)

variable [FloatOps F]

theorem bufInb (a : ℕ) (ha : a < 6) : ∀ b, (![a, 0] : Fin 2 → ℕ) b + S1x1024.size b ≤ S6x1024.size b := by
  intro b
  match b with
  | 0 => show a + 1 ≤ 6; omega
  | 1 => show 0 + 1024 ≤ 1024; omega

theorem outInb (a : ℕ) (ha : a < 4) : ∀ b, (![a, 0] : Fin 2 → ℕ) b + S1x1024.size b ≤ S4x1024.size b := by
  intro b
  match b with
  | 0 => show a + 1 ≤ 4; omega
  | 1 => show 0 + 1024 ≤ 1024; omega

/-- Row `a` of the input scratch, and of the output scratch. -/
abbrev bufRow (a : ℕ) (ha : a < 6) := ((bufV).slice (Rect.unit (s := S6x1024) ![a, 0] S1x1024.size (bufInb a ha)) (fun _ => rfl)).squeeze S1024 squeezes_S1x1024_S1024
abbrev outRow (a : ℕ) (ha : a < 4) := ((outV).slice (Rect.unit (s := S4x1024) ![a, 0] S1x1024.size (outInb a ha)) (fun _ => rfl)).squeeze S1024 squeezes_S1x1024_S1024

theorem mem_bufRow {a : ℕ} (ha : a < 6) (s : S6x1024.Idx) : s ∈ ((bufRow a ha).view.set : Finset S6x1024.Idx) ↔ (s 0).val = a := by
  have e : ((bufRow a ha).view.set : Finset S6x1024.Idx) = (Rect.unit (s := S6x1024) ![a, 0] S1x1024.size (bufInb a ha)).set :=
    (View.set_reshape _ _).trans (View.set_slice_whole cc1_scratch0 _)
  have h1 : (s 1).val < 1024 := (s 1).isLt
  rw [e, Rect.mem_set_unit]
  constructor
  · intro h
    have h : a ≤ (s 0).val ∧ (s 0).val < a + 1 := h 0
    omega
  · intro h b
    match b with
    | 0 => show a ≤ (s 0).val ∧ (s 0).val < a + 1; omega
    | 1 => show 0 ≤ (s 1).val ∧ (s 1).val < 0 + 1024; omega

theorem mem_outRow {a : ℕ} (ha : a < 4) (s : S4x1024.Idx) : s ∈ ((outRow a ha).view.set : Finset S4x1024.Idx) ↔ (s 0).val = a := by
  have e : ((outRow a ha).view.set : Finset S4x1024.Idx) = (Rect.unit (s := S4x1024) ![a, 0] S1x1024.size (outInb a ha)).set :=
    (View.set_reshape _ _).trans (View.set_slice_whole cc1_scratch4 _)
  have h1 : (s 1).val < 1024 := (s 1).isLt
  rw [e, Rect.mem_set_unit]
  constructor
  · intro h
    have h : a ≤ (s 0).val ∧ (s 0).val < a + 1 := h 0
    omega
  · intro h b
    match b with
    | 0 => show a ≤ (s 0).val ∧ (s 0).val < a + 1; omega
    | 1 => show 0 ≤ (s 1).val ∧ (s 1).val < 0 + 1024; omega

theorem bufRow_emb {a : ℕ} (ha : a < 6) (x : S1024.Idx) : ((bufRow a ha).view.emb x : S6x1024.Idx) = fun | 0 => ⟨a, ha⟩ | 1 => x 0 := by
  have h1 := congrFun (Memref.read_squeeze_slice (Val := fun _ => S6x1024.Idx) bufV (Rect.unit (s := S6x1024) ![a, 0] S1x1024.size (bufInb a ha))
    (fun _ => rfl) squeezes_S1x1024_S1024 (show S1x1024.ShapeCasts S1024 by decide) (fun s => s)) x
  have h2 := h1.trans (shapeCast_apply (s := S1x1024) _ _ x (fun | 0 => ⟨0, by decide⟩ | 1 => x 0) (by
    rw [Shape.rowMajor_val_one, Shape.rowMajor_val_two]
    show 0 * 1024 + (x 0).val = (x 0).val; omega))
  refine (show _ = _ from h2).trans ?_
  funext b
  match b with
  | 0 => exact Fin.ext (by show a + 1 * 0 = a; omega)
  | 1 => exact Fin.ext (by show 0 + 1 * (x 0).val = (x 0).val; omega)

theorem outRow_emb {a : ℕ} (ha : a < 4) (x : S1024.Idx) : ((outRow a ha).view.emb x : S4x1024.Idx) = fun | 0 => ⟨a, ha⟩ | 1 => x 0 := by
  have h1 := congrFun (Memref.read_squeeze_slice (Val := fun _ => S4x1024.Idx) outV (Rect.unit (s := S4x1024) ![a, 0] S1x1024.size (outInb a ha))
    (fun _ => rfl) squeezes_S1x1024_S1024 (show S1x1024.ShapeCasts S1024 by decide) (fun s => s)) x
  have h2 := h1.trans (shapeCast_apply (s := S1x1024) _ _ x (fun | 0 => ⟨0, by decide⟩ | 1 => x 0) (by
    rw [Shape.rowMajor_val_one, Shape.rowMajor_val_two]
    show 0 * 1024 + (x 0).val = (x 0).val; omega))
  refine (show _ = _ from h2).trans ?_
  funext b
  match b with
  | 0 => exact Fin.ext (by show a + 1 * 0 = a; omega)
  | 1 => exact Fin.ext (by show 0 + 1 * (x 0).val = (x 0).val; omega)

section Tile

variable (d : Dev nD) (L : grid1.Coords)
variable (G : Dev nD → S3584x16384.Idx → F .f32) (X : Dev nD → Fin 6 → S1048576.Idx → F .f32)

/-- The input scratch held row by row, each as the program slices it. -/
def rowsB (fb : S6x1024.Idx → F .f32) : sProp 𝕄 :=
  iprop(((((bufV).slice (Rect.unit (s := S6x1024) ![0, 0] S1x1024.size inb_S6x1024_S1x1024_0_0) (fun _ => rfl)).squeeze S1024 squeezes_S1x1024_S1024).view.loc (V d (cW L) (jW L)) ↦[(((bufV).slice (Rect.unit (s := S6x1024) ![0, 0] S1x1024.size inb_S6x1024_S1x1024_0_0) (fun _ => rfl)).squeeze S1024 squeezes_S1x1024_S1024).view.set]{fullShare} (fb : Buf (Elt F) ((V d (cW L) (jW L)).loc cc1_scratch0)))
    ∗ ((((bufV).slice (Rect.unit (s := S6x1024) ![1, 0] S1x1024.size inb_S6x1024_S1x1024_1_0) (fun _ => rfl)).squeeze S1024 squeezes_S1x1024_S1024).view.loc (V d (cW L) (jW L)) ↦[(((bufV).slice (Rect.unit (s := S6x1024) ![1, 0] S1x1024.size inb_S6x1024_S1x1024_1_0) (fun _ => rfl)).squeeze S1024 squeezes_S1x1024_S1024).view.set]{fullShare} (fb : Buf (Elt F) ((V d (cW L) (jW L)).loc cc1_scratch0)))
    ∗ ((((bufV).slice (Rect.unit (s := S6x1024) ![2, 0] S1x1024.size inb_S6x1024_S1x1024_2_0) (fun _ => rfl)).squeeze S1024 squeezes_S1x1024_S1024).view.loc (V d (cW L) (jW L)) ↦[(((bufV).slice (Rect.unit (s := S6x1024) ![2, 0] S1x1024.size inb_S6x1024_S1x1024_2_0) (fun _ => rfl)).squeeze S1024 squeezes_S1x1024_S1024).view.set]{fullShare} (fb : Buf (Elt F) ((V d (cW L) (jW L)).loc cc1_scratch0)))
    ∗ ((((bufV).slice (Rect.unit (s := S6x1024) ![3, 0] S1x1024.size inb_S6x1024_S1x1024_3_0) (fun _ => rfl)).squeeze S1024 squeezes_S1x1024_S1024).view.loc (V d (cW L) (jW L)) ↦[(((bufV).slice (Rect.unit (s := S6x1024) ![3, 0] S1x1024.size inb_S6x1024_S1x1024_3_0) (fun _ => rfl)).squeeze S1024 squeezes_S1x1024_S1024).view.set]{fullShare} (fb : Buf (Elt F) ((V d (cW L) (jW L)).loc cc1_scratch0)))
    ∗ ((((bufV).slice (Rect.unit (s := S6x1024) ![4, 0] S1x1024.size inb_S6x1024_S1x1024_4_0) (fun _ => rfl)).squeeze S1024 squeezes_S1x1024_S1024).view.loc (V d (cW L) (jW L)) ↦[(((bufV).slice (Rect.unit (s := S6x1024) ![4, 0] S1x1024.size inb_S6x1024_S1x1024_4_0) (fun _ => rfl)).squeeze S1024 squeezes_S1x1024_S1024).view.set]{fullShare} (fb : Buf (Elt F) ((V d (cW L) (jW L)).loc cc1_scratch0)))
    ∗ ((((bufV).slice (Rect.unit (s := S6x1024) ![5, 0] S1x1024.size inb_S6x1024_S1x1024_5_0) (fun _ => rfl)).squeeze S1024 squeezes_S1x1024_S1024).view.loc (V d (cW L) (jW L)) ↦[(((bufV).slice (Rect.unit (s := S6x1024) ![5, 0] S1x1024.size inb_S6x1024_S1x1024_5_0) (fun _ => rfl)).squeeze S1024 squeezes_S1x1024_S1024).view.set]{fullShare} (fb : Buf (Elt F) ((V d (cW L) (jW L)).loc cc1_scratch0))))

/-- The output scratch held row by row, each as the program slices it. -/
def rowsO (fo : S4x1024.Idx → F .f32) : sProp 𝕄 :=
  iprop(((((outV).slice (Rect.unit (s := S4x1024) ![0, 0] S1x1024.size inb_S4x1024_S1x1024_0_0) (fun _ => rfl)).squeeze S1024 squeezes_S1x1024_S1024).view.loc (V d (cW L) (jW L)) ↦[(((outV).slice (Rect.unit (s := S4x1024) ![0, 0] S1x1024.size inb_S4x1024_S1x1024_0_0) (fun _ => rfl)).squeeze S1024 squeezes_S1x1024_S1024).view.set]{fullShare} (fo : Buf (Elt F) ((V d (cW L) (jW L)).loc cc1_scratch4)))
    ∗ ((((outV).slice (Rect.unit (s := S4x1024) ![1, 0] S1x1024.size inb_S4x1024_S1x1024_1_0) (fun _ => rfl)).squeeze S1024 squeezes_S1x1024_S1024).view.loc (V d (cW L) (jW L)) ↦[(((outV).slice (Rect.unit (s := S4x1024) ![1, 0] S1x1024.size inb_S4x1024_S1x1024_1_0) (fun _ => rfl)).squeeze S1024 squeezes_S1x1024_S1024).view.set]{fullShare} (fo : Buf (Elt F) ((V d (cW L) (jW L)).loc cc1_scratch4)))
    ∗ ((((outV).slice (Rect.unit (s := S4x1024) ![2, 0] S1x1024.size inb_S4x1024_S1x1024_2_0) (fun _ => rfl)).squeeze S1024 squeezes_S1x1024_S1024).view.loc (V d (cW L) (jW L)) ↦[(((outV).slice (Rect.unit (s := S4x1024) ![2, 0] S1x1024.size inb_S4x1024_S1x1024_2_0) (fun _ => rfl)).squeeze S1024 squeezes_S1x1024_S1024).view.set]{fullShare} (fo : Buf (Elt F) ((V d (cW L) (jW L)).loc cc1_scratch4)))
    ∗ ((((outV).slice (Rect.unit (s := S4x1024) ![3, 0] S1x1024.size inb_S4x1024_S1x1024_3_0) (fun _ => rfl)).squeeze S1024 squeezes_S1x1024_S1024).view.loc (V d (cW L) (jW L)) ↦[(((outV).slice (Rect.unit (s := S4x1024) ![3, 0] S1x1024.size inb_S4x1024_S1x1024_3_0) (fun _ => rfl)).squeeze S1024 squeezes_S1x1024_S1024).view.set]{fullShare} (fo : Buf (Elt F) ((V d (cW L) (jW L)).loc cc1_scratch4))))

theorem buf_rows (fb : S6x1024.Idx → F .f32) :
    ((bufV).view.loc (V d (cW L) (jW L)) ↦{fullShare} (fb : Buf (Elt F) ((V d (cW L) (jW L)).loc cc1_scratch0)) : sProp 𝕄) = rowsB d L fb := by
  rw [pointsTo_parts (ℓ := (bufV).view.loc (V d (cW L) (jW L))) (fun a : Fin 6 => ((bufRow a.val a.isLt).view.set : Finset S6x1024.Idx))
    (fun a b hab => Finset.disjoint_left.mpr fun s h h' => hab (Fin.ext (((mem_bufRow a.isLt s).mp h).symm.trans ((mem_bufRow b.isLt s).mp h'))))
    (fun s => by
      have hlt : ((s : S6x1024.Idx) 0).val < 6 := ((s : S6x1024.Idx) 0).isLt
      have h := (mem_bufRow hlt s).mpr rfl
      exact ⟨⟨_, hlt⟩, h⟩)]
  rw [show (Finset.univ : Finset (Fin 6)) = {0, 1, 2, 3, 4, 5} by decide, SparseCore.bigSep_insert' (by decide), SparseCore.bigSep_insert' (by decide),
    SparseCore.bigSep_insert' (by decide), SparseCore.bigSep_insert' (by decide), SparseCore.bigSep_insert' (by decide), bigSep_singleton]
  rfl

theorem out_rows (fo : S4x1024.Idx → F .f32) :
    ((outV).view.loc (V d (cW L) (jW L)) ↦{fullShare} (fo : Buf (Elt F) ((V d (cW L) (jW L)).loc cc1_scratch4)) : sProp 𝕄) = rowsO d L fo := by
  rw [pointsTo_parts (ℓ := (outV).view.loc (V d (cW L) (jW L))) (fun a : Fin 4 => ((outRow a.val a.isLt).view.set : Finset S4x1024.Idx))
    (fun a b hab => Finset.disjoint_left.mpr fun s h h' => hab (Fin.ext (((mem_outRow a.isLt s).mp h).symm.trans ((mem_outRow b.isLt s).mp h'))))
    (fun s => by
      have hlt : ((s : S4x1024.Idx) 0).val < 4 := ((s : S4x1024.Idx) 0).isLt
      have h := (mem_outRow hlt s).mpr rfl
      exact ⟨⟨_, hlt⟩, h⟩)]
  rw [show (Finset.univ : Finset (Fin 4)) = {0, 1, 2, 3} by decide, SparseCore.bigSep_insert' (by decide), SparseCore.bigSep_insert' (by decide),
    SparseCore.bigSep_insert' (by decide), bigSep_singleton]
  rfl

/-- A row of the input scratch after its fetch. -/
theorem row_fetched (t1 : Fin k1_t1_loop.trips) {a : ℕ} (ha : a < 6) {fb g : S6x1024.Idx → F .f32} {w : S1024.Idx → F .f32}
    (hw : ∀ x, w x = X d ⟨a, ha⟩ (colAt L t1 x)) (hg : g = (bufRow a ha).view.writes (Elt F) fb [⟨Rect.whole S1024, w⟩]) :
    ∀ s ∈ ((bufRow a ha).view.set : Finset S6x1024.Idx), g s = cols6 d L X t1 s := by
  intro s hs
  obtain ⟨x, -, hx⟩ := Finset.mem_map.mp hs
  have h := (Windows.writes_in (Val := Elt F) (bufRow a ha).view fb w x).trans (cast_eq _ _)
  have e := bufRow_emb ha x
  rw [hx] at h e
  rw [hg]
  refine (show _ = _ from h).trans ?_
  rw [hw x]
  unfold cols6
  have e : s = fun | 0 => ⟨a, ha⟩ | 1 => x 0 := e
  rw [e]
  show X d ⟨a, ha⟩ (colAt L t1 x) = X d ⟨a, ha⟩ (colAt L t1 fun | 0 => x 0)
  congr 2
  funext b
  match b with
  | 0 => rfl

/-- The same of the row's piece. -/
theorem row_points (t1 : Fin k1_t1_loop.trips) {a : ℕ} (ha : a < 6) (fb : S6x1024.Idx → F .f32) (w : S1024.Idx → F .f32) (hw : ∀ x, w x = X d ⟨a, ha⟩ (colAt L t1 x)) :
    ((bufRow a ha).view.loc (V d (cW L) (jW L)) ↦[(bufRow a ha).view.set]{fullShare}
        (bufRow a ha).view.writes (Elt F) (fb : Buf (Elt F) ((V d (cW L) (jW L)).loc cc1_scratch0)) [⟨Rect.whole S1024, w⟩] : sProp 𝕄)
      ⊢ (bufRow a ha).view.loc (V d (cW L) (jW L)) ↦[(bufRow a ha).view.set]{fullShare} (cols6 d L X t1 : Buf (Elt F) ((V d (cW L) (jW L)).loc cc1_scratch0)) :=
  Entails.of_eq (pointsTo_congr (by have h := row_fetched d L X t1 ha (fb := fb) hw rfl; exact h))

end Tile

end Cert.Proof.Run

end
-- ==== Proof.ShadeChunk.lean ====
/-
  Call 1, a chunk of a tile, and the tile: six copies fetch the chunk's part of the columns, the first inner loop makes the
  list and the mask, the gather brings the table's rows, the second inner loop makes the four results, four copies take
  them out.
-/
module

public import proofs.«01_k».proof.Proof.ShadeRows

@[expose] public section

noncomputable section

namespace Cert.Proof.Run

open Cert.KernelIdeal Cert.KernelIdeal.Gen Cert.Proof.Spec
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

local notation "x0V" => (Memref.whole Cert.KernelIdeal.main_v4_scv : Memref Cert.KernelIdeal.sig Kind.scVector Space.hbm Cert.KernelIdeal.S1048576 EltTy.f32)
local notation "x1V" => (Memref.whole Cert.KernelIdeal.main_v6_scv : Memref Cert.KernelIdeal.sig Kind.scVector Space.hbm Cert.KernelIdeal.S1048576 EltTy.f32)
local notation "x2V" => (Memref.whole Cert.KernelIdeal.main_v8_scv : Memref Cert.KernelIdeal.sig Kind.scVector Space.hbm Cert.KernelIdeal.S1048576 EltTy.f32)
local notation "x3V" => (Memref.whole Cert.KernelIdeal.main_v10_scv : Memref Cert.KernelIdeal.sig Kind.scVector Space.hbm Cert.KernelIdeal.S1048576 EltTy.f32)
local notation "x4V" => (Memref.whole Cert.KernelIdeal.main_v12_scv : Memref Cert.KernelIdeal.sig Kind.scVector Space.hbm Cert.KernelIdeal.S1048576 EltTy.f32)
local notation "x5V" => (Memref.whole Cert.KernelIdeal.main_v14_scv : Memref Cert.KernelIdeal.sig Kind.scVector Space.hbm Cert.KernelIdeal.S1048576 EltTy.f32)
local notation "tabV" => (Memref.whole Cert.KernelIdeal.main_v2_scv : Memref Cert.KernelIdeal.sig Kind.scVector Space.hbm Cert.KernelIdeal.S4194304x16 EltTy.f32)
local notation "o0V" => (Memref.whole Cert.KernelIdeal.main_v15_0_scv : Memref Cert.KernelIdeal.sig Kind.scVector Space.hbm Cert.KernelIdeal.S1048576 EltTy.f32)
local notation "o1V" => (Memref.whole Cert.KernelIdeal.main_v15_1_scv : Memref Cert.KernelIdeal.sig Kind.scVector Space.hbm Cert.KernelIdeal.S1048576 EltTy.f32)
local notation "o2V" => (Memref.whole Cert.KernelIdeal.main_v15_2_scv : Memref Cert.KernelIdeal.sig Kind.scVector Space.hbm Cert.KernelIdeal.S1048576 EltTy.f32)
local notation "o3V" => (Memref.whole Cert.KernelIdeal.main_v15_3_scv : Memref Cert.KernelIdeal.sig Kind.scVector Space.hbm Cert.KernelIdeal.S1048576 EltTy.f32)
local notation "bufV" => (Memref.whole Cert.KernelIdeal.cc1_scratch0 : Memref Cert.KernelIdeal.sig Kind.scVector Space.vmem Cert.KernelIdeal.S6x1024 EltTy.f32)
local notation "listV" => (Memref.whole Cert.KernelIdeal.cc1_scratch1 : Memref Cert.KernelIdeal.sig Kind.scVector Space.vmem Cert.KernelIdeal.S2x8x128 EltTy.i32)
local notation "maskV" => (Memref.whole Cert.KernelIdeal.cc1_scratch2 : Memref Cert.KernelIdeal.sig Kind.scVector Space.vmem Cert.KernelIdeal.S1024 EltTy.f32)
local notation "gotV" => (Memref.whole Cert.KernelIdeal.cc1_scratch3 : Memref Cert.KernelIdeal.sig Kind.scVector Space.vmem Cert.KernelIdeal.S2x1024x16 EltTy.f32)
local notation "outV" => (Memref.whole Cert.KernelIdeal.cc1_scratch4 : Memref Cert.KernelIdeal.sig Kind.scVector Space.vmem Cert.KernelIdeal.S4x1024 EltTy.f32)

variable [FloatOps F]

section Tile

variable (d : Dev nD) (L : grid1.Coords)
/-- Running one part of a body and then the rest. -/
theorem wp_seq {α β : Type} {p : Prog (TpuEff nD τ sig (Elt F) Λ₀ (V d (cW L) (jW L)).2) α} {k : α → Prog (TpuEff nD τ sig (Elt F) Λ₀ (V d (cW L) (jW L)).2) β} {Q : β → sProp 𝕄} :
    wp frame (wpE (defs₀ (F := F)) 𝒱₀ (V d (cW L) (jW L)) none) Set.univ p (fun a => wp frame (wpE (defs₀ (F := F)) 𝒱₀ (V d (cW L) (jW L)) none) Set.univ (k a) Q)
      ⊢ wp frame (wpE (defs₀ (F := F)) 𝒱₀ (V d (cW L) (jW L)) none) Set.univ (p >>= k) Q :=
  Entails.of_eq (wp_bind ..).symm

variable (T : S4194304x16.Idx → F .f32) (l : S2x8x128.Idx → BitVec 32) (C : S2x1024x16.Idx → F .f32)

/-! ## The parts of the body that only issue gathers, or only wait -/

theorem part11_run (hl : ∀ s, (l s).toNat < 4194304) {Q : PUnit → sProp 𝕄} :
    GB (F := F) d L T l C hl 3 ⊢ iprop((GB (F := F) d L T l C hl 7 -∗ Q ⟨⟩)
      -∗ wp frame (wpE (defs₀ (F := F)) 𝒱₀ (V d (cW L) (jW L)) none) Set.univ
        (k1_part11 L x0V (Memref.isWhole_whole _) x1V (Memref.isWhole_whole _) x2V (Memref.isWhole_whole _) x3V (Memref.isWhole_whole _)
              x4V (Memref.isWhole_whole _) x5V (Memref.isWhole_whole _) tabV (Memref.isWhole_whole _) o0V (Memref.isWhole_whole _)
              o1V (Memref.isWhole_whole _) o2V (Memref.isWhole_whole _) o3V (Memref.isWhole_whole _) bufV (Memref.isWhole_whole _)
              listV (Memref.isWhole_whole _) maskV (Memref.isWhole_whole _) gotV (Memref.isWhole_whole _) outV (Memref.isWhole_whole _)
              cc1_scratch5 cc1_scratch6 cc1_scoped0 cc1_scoped1 cc1_scoped2 cc1_scoped3) Q) := by
  rw [k1_part11_eq_skeleton]; unfold k1_part11_skel
  iintro HG Hk
  iapply (gather_step d L T l C hl 3 (by decide)) $$ HG; iintro HG
  iapply (gather_step d L T l C hl 4 (by decide)) $$ HG; iintro HG
  iapply (gather_step d L T l C hl 5 (by decide)) $$ HG; iintro HG
  iapply (gather_step d L T l C hl 6 (by decide)) $$ HG; iintro HG
  sl_step
  iapply Hk $$ HG

theorem part12_run (hl : ∀ s, (l s).toNat < 4194304) {Q : PUnit → sProp 𝕄} :
    GB (F := F) d L T l C hl 7 ⊢ iprop((GB (F := F) d L T l C hl 12 -∗ Q ⟨⟩)
      -∗ wp frame (wpE (defs₀ (F := F)) 𝒱₀ (V d (cW L) (jW L)) none) Set.univ
        (k1_part12 L x0V (Memref.isWhole_whole _) x1V (Memref.isWhole_whole _) x2V (Memref.isWhole_whole _) x3V (Memref.isWhole_whole _)
              x4V (Memref.isWhole_whole _) x5V (Memref.isWhole_whole _) tabV (Memref.isWhole_whole _) o0V (Memref.isWhole_whole _)
              o1V (Memref.isWhole_whole _) o2V (Memref.isWhole_whole _) o3V (Memref.isWhole_whole _) bufV (Memref.isWhole_whole _)
              listV (Memref.isWhole_whole _) maskV (Memref.isWhole_whole _) gotV (Memref.isWhole_whole _) outV (Memref.isWhole_whole _)
              cc1_scratch5 cc1_scratch6 cc1_scoped0 cc1_scoped1 cc1_scoped2 cc1_scoped3) Q) := by
  rw [k1_part12_eq_skeleton]; unfold k1_part12_skel
  iintro HG Hk
  iapply (gather_step d L T l C hl 7 (by decide)) $$ HG; iintro HG
  iapply (gather_step d L T l C hl 8 (by decide)) $$ HG; iintro HG
  iapply (gather_step d L T l C hl 9 (by decide)) $$ HG; iintro HG
  iapply (gather_step d L T l C hl 10 (by decide)) $$ HG; iintro HG
  iapply (gather_step d L T l C hl 11 (by decide)) $$ HG; iintro HG
  sl_step
  iapply Hk $$ HG

theorem part13_run (hl : ∀ s, (l s).toNat < 4194304) {Q : PUnit → sProp 𝕄} :
    GB (F := F) d L T l C hl 12 ⊢ iprop((GB (F := F) d L T l C hl 16 -∗ Q ⟨⟩)
      -∗ wp frame (wpE (defs₀ (F := F)) 𝒱₀ (V d (cW L) (jW L)) none) Set.univ
        (k1_part13 L x0V (Memref.isWhole_whole _) x1V (Memref.isWhole_whole _) x2V (Memref.isWhole_whole _) x3V (Memref.isWhole_whole _)
              x4V (Memref.isWhole_whole _) x5V (Memref.isWhole_whole _) tabV (Memref.isWhole_whole _) o0V (Memref.isWhole_whole _)
              o1V (Memref.isWhole_whole _) o2V (Memref.isWhole_whole _) o3V (Memref.isWhole_whole _) bufV (Memref.isWhole_whole _)
              listV (Memref.isWhole_whole _) maskV (Memref.isWhole_whole _) gotV (Memref.isWhole_whole _) outV (Memref.isWhole_whole _)
              cc1_scratch5 cc1_scratch6 cc1_scoped0 cc1_scoped1 cc1_scoped2 cc1_scoped3) Q) := by
  rw [k1_part13_eq_skeleton]; unfold k1_part13_skel
  iintro HG Hk
  iapply (gather_step d L T l C hl 12 (by decide)) $$ HG; iintro HG
  iapply (gather_step d L T l C hl 13 (by decide)) $$ HG; iintro HG
  iapply (gather_step d L T l C hl 14 (by decide)) $$ HG; iintro HG
  iapply (gather_step d L T l C hl 15 (by decide)) $$ HG; iintro HG
  sl_step
  iapply Hk $$ HG

theorem part14_run (hl : ∀ s, (l s).toNat < 4194304) (O : CellTallies nD τ sig (HIx 2)) (W : Waits sig (HIx 2)) {Q : PUnit → sProp 𝕄} :
    GW (F := F) d L T l C hl O W 0 ⊢ iprop((GW (F := F) d L T l C hl O W 4 -∗ Q ⟨⟩)
      -∗ wp frame (wpE (defs₀ (F := F)) 𝒱₀ (V d (cW L) (jW L)) none) Set.univ
        (k1_part14 L x0V (Memref.isWhole_whole _) x1V (Memref.isWhole_whole _) x2V (Memref.isWhole_whole _) x3V (Memref.isWhole_whole _)
              x4V (Memref.isWhole_whole _) x5V (Memref.isWhole_whole _) tabV (Memref.isWhole_whole _) o0V (Memref.isWhole_whole _)
              o1V (Memref.isWhole_whole _) o2V (Memref.isWhole_whole _) o3V (Memref.isWhole_whole _) bufV (Memref.isWhole_whole _)
              listV (Memref.isWhole_whole _) maskV (Memref.isWhole_whole _) gotV (Memref.isWhole_whole _) outV (Memref.isWhole_whole _)
              cc1_scratch5 cc1_scratch6 cc1_scoped0 cc1_scoped1 cc1_scoped2 cc1_scoped3) Q) := by
  rw [k1_part14_eq_skeleton]; unfold k1_part14_skel
  iintro HG Hk
  iapply (wait_step d L T l C hl O W 0 (by decide)) $$ HG; iintro HG
  iapply (wait_step d L T l C hl O W 1 (by decide)) $$ HG; iintro HG
  iapply (wait_step d L T l C hl O W 2 (by decide)) $$ HG; iintro HG
  iapply (wait_step d L T l C hl O W 3 (by decide)) $$ HG; iintro HG
  sl_step
  iapply Hk $$ HG

theorem part15_run (hl : ∀ s, (l s).toNat < 4194304) (O : CellTallies nD τ sig (HIx 2)) (W : Waits sig (HIx 2)) {Q : PUnit → sProp 𝕄} :
    GW (F := F) d L T l C hl O W 4 ⊢ iprop((GW (F := F) d L T l C hl O W 8 -∗ Q ⟨⟩)
      -∗ wp frame (wpE (defs₀ (F := F)) 𝒱₀ (V d (cW L) (jW L)) none) Set.univ
        (k1_part15 L x0V (Memref.isWhole_whole _) x1V (Memref.isWhole_whole _) x2V (Memref.isWhole_whole _) x3V (Memref.isWhole_whole _)
              x4V (Memref.isWhole_whole _) x5V (Memref.isWhole_whole _) tabV (Memref.isWhole_whole _) o0V (Memref.isWhole_whole _)
              o1V (Memref.isWhole_whole _) o2V (Memref.isWhole_whole _) o3V (Memref.isWhole_whole _) bufV (Memref.isWhole_whole _)
              listV (Memref.isWhole_whole _) maskV (Memref.isWhole_whole _) gotV (Memref.isWhole_whole _) outV (Memref.isWhole_whole _)
              cc1_scratch5 cc1_scratch6 cc1_scoped0 cc1_scoped1 cc1_scoped2 cc1_scoped3) Q) := by
  rw [k1_part15_eq_skeleton]; unfold k1_part15_skel
  iintro HG Hk
  iapply (wait_step d L T l C hl O W 4 (by decide)) $$ HG; iintro HG
  iapply (wait_step d L T l C hl O W 5 (by decide)) $$ HG; iintro HG
  iapply (wait_step d L T l C hl O W 6 (by decide)) $$ HG; iintro HG
  iapply (wait_step d L T l C hl O W 7 (by decide)) $$ HG; iintro HG
  sl_step
  iapply Hk $$ HG

theorem part16_run (hl : ∀ s, (l s).toNat < 4194304) (O : CellTallies nD τ sig (HIx 2)) (W : Waits sig (HIx 2)) {Q : PUnit → sProp 𝕄} :
    GW (F := F) d L T l C hl O W 8 ⊢ iprop((GW (F := F) d L T l C hl O W 13 -∗ Q ⟨⟩)
      -∗ wp frame (wpE (defs₀ (F := F)) 𝒱₀ (V d (cW L) (jW L)) none) Set.univ
        (k1_part16 L x0V (Memref.isWhole_whole _) x1V (Memref.isWhole_whole _) x2V (Memref.isWhole_whole _) x3V (Memref.isWhole_whole _)
              x4V (Memref.isWhole_whole _) x5V (Memref.isWhole_whole _) tabV (Memref.isWhole_whole _) o0V (Memref.isWhole_whole _)
              o1V (Memref.isWhole_whole _) o2V (Memref.isWhole_whole _) o3V (Memref.isWhole_whole _) bufV (Memref.isWhole_whole _)
              listV (Memref.isWhole_whole _) maskV (Memref.isWhole_whole _) gotV (Memref.isWhole_whole _) outV (Memref.isWhole_whole _)
              cc1_scratch5 cc1_scratch6 cc1_scoped0 cc1_scoped1 cc1_scoped2 cc1_scoped3) Q) := by
  rw [k1_part16_eq_skeleton]; unfold k1_part16_skel
  iintro HG Hk
  iapply (wait_step d L T l C hl O W 8 (by decide)) $$ HG; iintro HG
  iapply (wait_step d L T l C hl O W 9 (by decide)) $$ HG; iintro HG
  iapply (wait_step d L T l C hl O W 10 (by decide)) $$ HG; iintro HG
  iapply (wait_step d L T l C hl O W 11 (by decide)) $$ HG; iintro HG
  iapply (wait_step d L T l C hl O W 12 (by decide)) $$ HG; iintro HG
  sl_step
  iapply Hk $$ HG

theorem gather_issued (hl : ∀ s, (l s).toNat < 4194304) (O : CellTallies nD τ sig (HIx 2)) (W : Waits sig (HIx 2)) :
    iprop(GB (F := F) d L T l C hl 16 ∗ Transfers.MayWaits (V d (cW L) (jW L)) (none : HIx 2) O
      ∗ ∃ W', ⌜∀ p ∈ W', p ∈ W ∨ p.2 = none⌝ ∗ owes (V d (cW L) (jW L)) O W') ⊢ GW (F := F) d L T l C hl O W 0 := by
  unfold GB GW
  rw [Nat.zero_mul]
  iintro ⟨⟨HB, -⟩, Hmw, HO⟩
  isplitl [Hmw]; · iexact Hmw
  isplitl [HB]; · iexact HB
  iexact HO

/-- A wait on an unscheduled cell keeps the account. -/
theorem Waited.next {W W' : Waits sig (HIx 2)} (h : ∀ p ∈ W', p ∈ W ∨ p.2 = none) (s : SemLoc sig) : ∀ p ∈ insert (s, (default : HIx 2)) W', p ∈ W ∨ p.2 = none := by
  intro p hp
  rcases Finset.mem_insert.mp hp with hp | hp
  · exact .inr (hp ▸ rfl)
  · exact h p hp

/-! ## The chunk's windows of the result columns -/

theorem col0_piece (t1 : Fin k1_t1_loop.trips) (f : S1048576.Idx → F .f32) :
    ((o0V).view.loc (V d (cW L) (jW L)) ↦[(colW L t1 : Finset (Idx ((o0V).view.loc (V d (cW L) (jW L)))))]{fullShare} (f : Buf (Elt F) ((o0V).view.loc (V d (cW L) (jW L)))) : sProp 𝕄)
      ⊢ ((o0V).slice (Rect.unit (s := S1048576) (k1_off1 L t1) S1024.size (k1_off1_inb L t1)) (fun _ => rfl)).view.loc (V d (cW L) (jW L)) ↦[((o0V).slice (Rect.unit (s := S1048576) (k1_off1 L t1) S1024.size (k1_off1_inb L t1)) (fun _ => rfl)).view.set]{fullShare} (f : Buf (Elt F) ((o0V).view.loc (V d (cW L) (jW L)))) :=
  Entails.of_eq (congrArg (fun S : Finset (Idx ((o0V).view.loc (V d (cW L) (jW L)))) => ((o0V).view.loc (V d (cW L) (jW L)) ↦[S]{fullShare} (f : Buf (Elt F) ((o0V).view.loc (V d (cW L) (jW L)))) : sProp 𝕄)) (View.set_slice_whole main_v15_0_scv _).symm)

theorem col1_piece (t1 : Fin k1_t1_loop.trips) (f : S1048576.Idx → F .f32) :
    ((o1V).view.loc (V d (cW L) (jW L)) ↦[(colW L t1 : Finset (Idx ((o1V).view.loc (V d (cW L) (jW L)))))]{fullShare} (f : Buf (Elt F) ((o1V).view.loc (V d (cW L) (jW L)))) : sProp 𝕄)
      ⊢ ((o1V).slice (Rect.unit (s := S1048576) (k1_off1 L t1) S1024.size (k1_off1_inb L t1)) (fun _ => rfl)).view.loc (V d (cW L) (jW L)) ↦[((o1V).slice (Rect.unit (s := S1048576) (k1_off1 L t1) S1024.size (k1_off1_inb L t1)) (fun _ => rfl)).view.set]{fullShare} (f : Buf (Elt F) ((o1V).view.loc (V d (cW L) (jW L)))) :=
  Entails.of_eq (congrArg (fun S : Finset (Idx ((o1V).view.loc (V d (cW L) (jW L)))) => ((o1V).view.loc (V d (cW L) (jW L)) ↦[S]{fullShare} (f : Buf (Elt F) ((o1V).view.loc (V d (cW L) (jW L)))) : sProp 𝕄)) (View.set_slice_whole main_v15_1_scv _).symm)

theorem col2_piece (t1 : Fin k1_t1_loop.trips) (f : S1048576.Idx → F .f32) :
    ((o2V).view.loc (V d (cW L) (jW L)) ↦[(colW L t1 : Finset (Idx ((o2V).view.loc (V d (cW L) (jW L)))))]{fullShare} (f : Buf (Elt F) ((o2V).view.loc (V d (cW L) (jW L)))) : sProp 𝕄)
      ⊢ ((o2V).slice (Rect.unit (s := S1048576) (k1_off1 L t1) S1024.size (k1_off1_inb L t1)) (fun _ => rfl)).view.loc (V d (cW L) (jW L)) ↦[((o2V).slice (Rect.unit (s := S1048576) (k1_off1 L t1) S1024.size (k1_off1_inb L t1)) (fun _ => rfl)).view.set]{fullShare} (f : Buf (Elt F) ((o2V).view.loc (V d (cW L) (jW L)))) :=
  Entails.of_eq (congrArg (fun S : Finset (Idx ((o2V).view.loc (V d (cW L) (jW L)))) => ((o2V).view.loc (V d (cW L) (jW L)) ↦[S]{fullShare} (f : Buf (Elt F) ((o2V).view.loc (V d (cW L) (jW L)))) : sProp 𝕄)) (View.set_slice_whole main_v15_2_scv _).symm)

theorem col3_piece (t1 : Fin k1_t1_loop.trips) (f : S1048576.Idx → F .f32) :
    ((o3V).view.loc (V d (cW L) (jW L)) ↦[(colW L t1 : Finset (Idx ((o3V).view.loc (V d (cW L) (jW L)))))]{fullShare} (f : Buf (Elt F) ((o3V).view.loc (V d (cW L) (jW L)))) : sProp 𝕄)
      ⊢ ((o3V).slice (Rect.unit (s := S1048576) (k1_off1 L t1) S1024.size (k1_off1_inb L t1)) (fun _ => rfl)).view.loc (V d (cW L) (jW L)) ↦[((o3V).slice (Rect.unit (s := S1048576) (k1_off1 L t1) S1024.size (k1_off1_inb L t1)) (fun _ => rfl)).view.set]{fullShare} (f : Buf (Elt F) ((o3V).view.loc (V d (cW L) (jW L)))) :=
  Entails.of_eq (congrArg (fun S : Finset (Idx ((o3V).view.loc (V d (cW L) (jW L)))) => ((o3V).view.loc (V d (cW L) (jW L)) ↦[S]{fullShare} (f : Buf (Elt F) ((o3V).view.loc (V d (cW L) (jW L)))) : sProp 𝕄)) (View.set_slice_whole main_v15_3_scv _).symm)

variable (G : Dev nD → S3584x16384.Idx → F .f32) (X : Dev nD → Fin 6 → S1048576.Idx → F .f32)

/-! ## The result columns after the chunk's rows have gone out -/

theorem col0_join (t1 : Fin k1_t1_loop.trips) (f : S1048576.Idx → F .f32) (w : S1024.Idx → F .f32) (hf : ColOK d L G X 0 t1.val f)
    (hw : ∀ x, w x = outCol G X d 0 (colAt L t1 x)) :
    (iprop((((o0V).slice (Rect.unit (s := S1048576) (k1_off1 L t1) S1024.size (k1_off1_inb L t1)) (fun _ => rfl)).view.loc (V d (cW L) (jW L)) ↦[((o0V).slice (Rect.unit (s := S1048576) (k1_off1 L t1) S1024.size (k1_off1_inb L t1)) (fun _ => rfl)).view.set]{fullShare}
          ((o0V).slice (Rect.unit (s := S1048576) (k1_off1 L t1) S1024.size (k1_off1_inb L t1)) (fun _ => rfl)).view.writes (Elt F) (f : Buf (Elt F) ((o0V).view.loc (V d (cW L) (jW L)))) [⟨Rect.whole S1024, w⟩])
        ∗ ((o0V).view.loc (V d (cW L) (jW L)) ↦[(colSet (wW L) \ colW L t1 : Finset (Idx ((o0V).view.loc (V d (cW L) (jW L)))))]{fullShare} (f : Buf (Elt F) ((o0V).view.loc (V d (cW L) (jW L)))))) : sProp 𝕄)
      ⊢ ∃ g : S1048576.Idx → F .f32, ⌜ColOK d L G X 0 (t1.val + 1) g⌝ ∗ ((o0V).view.loc (V d (cW L) (jW L)) ↦[(colSet (wW L) : Finset (Idx ((o0V).view.loc (V d (cW L) (jW L)))))]{fullShare} (g : Buf (Elt F) ((o0V).view.loc (V d (cW L) (jW L))))) := by
  have hset : (((o0V).slice (Rect.unit (s := S1048576) (k1_off1 L t1) S1024.size (k1_off1_inb L t1)) (fun _ => rfl)).view.set : Finset S1048576.Idx) = colW L t1 := View.set_slice_whole main_v15_0_scv _
  let g : S1048576.Idx → F .f32 := ((o0V).slice (Rect.unit (s := S1048576) (k1_off1 L t1) S1024.size (k1_off1_inb L t1)) (fun _ => rfl)).view.writes (Elt F) (f : Buf (Elt F) ((o0V).view.loc (V d (cW L) (jW L)))) [⟨Rect.whole S1024, w⟩]
  obtain ⟨hok, hrest⟩ := ColOK.step d L G X (g := g) hf
    (fun r hr => by have h := Windows.writes_out (Val := Elt F) ((o0V).slice (Rect.unit (s := S1048576) (k1_off1 L t1) S1024.size (k1_off1_inb L t1)) (fun _ => rfl)).view f w (by rw [← hset] at hr; exact hr); exact h)
    (fun x => by have h := (Windows.writes_in (Val := Elt F) ((o0V).slice (Rect.unit (s := S1048576) (k1_off1 L t1) S1024.size (k1_off1_inb L t1)) (fun _ => rfl)).view f w x).trans (cast_eq _ _); exact (show _ = _ from h).trans (hw x))
  iintro ⟨Hc, Hq⟩
  ihave Hc := (Entails.of_eq (congrArg (fun S : Finset (Idx ((o0V).view.loc (V d (cW L) (jW L)))) => ((o0V).view.loc (V d (cW L) (jW L)) ↦[S]{fullShare} (g : Buf (Elt F) ((o0V).view.loc (V d (cW L) (jW L)))) : sProp 𝕄)) hset)) $$ Hc
  ihave Hq := (Entails.of_eq (pointsTo_congr (ℓ := (o0V).view.loc (V d (cW L) (jW L))) (q := fullShare) hrest)) $$ Hq
  ihave H := (pointsTo_split_subset (ℓ := (o0V).view.loc (V d (cW L) (jW L))) (colW_subset L t1)).2 $$ [Hc Hq]
  · isplitl [Hc]; · iexact Hc
    iexact Hq
  iexists g; isplitr
  · ipureintro; exact hok
  · iexact H

theorem col1_join (t1 : Fin k1_t1_loop.trips) (f : S1048576.Idx → F .f32) (w : S1024.Idx → F .f32) (hf : ColOK d L G X 1 t1.val f)
    (hw : ∀ x, w x = outCol G X d 1 (colAt L t1 x)) :
    (iprop((((o1V).slice (Rect.unit (s := S1048576) (k1_off1 L t1) S1024.size (k1_off1_inb L t1)) (fun _ => rfl)).view.loc (V d (cW L) (jW L)) ↦[((o1V).slice (Rect.unit (s := S1048576) (k1_off1 L t1) S1024.size (k1_off1_inb L t1)) (fun _ => rfl)).view.set]{fullShare}
          ((o1V).slice (Rect.unit (s := S1048576) (k1_off1 L t1) S1024.size (k1_off1_inb L t1)) (fun _ => rfl)).view.writes (Elt F) (f : Buf (Elt F) ((o1V).view.loc (V d (cW L) (jW L)))) [⟨Rect.whole S1024, w⟩])
        ∗ ((o1V).view.loc (V d (cW L) (jW L)) ↦[(colSet (wW L) \ colW L t1 : Finset (Idx ((o1V).view.loc (V d (cW L) (jW L)))))]{fullShare} (f : Buf (Elt F) ((o1V).view.loc (V d (cW L) (jW L)))))) : sProp 𝕄)
      ⊢ ∃ g : S1048576.Idx → F .f32, ⌜ColOK d L G X 1 (t1.val + 1) g⌝ ∗ ((o1V).view.loc (V d (cW L) (jW L)) ↦[(colSet (wW L) : Finset (Idx ((o1V).view.loc (V d (cW L) (jW L)))))]{fullShare} (g : Buf (Elt F) ((o1V).view.loc (V d (cW L) (jW L))))) := by
  have hset : (((o1V).slice (Rect.unit (s := S1048576) (k1_off1 L t1) S1024.size (k1_off1_inb L t1)) (fun _ => rfl)).view.set : Finset S1048576.Idx) = colW L t1 := View.set_slice_whole main_v15_1_scv _
  let g : S1048576.Idx → F .f32 := ((o1V).slice (Rect.unit (s := S1048576) (k1_off1 L t1) S1024.size (k1_off1_inb L t1)) (fun _ => rfl)).view.writes (Elt F) (f : Buf (Elt F) ((o1V).view.loc (V d (cW L) (jW L)))) [⟨Rect.whole S1024, w⟩]
  obtain ⟨hok, hrest⟩ := ColOK.step d L G X (g := g) hf
    (fun r hr => by have h := Windows.writes_out (Val := Elt F) ((o1V).slice (Rect.unit (s := S1048576) (k1_off1 L t1) S1024.size (k1_off1_inb L t1)) (fun _ => rfl)).view f w (by rw [← hset] at hr; exact hr); exact h)
    (fun x => by have h := (Windows.writes_in (Val := Elt F) ((o1V).slice (Rect.unit (s := S1048576) (k1_off1 L t1) S1024.size (k1_off1_inb L t1)) (fun _ => rfl)).view f w x).trans (cast_eq _ _); exact (show _ = _ from h).trans (hw x))
  iintro ⟨Hc, Hq⟩
  ihave Hc := (Entails.of_eq (congrArg (fun S : Finset (Idx ((o1V).view.loc (V d (cW L) (jW L)))) => ((o1V).view.loc (V d (cW L) (jW L)) ↦[S]{fullShare} (g : Buf (Elt F) ((o1V).view.loc (V d (cW L) (jW L)))) : sProp 𝕄)) hset)) $$ Hc
  ihave Hq := (Entails.of_eq (pointsTo_congr (ℓ := (o1V).view.loc (V d (cW L) (jW L))) (q := fullShare) hrest)) $$ Hq
  ihave H := (pointsTo_split_subset (ℓ := (o1V).view.loc (V d (cW L) (jW L))) (colW_subset L t1)).2 $$ [Hc Hq]
  · isplitl [Hc]; · iexact Hc
    iexact Hq
  iexists g; isplitr
  · ipureintro; exact hok
  · iexact H

theorem col2_join (t1 : Fin k1_t1_loop.trips) (f : S1048576.Idx → F .f32) (w : S1024.Idx → F .f32) (hf : ColOK d L G X 2 t1.val f)
    (hw : ∀ x, w x = outCol G X d 2 (colAt L t1 x)) :
    (iprop((((o2V).slice (Rect.unit (s := S1048576) (k1_off1 L t1) S1024.size (k1_off1_inb L t1)) (fun _ => rfl)).view.loc (V d (cW L) (jW L)) ↦[((o2V).slice (Rect.unit (s := S1048576) (k1_off1 L t1) S1024.size (k1_off1_inb L t1)) (fun _ => rfl)).view.set]{fullShare}
          ((o2V).slice (Rect.unit (s := S1048576) (k1_off1 L t1) S1024.size (k1_off1_inb L t1)) (fun _ => rfl)).view.writes (Elt F) (f : Buf (Elt F) ((o2V).view.loc (V d (cW L) (jW L)))) [⟨Rect.whole S1024, w⟩])
        ∗ ((o2V).view.loc (V d (cW L) (jW L)) ↦[(colSet (wW L) \ colW L t1 : Finset (Idx ((o2V).view.loc (V d (cW L) (jW L)))))]{fullShare} (f : Buf (Elt F) ((o2V).view.loc (V d (cW L) (jW L)))))) : sProp 𝕄)
      ⊢ ∃ g : S1048576.Idx → F .f32, ⌜ColOK d L G X 2 (t1.val + 1) g⌝ ∗ ((o2V).view.loc (V d (cW L) (jW L)) ↦[(colSet (wW L) : Finset (Idx ((o2V).view.loc (V d (cW L) (jW L)))))]{fullShare} (g : Buf (Elt F) ((o2V).view.loc (V d (cW L) (jW L))))) := by
  have hset : (((o2V).slice (Rect.unit (s := S1048576) (k1_off1 L t1) S1024.size (k1_off1_inb L t1)) (fun _ => rfl)).view.set : Finset S1048576.Idx) = colW L t1 := View.set_slice_whole main_v15_2_scv _
  let g : S1048576.Idx → F .f32 := ((o2V).slice (Rect.unit (s := S1048576) (k1_off1 L t1) S1024.size (k1_off1_inb L t1)) (fun _ => rfl)).view.writes (Elt F) (f : Buf (Elt F) ((o2V).view.loc (V d (cW L) (jW L)))) [⟨Rect.whole S1024, w⟩]
  obtain ⟨hok, hrest⟩ := ColOK.step d L G X (g := g) hf
    (fun r hr => by have h := Windows.writes_out (Val := Elt F) ((o2V).slice (Rect.unit (s := S1048576) (k1_off1 L t1) S1024.size (k1_off1_inb L t1)) (fun _ => rfl)).view f w (by rw [← hset] at hr; exact hr); exact h)
    (fun x => by have h := (Windows.writes_in (Val := Elt F) ((o2V).slice (Rect.unit (s := S1048576) (k1_off1 L t1) S1024.size (k1_off1_inb L t1)) (fun _ => rfl)).view f w x).trans (cast_eq _ _); exact (show _ = _ from h).trans (hw x))
  iintro ⟨Hc, Hq⟩
  ihave Hc := (Entails.of_eq (congrArg (fun S : Finset (Idx ((o2V).view.loc (V d (cW L) (jW L)))) => ((o2V).view.loc (V d (cW L) (jW L)) ↦[S]{fullShare} (g : Buf (Elt F) ((o2V).view.loc (V d (cW L) (jW L)))) : sProp 𝕄)) hset)) $$ Hc
  ihave Hq := (Entails.of_eq (pointsTo_congr (ℓ := (o2V).view.loc (V d (cW L) (jW L))) (q := fullShare) hrest)) $$ Hq
  ihave H := (pointsTo_split_subset (ℓ := (o2V).view.loc (V d (cW L) (jW L))) (colW_subset L t1)).2 $$ [Hc Hq]
  · isplitl [Hc]; · iexact Hc
    iexact Hq
  iexists g; isplitr
  · ipureintro; exact hok
  · iexact H

theorem col3_join (t1 : Fin k1_t1_loop.trips) (f : S1048576.Idx → F .f32) (w : S1024.Idx → F .f32) (hf : ColOK d L G X 3 t1.val f)
    (hw : ∀ x, w x = outCol G X d 3 (colAt L t1 x)) :
    (iprop((((o3V).slice (Rect.unit (s := S1048576) (k1_off1 L t1) S1024.size (k1_off1_inb L t1)) (fun _ => rfl)).view.loc (V d (cW L) (jW L)) ↦[((o3V).slice (Rect.unit (s := S1048576) (k1_off1 L t1) S1024.size (k1_off1_inb L t1)) (fun _ => rfl)).view.set]{fullShare}
          ((o3V).slice (Rect.unit (s := S1048576) (k1_off1 L t1) S1024.size (k1_off1_inb L t1)) (fun _ => rfl)).view.writes (Elt F) (f : Buf (Elt F) ((o3V).view.loc (V d (cW L) (jW L)))) [⟨Rect.whole S1024, w⟩])
        ∗ ((o3V).view.loc (V d (cW L) (jW L)) ↦[(colSet (wW L) \ colW L t1 : Finset (Idx ((o3V).view.loc (V d (cW L) (jW L)))))]{fullShare} (f : Buf (Elt F) ((o3V).view.loc (V d (cW L) (jW L)))))) : sProp 𝕄)
      ⊢ ∃ g : S1048576.Idx → F .f32, ⌜ColOK d L G X 3 (t1.val + 1) g⌝ ∗ ((o3V).view.loc (V d (cW L) (jW L)) ↦[(colSet (wW L) : Finset (Idx ((o3V).view.loc (V d (cW L) (jW L)))))]{fullShare} (g : Buf (Elt F) ((o3V).view.loc (V d (cW L) (jW L))))) := by
  have hset : (((o3V).slice (Rect.unit (s := S1048576) (k1_off1 L t1) S1024.size (k1_off1_inb L t1)) (fun _ => rfl)).view.set : Finset S1048576.Idx) = colW L t1 := View.set_slice_whole main_v15_3_scv _
  let g : S1048576.Idx → F .f32 := ((o3V).slice (Rect.unit (s := S1048576) (k1_off1 L t1) S1024.size (k1_off1_inb L t1)) (fun _ => rfl)).view.writes (Elt F) (f : Buf (Elt F) ((o3V).view.loc (V d (cW L) (jW L)))) [⟨Rect.whole S1024, w⟩]
  obtain ⟨hok, hrest⟩ := ColOK.step d L G X (g := g) hf
    (fun r hr => by have h := Windows.writes_out (Val := Elt F) ((o3V).slice (Rect.unit (s := S1048576) (k1_off1 L t1) S1024.size (k1_off1_inb L t1)) (fun _ => rfl)).view f w (by rw [← hset] at hr; exact hr); exact h)
    (fun x => by have h := (Windows.writes_in (Val := Elt F) ((o3V).slice (Rect.unit (s := S1048576) (k1_off1 L t1) S1024.size (k1_off1_inb L t1)) (fun _ => rfl)).view f w x).trans (cast_eq _ _); exact (show _ = _ from h).trans (hw x))
  iintro ⟨Hc, Hq⟩
  ihave Hc := (Entails.of_eq (congrArg (fun S : Finset (Idx ((o3V).view.loc (V d (cW L) (jW L)))) => ((o3V).view.loc (V d (cW L) (jW L)) ↦[S]{fullShare} (g : Buf (Elt F) ((o3V).view.loc (V d (cW L) (jW L)))) : sProp 𝕄)) hset)) $$ Hc
  ihave Hq := (Entails.of_eq (pointsTo_congr (ℓ := (o3V).view.loc (V d (cW L) (jW L))) (q := fullShare) hrest)) $$ Hq
  ihave H := (pointsTo_split_subset (ℓ := (o3V).view.loc (V d (cW L) (jW L))) (colW_subset L t1)).2 $$ [Hc Hq]
  · isplitl [Hc]; · iexact Hc
    iexact Hq
  iexists g; isplitr
  · ipureintro; exact hok
  · iexact H

/-- What row `j` of the output scratch brings to the column. -/
theorem row_leaves {T : S4194304x16.Idx → F .f32} (hT : ∀ r, RowOK (G d) T r) (t1 : Fin k1_t1_loop.trips) {l : S2x8x128.Idx → BitVec 32} (hl : ListOK (cols6 d L X t1) 64 l)
    {M : S1024.Idx → F .f32} (hM : MaskOK (cols6 d L X t1) 64 M) {f : S4x1024.Idx → F .f32} (hf : OutOK (cols6 d L X t1) M (gathered T l) 64 f)
    {j : ℕ} (hj : j < 4) (x : S1024.Idx) : f ((outRow j hj).view.emb x) = outCol G X d ⟨j, hj⟩ (colAt L t1 x) := by
  refine Eq.trans (congrArg f ?_) (out_chunk d L G X hT t1 hl hM hf ⟨j, hj⟩ x)
  funext b
  match b with
  | 0 => exact congrFun (outRow_emb hj x) 0
  | 1 => exact congrFun (outRow_emb hj x) 1

/-- The six read shares of the columns, as the tile sees them. -/
def colsV : sProp 𝕄 :=
  iprop(((x0V).view.loc (V d (cW L) (jW L)) ↦{shr (wW L)} (X d 0 : Buf (Elt F) ((x0V).view.loc (V d (cW L) (jW L)))))
    ∗ ((x1V).view.loc (V d (cW L) (jW L)) ↦{shr (wW L)} (X d 1 : Buf (Elt F) ((x1V).view.loc (V d (cW L) (jW L)))))
    ∗ ((x2V).view.loc (V d (cW L) (jW L)) ↦{shr (wW L)} (X d 2 : Buf (Elt F) ((x2V).view.loc (V d (cW L) (jW L)))))
    ∗ ((x3V).view.loc (V d (cW L) (jW L)) ↦{shr (wW L)} (X d 3 : Buf (Elt F) ((x3V).view.loc (V d (cW L) (jW L)))))
    ∗ ((x4V).view.loc (V d (cW L) (jW L)) ↦{shr (wW L)} (X d 4 : Buf (Elt F) ((x4V).view.loc (V d (cW L) (jW L)))))
    ∗ ((x5V).view.loc (V d (cW L) (jW L)) ↦{shr (wW L)} (X d 5 : Buf (Elt F) ((x5V).view.loc (V d (cW L) (jW L))))))

/-- The outer loop at chunk `k`: the result columns are done for the samples of the chunks before. -/
def inv3 (O : CellTallies nD τ sig (HIx 2)) (W : Waits sig (HIx 2)) (k : ℕ) (_ : BitVec 32) : sProp 𝕄 :=
  iprop(Transfers.MayWaits (V d (cW L) (jW L)) (none : HIx 2) O
    ∗ colsV d L X
    ∗ (∃ T : S4194304x16.Idx → F .f32, ⌜∀ r, RowOK (G d) T r⌝ ∗ ((tabV).view.loc (V d (cW L) (jW L)) ↦{shr (wW L)} (T : Buf (Elt F) ((tabV).view.loc (V d (cW L) (jW L))))))
    ∗ (∃ f : S1048576.Idx → F .f32, ⌜ColOK d L G X 0 k f⌝
      ∗ ((o0V).view.loc (V d (cW L) (jW L)) ↦[(colSet (wW L) : Finset (Idx ((o0V).view.loc (V d (cW L) (jW L)))))]{fullShare} (f : Buf (Elt F) ((o0V).view.loc (V d (cW L) (jW L))))))
    ∗ (∃ f : S1048576.Idx → F .f32, ⌜ColOK d L G X 1 k f⌝
      ∗ ((o1V).view.loc (V d (cW L) (jW L)) ↦[(colSet (wW L) : Finset (Idx ((o1V).view.loc (V d (cW L) (jW L)))))]{fullShare} (f : Buf (Elt F) ((o1V).view.loc (V d (cW L) (jW L))))))
    ∗ (∃ f : S1048576.Idx → F .f32, ⌜ColOK d L G X 2 k f⌝
      ∗ ((o2V).view.loc (V d (cW L) (jW L)) ↦[(colSet (wW L) : Finset (Idx ((o2V).view.loc (V d (cW L) (jW L)))))]{fullShare} (f : Buf (Elt F) ((o2V).view.loc (V d (cW L) (jW L))))))
    ∗ (∃ f : S1048576.Idx → F .f32, ⌜ColOK d L G X 3 k f⌝
      ∗ ((o3V).view.loc (V d (cW L) (jW L)) ↦[(colSet (wW L) : Finset (Idx ((o3V).view.loc (V d (cW L) (jW L)))))]{fullShare} (f : Buf (Elt F) ((o3V).view.loc (V d (cW L) (jW L))))))
    ∗ (∃ f : S6x1024.Idx → F .f32, (bufV).view.loc (V d (cW L) (jW L)) ↦{fullShare} (f : Buf (Elt F) ((V d (cW L) (jW L)).loc cc1_scratch0)))
    ∗ (∃ f : S2x8x128.Idx → BitVec 32, (listV).view.loc (V d (cW L) (jW L)) ↦{fullShare} (f : Buf (Elt F) ((V d (cW L) (jW L)).loc cc1_scratch1)))
    ∗ (∃ f : S1024.Idx → F .f32, (maskV).view.loc (V d (cW L) (jW L)) ↦{fullShare} (f : Buf (Elt F) ((V d (cW L) (jW L)).loc cc1_scratch2)))
    ∗ (∃ f : S2x1024x16.Idx → F .f32, (gotV).view.loc (V d (cW L) (jW L)) ↦{fullShare} (f : Buf (Elt F) ((V d (cW L) (jW L)).loc cc1_scratch3)))
    ∗ (∃ f : S4x1024.Idx → F .f32, (outV).view.loc (V d (cW L) (jW L)) ↦{fullShare} (f : Buf (Elt F) ((V d (cW L) (jW L)).loc cc1_scratch4)))
    ∗ semVal (inCell d (cW L) (jW L)) 0 ∗ semVal (rowCell d (cW L) (jW L)) 0
    ∗ semVal (V d (cW L) (jW L), .dma cc1_scoped0.sem) 0 ∗ semVal (V d (cW L) (jW L), .dma cc1_scoped1.sem) 0
    ∗ semVal (V d (cW L) (jW L), .dma cc1_scoped2.sem) 0 ∗ semVal (V d (cW L) (jW L), .dma cc1_scoped3.sem) 0
    ∗ ∃ W', ⌜∀ p ∈ W', p ∈ W ∨ p.2 = none⌝ ∗ owes (V d (cW L) (jW L)) O W')

theorem shade_chunk (O : CellTallies nD τ sig (HIx 2)) (W : Waits sig (HIx 2)) (v1 : BitVec 32) (t1 : Fin k1_t1_loop.trips) (acc : BitVec 32)
    (_plan : Transfers.BatchOf (V d (cW L) (jW L)) (SemLoc.dma (sig := sig) cc1_scratch5.sem) 6) :
    inv3 (F := F) d L G X O W t1.val acc
      ⊢ wp frame (wpE (defs₀ (F := F)) 𝒱₀ (V d (cW L) (jW L)) none) Set.univ
          (k1_t1_body L x0V (Memref.isWhole_whole _) x1V (Memref.isWhole_whole _) x2V (Memref.isWhole_whole _) x3V (Memref.isWhole_whole _)
            x4V (Memref.isWhole_whole _) x5V (Memref.isWhole_whole _) tabV (Memref.isWhole_whole _) o0V (Memref.isWhole_whole _)
            o1V (Memref.isWhole_whole _) o2V (Memref.isWhole_whole _) o3V (Memref.isWhole_whole _) bufV (Memref.isWhole_whole _)
            listV (Memref.isWhole_whole _) maskV (Memref.isWhole_whole _) gotV (Memref.isWhole_whole _) outV (Memref.isWhole_whole _)
            cc1_scratch5 cc1_scratch6 cc1_scoped0 cc1_scoped1 cc1_scoped2 cc1_scoped3 v1 t1 acc)
          fun a => inv3 (F := F) d L G X O W (t1.val + 1) a := by
  unfold k1_t1_body
  rw [k1_part8_eq_skeleton, k1_part9_eq_skeleton,  k1_part10_eq_skeleton, k1_part17_eq_skeleton, k1_part18_eq_skeleton]
  unfold k1_part8_skel k1_part9_skel k1_part10_skel k1_part17_skel k1_part18_skel
  unfold inv3 colsV
  iintro ⟨Hmw, ⟨Hx0, Hx1, Hx2, Hx3, Hx4, Hx5⟩, ⟨%T, %hT, Ht⟩, ⟨%f0, %hf0, Ho0⟩, ⟨%f1, %hf1, Ho1⟩, ⟨%f2, %hf2, Ho2⟩, ⟨%f3, %hf3, Ho3⟩, ⟨%fb, Hb⟩, ⟨%fl, Hl⟩, ⟨%fm, Hm⟩, ⟨%fc, Hc⟩, ⟨%fo, Ho⟩, Hs, Hr, Hw0, Hw1, Hw2, Hw3, %W', %hW', HO⟩
  ihave Hb := (Entails.of_eq (buf_rows d L fb)) $$ Hb
  ihave Hb := (Entails.of_eq (rowsB.eq_1 d L fb)) $$ Hb
  icases Hb with ⟨Hb0, Hb1, Hb2, Hb3, Hb4, Hb5⟩
  sl_exec
  ihave Hb0 := (row_points d L X t1 (show 0 < 6 by decide) fb (shade_chunk.sl.dma0 d L X t1) (fun _ => rfl)) $$ Hb0
  ihave Hb1 := (row_points d L X t1 (show 1 < 6 by decide) fb (shade_chunk.sl.dma1 d L X t1) (fun _ => rfl)) $$ Hb1
  ihave Hb2 := (row_points d L X t1 (show 2 < 6 by decide) fb (shade_chunk.sl.dma2 d L X t1) (fun _ => rfl)) $$ Hb2
  ihave Hb3 := (row_points d L X t1 (show 3 < 6 by decide) fb (shade_chunk.sl.dma3 d L X t1) (fun _ => rfl)) $$ Hb3
  ihave Hb4 := (row_points d L X t1 (show 4 < 6 by decide) fb (shade_chunk.sl.dma4 d L X t1) (fun _ => rfl)) $$ Hb4
  ihave Hb5 := (row_points d L X t1 (show 5 < 6 by decide) fb (shade_chunk.sl.dma5 d L X t1) (fun _ => rfl)) $$ Hb5
  ihave Hb := (show rowsB d L (cols6 d L X t1) ⊢ ((bufV).view.loc (V d (cW L) (jW L)) ↦{fullShare} (cols6 d L X t1 : Buf (Elt F) ((V d (cW L) (jW L)).loc cc1_scratch0)) : sProp 𝕄)
    from Entails.of_eq (buf_rows d L (cols6 d L X t1)).symm) $$ [Hb0 Hb1 Hb2 Hb3 Hb4 Hb5]
  · unfold rowsB
    isplitl [Hb0]; · iexact Hb0
    isplitl [Hb1]; · iexact Hb1
    isplitl [Hb2]; · iexact Hb2
    isplitl [Hb3]; · iexact Hb3
    isplitl [Hb4]; · iexact Hb4
    iexact Hb5
  iapply wp_seq
  sl_for (fun k _ => invI (F := F) d L (cols6 d L X t1) k) $$ [Hb Hl Hm]
  case region =>
    intro k _
    exact index_step d L (cols6 d L X t1) t1 k
  · unfold invI
    isplitl [Hb]; · iexact Hb
    isplitl [Hl]
    · iexists fl; isplitr
      · ipureintro; intro s hs; omega
      · iexact Hl
    · iexists fm; isplitr
      · ipureintro; intro s hs; omega
      · iexact Hm
  iintro %_ HI
  ihave HI := (Entails.of_eq (invI.eq_1 d L (cols6 d L X t1) _)) $$ HI
  icases HI with ⟨Hb, ⟨%l, %hl, Hl⟩, %M, %hM, Hm⟩
  rw [show Scf.trips k1_t2_loop.lb k1_t2_loop.ub k1_t2_loop.st = 64 by decide] at hl hM
  have hlt := hl.lt
  imod (gather_begin d L T l fc hlt) $$ [Ht Hc Hl Hr] with HG
  · isplitl [Ht]; · iexact Ht
    isplitl [Hc]; · iexact Hc
    isplitl [Hl]; · iexact Hl
    iexact Hr
  iapply (gather_step d L T l fc hlt 0 (by decide)) $$ HG; iintro HG
  iapply (gather_step d L T l fc hlt 1 (by decide)) $$ HG; iintro HG
  iapply (gather_step d L T l fc hlt 2 (by decide)) $$ HG; iintro HG
  sl_step
  iapply wp_seq
  iapply (part11_run d L T l fc hlt) $$ HG; iintro HG
  iapply wp_seq
  iapply (part12_run d L T l fc hlt) $$ HG; iintro HG
  iapply wp_seq
  iapply (part13_run d L T l fc hlt) $$ HG; iintro HG
  ihave HG := (gather_issued d L T l fc hlt O W) $$ [HG Hmw HO]
  · isplitl [HG]; · iexact HG
    isplitl [Hmw]; · iexact Hmw
    iexists _; isplitr
    swap
    · iexact HO
    ipureintro
    exact Waited.next (Waited.next (Waited.next (Waited.next (Waited.next (Waited.next hW' _) _) _) _) _) _
  iapply wp_seq
  iapply (part14_run d L T l fc hlt O W) $$ HG; iintro HG
  iapply wp_seq
  iapply (part15_run d L T l fc hlt O W) $$ HG; iintro HG
  iapply wp_seq
  iapply (part16_run d L T l fc hlt O W) $$ HG; iintro HG
  iapply wp_seq
  iapply (wait_step d L T l fc hlt O W 13 (by decide)) $$ HG; iintro HG
  iapply (wait_step d L T l fc hlt O W 14 (by decide)) $$ HG; iintro HG
  iapply (wait_step d L T l fc hlt O W 15 (by decide)) $$ HG; iintro HG
  imod (gather_end d L T l fc hlt O W) $$ HG with ⟨Hmw, Ht, Hc, Hl, Hr, %W2, %hW2, HO⟩
  sl_for (fun k _ => invC (F := F) d L (cols6 d L X t1) M (gathered T l) k) $$ [Hb Hm Hc Ho]
  case region =>
    intro k _
    exact color_step d L (cols6 d L X t1) M (gathered T l) t1 k
  · unfold invC
    isplitl [Hb]; · iexact Hb
    isplitl [Hm]; · iexact Hm
    isplitl [Hc]; · iexact Hc
    iexists fo; isplitr
    · ipureintro; intro s hs; omega
    · iexact Ho
  iintro %_ HI
  ihave HI := (Entails.of_eq (invC.eq_1 d L (cols6 d L X t1) M (gathered T l) _)) $$ HI
  icases HI with ⟨Hb, Hm, Hc, %fr, %hfr, Ho⟩
  rw [show Scf.trips k1_t3_loop.lb k1_t3_loop.ub k1_t3_loop.st = 64 by decide] at hfr
  ihave Ho := (Entails.of_eq (out_rows d L fr)) $$ Ho
  ihave Ho := (Entails.of_eq (rowsO.eq_1 d L fr)) $$ Ho
  icases Ho with ⟨Hr0, Hr1, Hr2, Hr3⟩
  ihave Ho0 := (pointsTo_split_subset (ℓ := (o0V).view.loc (V d (cW L) (jW L))) (colW_subset L t1)).1 $$ Ho0
  icases Ho0 with ⟨Hc0, Hq0⟩
  ihave Hc0 := (col0_piece d L t1 f0) $$ Hc0
  ihave Ho1 := (pointsTo_split_subset (ℓ := (o1V).view.loc (V d (cW L) (jW L))) (colW_subset L t1)).1 $$ Ho1
  icases Ho1 with ⟨Hc1, Hq1⟩
  ihave Hc1 := (col1_piece d L t1 f1) $$ Hc1
  ihave Ho2 := (pointsTo_split_subset (ℓ := (o2V).view.loc (V d (cW L) (jW L))) (colW_subset L t1)).1 $$ Ho2
  icases Ho2 with ⟨Hc2, Hq2⟩
  ihave Hc2 := (col2_piece d L t1 f2) $$ Hc2
  ihave Ho3 := (pointsTo_split_subset (ℓ := (o3V).view.loc (V d (cW L) (jW L))) (colW_subset L t1)).1 $$ Ho3
  icases Ho3 with ⟨Hc3, Hq3⟩
  ihave Hc3 := (col3_piece d L t1 f3) $$ Hc3
  sl_exec
  sl_step
  ihave Ho0 := (col0_join d L G X t1 f0 (shade_chunk.sl.dma0_1 fr) hf0 (fun x => by have h := row_leaves d L G X hT t1 hl hM hfr (j := 0) (by decide) x; exact h)) $$ [Hc0 Hq0]
  · isplitl [Hc0]; · iexact Hc0
    iexact Hq0
  ihave Ho1 := (col1_join d L G X t1 f1 (shade_chunk.sl.dma0_2 fr) hf1 (fun x => by have h := row_leaves d L G X hT t1 hl hM hfr (j := 1) (by decide) x; exact h)) $$ [Hc1 Hq1]
  · isplitl [Hc1]; · iexact Hc1
    iexact Hq1
  ihave Ho2 := (col2_join d L G X t1 f2 (shade_chunk.sl.dma0_3 fr) hf2 (fun x => by have h := row_leaves d L G X hT t1 hl hM hfr (j := 2) (by decide) x; exact h)) $$ [Hc2 Hq2]
  · isplitl [Hc2]; · iexact Hc2
    iexact Hq2
  ihave Ho3 := (col3_join d L G X t1 f3 (shade_chunk.sl.dma0_4 fr) hf3 (fun x => by have h := row_leaves d L G X hT t1 hl hM hfr (j := 3) (by decide) x; exact h)) $$ [Hc3 Hq3]
  · isplitl [Hc3]; · iexact Hc3
    iexact Hq3
  ihave Ho := (show rowsO d L fr ⊢ ((outV).view.loc (V d (cW L) (jW L)) ↦{fullShare} (fr : Buf (Elt F) ((V d (cW L) (jW L)).loc cc1_scratch4)) : sProp 𝕄)
    from Entails.of_eq (out_rows d L fr).symm) $$ [Hr0 Hr1 Hr2 Hr3]
  · unfold rowsO
    isplitl [Hr0]; · iexact Hr0
    isplitl [Hr1]; · iexact Hr1
    isplitl [Hr2]; · iexact Hr2
    iexact Hr3
  isplitl [Hmw]; · iexact Hmw
  isplitl [Hx0 Hx1 Hx2 Hx3 Hx4 Hx5]
  · isplitl [Hx0]; · iexact Hx0
    isplitl [Hx1]; · iexact Hx1
    isplitl [Hx2]; · iexact Hx2
    isplitl [Hx3]; · iexact Hx3
    isplitl [Hx4]; · iexact Hx4
    iexact Hx5
  isplitl [Ht]
  · iexists T; isplitr
    · ipureintro; exact hT
    · iexact Ht
  isplitl [Ho0]; · iexact Ho0
  isplitl [Ho1]; · iexact Ho1
  isplitl [Ho2]; · iexact Ho2
  isplitl [Ho3]; · iexact Ho3
  isplitl [Hb]; · iexists _; iexact Hb
  isplitl [Hl]; · iexists _; iexact Hl
  isplitl [Hm]; · iexists _; iexact Hm
  isplitl [Hc]; · iexists _; iexact Hc
  isplitl [Ho]; · iexists _; iexact Ho
  isplitl [Hs]; · iexact Hs
  isplitl [Hr]; · iexact Hr
  isplitl [Hw0]; · iexact Hw0
  isplitl [Hw1]; · iexact Hw1
  isplitl [Hw2]; · iexact Hw2
  isplitl [Hw3]; · iexact Hw3
  iexists _; isplitr
  swap
  · iexact HO
  ipureintro
  exact Waited.next (Waited.next (Waited.next (Waited.next hW2 _) _) _) _

end Tile

end Cert.Proof.Run

end
-- ==== Proof.Shade.lean ====
/-
  Call 1, one tile's task: 32 chunks of 1024 points each, after which the tile's 32768 entries of the four result columns
  hold their values.
-/
module

public import proofs.«01_k».proof.Proof.ShadeChunk

@[expose] public section

noncomputable section

namespace Cert.Proof.Run

open Cert.KernelIdeal Cert.KernelIdeal.Gen Cert.Proof.Spec
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

local notation "x0V" => (Memref.whole Cert.KernelIdeal.main_v4_scv : Memref Cert.KernelIdeal.sig Kind.scVector Space.hbm Cert.KernelIdeal.S1048576 EltTy.f32)
local notation "x1V" => (Memref.whole Cert.KernelIdeal.main_v6_scv : Memref Cert.KernelIdeal.sig Kind.scVector Space.hbm Cert.KernelIdeal.S1048576 EltTy.f32)
local notation "x2V" => (Memref.whole Cert.KernelIdeal.main_v8_scv : Memref Cert.KernelIdeal.sig Kind.scVector Space.hbm Cert.KernelIdeal.S1048576 EltTy.f32)
local notation "x3V" => (Memref.whole Cert.KernelIdeal.main_v10_scv : Memref Cert.KernelIdeal.sig Kind.scVector Space.hbm Cert.KernelIdeal.S1048576 EltTy.f32)
local notation "x4V" => (Memref.whole Cert.KernelIdeal.main_v12_scv : Memref Cert.KernelIdeal.sig Kind.scVector Space.hbm Cert.KernelIdeal.S1048576 EltTy.f32)
local notation "x5V" => (Memref.whole Cert.KernelIdeal.main_v14_scv : Memref Cert.KernelIdeal.sig Kind.scVector Space.hbm Cert.KernelIdeal.S1048576 EltTy.f32)
local notation "tabV" => (Memref.whole Cert.KernelIdeal.main_v2_scv : Memref Cert.KernelIdeal.sig Kind.scVector Space.hbm Cert.KernelIdeal.S4194304x16 EltTy.f32)
local notation "o0V" => (Memref.whole Cert.KernelIdeal.main_v15_0_scv : Memref Cert.KernelIdeal.sig Kind.scVector Space.hbm Cert.KernelIdeal.S1048576 EltTy.f32)
local notation "o1V" => (Memref.whole Cert.KernelIdeal.main_v15_1_scv : Memref Cert.KernelIdeal.sig Kind.scVector Space.hbm Cert.KernelIdeal.S1048576 EltTy.f32)
local notation "o2V" => (Memref.whole Cert.KernelIdeal.main_v15_2_scv : Memref Cert.KernelIdeal.sig Kind.scVector Space.hbm Cert.KernelIdeal.S1048576 EltTy.f32)
local notation "o3V" => (Memref.whole Cert.KernelIdeal.main_v15_3_scv : Memref Cert.KernelIdeal.sig Kind.scVector Space.hbm Cert.KernelIdeal.S1048576 EltTy.f32)
local notation "bufV" => (Memref.whole Cert.KernelIdeal.cc1_scratch0 : Memref Cert.KernelIdeal.sig Kind.scVector Space.vmem Cert.KernelIdeal.S6x1024 EltTy.f32)
local notation "listV" => (Memref.whole Cert.KernelIdeal.cc1_scratch1 : Memref Cert.KernelIdeal.sig Kind.scVector Space.vmem Cert.KernelIdeal.S2x8x128 EltTy.i32)
local notation "maskV" => (Memref.whole Cert.KernelIdeal.cc1_scratch2 : Memref Cert.KernelIdeal.sig Kind.scVector Space.vmem Cert.KernelIdeal.S1024 EltTy.f32)
local notation "gotV" => (Memref.whole Cert.KernelIdeal.cc1_scratch3 : Memref Cert.KernelIdeal.sig Kind.scVector Space.vmem Cert.KernelIdeal.S2x1024x16 EltTy.f32)
local notation "outV" => (Memref.whole Cert.KernelIdeal.cc1_scratch4 : Memref Cert.KernelIdeal.sig Kind.scVector Space.vmem Cert.KernelIdeal.S4x1024 EltTy.f32)

section Tile

variable [FloatOps F] (d : Dev nD) (L : grid1.Coords)
variable (G : Dev nD → S3584x16384.Idx → F .f32) (X : Dev nD → Fin 6 → S1048576.Idx → F .f32)

/-! ## The tile's own buffers and semaphores -/

/-- The six semaphores of the task, by number. -/
def semOf : Fin 6 → SemLoc sig
  | 0 => .dma cc1_scratch5.sem | 1 => .dma cc1_scratch6.sem | 2 => .dma cc1_scoped0.sem
  | 3 => .dma cc1_scoped1.sem | 4 => .dma cc1_scoped2.sem | 5 => .dma cc1_scoped3.sem

theorem semOf_inj : ∀ a b, semOf a = semOf b → a = b := by decide
theorem semOf_scoped : ∀ a, (semOf a).isScoped .scVector = true := by decide

/-- The five buffers of the task, by number. -/
def bufOf : Fin 5 → Ref sig .scVector
  | 0 => cc1_scratch0 | 1 => cc1_scratch1 | 2 => cc1_scratch2 | 3 => cc1_scratch3 | 4 => cc1_scratch4

theorem bufOf_inj : ∀ a b, bufOf a = bufOf b → a = b := by decide

abbrev cellSet : Finset (GSem nD τ sig) := Finset.univ.image fun a : Fin 6 => ((V d (cW L) (jW L), semOf a) : GSem nD τ sig)
abbrev refSet : Finset (DevRef τ sig) := Finset.univ.image fun a : Fin 5 => (Proc.scVector (cW L) (jW L)).devRef (bufOf a)

omit [FloatOps F] in
theorem bigSep_six (Φ : Fin 6 → sProp 𝕄) : bigSep Finset.univ Φ = iprop(Φ 0 ∗ Φ 1 ∗ Φ 2 ∗ Φ 3 ∗ Φ 4 ∗ Φ 5) := by
  rw [show (Finset.univ : Finset (Fin 6)) = {0, 1, 2, 3, 4, 5} by decide, SparseCore.bigSep_insert' (by decide), SparseCore.bigSep_insert' (by decide),
    SparseCore.bigSep_insert' (by decide), SparseCore.bigSep_insert' (by decide), SparseCore.bigSep_insert' (by decide), bigSep_singleton]

omit [FloatOps F] in
theorem bigSep_five (Φ : Fin 5 → sProp 𝕄) : bigSep Finset.univ Φ = iprop(Φ 0 ∗ Φ 1 ∗ Φ 2 ∗ Φ 3 ∗ Φ 4) := by
  rw [show (Finset.univ : Finset (Fin 5)) = {0, 1, 2, 3, 4} by decide, SparseCore.bigSep_insert' (by decide), SparseCore.bigSep_insert' (by decide),
    SparseCore.bigSep_insert' (by decide), SparseCore.bigSep_insert' (by decide), bigSep_singleton]

omit [FloatOps F] in
theorem ownSems0_shade :
    (ownSems0 (V d (cW L) (jW L)) : sProp 𝕄)
      = iprop((semVal (inCell d (cW L) (jW L)) 0 ∗ semVal (rowCell d (cW L) (jW L)) 0
        ∗ semVal (V d (cW L) (jW L), .dma cc1_scoped0.sem) 0 ∗ semVal (V d (cW L) (jW L), .dma cc1_scoped1.sem) 0
        ∗ semVal (V d (cW L) (jW L), .dma cc1_scoped2.sem) 0 ∗ semVal (V d (cW L) (jW L), .dma cc1_scoped3.sem) 0)
        ∗ bigSep (ownCells (V d (cW L) (jW L)) \ cellSet d L) fun g => semVal g 0) := by
  unfold SparseCore.Cfg.ownSems0
  rw [SparseCore.bigSep_sdiff_split' (t := cellSet d L) (fun g hg => by
      obtain ⟨a, -, rfl⟩ := Finset.mem_image.mp hg
      exact mem_ownCells.mpr ⟨rfl, semOf_scoped a⟩),
    SparseCore.bigSep_image_of_injOn (fun a _ b _ h => semOf_inj a b (congrArg Prod.snd h)), bigSep_six]
  rfl

omit [FloatOps F] in
theorem ownBufs_shade :
    (ownBufs (V d (cW L) (jW L)) : sProp 𝕄)
      = iprop(((∃ f, (V d (cW L) (jW L)).loc cc1_scratch0 ↦{fullShare} f) ∗ (∃ f, (V d (cW L) (jW L)).loc cc1_scratch1 ↦{fullShare} f)
          ∗ (∃ f, (V d (cW L) (jW L)).loc cc1_scratch2 ↦{fullShare} f) ∗ (∃ f, (V d (cW L) (jW L)).loc cc1_scratch3 ↦{fullShare} f)
          ∗ (∃ f, (V d (cW L) (jW L)).loc cc1_scratch4 ↦{fullShare} f))
          ∗ bigSep (ownRefs (τ := τ) (.scVector (cW L) (jW L)) \ refSet L)
              fun b => iprop(∃ f, ((d, b) : Loc nD τ sig) ↦{fullShare} f)) := by
  unfold SparseCore.Cfg.ownBufs
  refine (SparseCore.bigSep_sdiff_split' (t := refSet L) (fun g hg => by
      obtain ⟨a, -, rfl⟩ := Finset.mem_image.mp hg
      refine SparseCore.Cfg.mem_ownRefs_of_owner ?_
      match a with | 0 => rfl | 1 => rfl | 2 => rfl | 3 => rfl | 4 => rfl)).trans ?_
  rw [SparseCore.bigSep_image_of_injOn (fun a _ b _ h => bufOf_inj a b (Proc.devRef_injective _ h)), bigSep_five]
  rfl

/-! ## The task -/

/-- A result column that is right on all the chunks of the tile. -/
theorem ColOK.full {j : Fin 4} {f : S1048576.Idx → F .f32} (h : ColOK d L G X j 32 f) :
    ∀ r ∈ colSet (wW L), f r = outCol G X d j r := fun r hr => h r hr (by
  have := mem_colSet.mp hr; omega)

theorem tile_shade (hF : (K (F := F)).Facts) (O : CellTallies nD τ sig (HIx 2)) (W : Waits sig (HIx 2)) (hO : ∀ g, O g none = 0) :
    iprop(levAts (K (F := F)).L (K (F := F)).lev ∗ emp ∗ go1 G X d (wW L)
        ∗ scopedBufs (V d (cW L) (jW L)) ∗ scopedSems0 (V d (cW L) (jW L)) ∗ owes (V d (cW L) (jW L)) O W)
      ⊢ wp frame (wpE (defs₀ (F := F)) 𝒱₀ (V d (cW L) (jW L)) none) Set.univ
          (cc1__shade_body L x0V (Memref.isWhole_whole _) x1V (Memref.isWhole_whole _) x2V (Memref.isWhole_whole _) x3V (Memref.isWhole_whole _) x4V (Memref.isWhole_whole _) x5V (Memref.isWhole_whole _) tabV (Memref.isWhole_whole _) o0V (Memref.isWhole_whole _) o1V (Memref.isWhole_whole _) o2V (Memref.isWhole_whole _) o3V (Memref.isWhole_whole _) bufV (Memref.isWhole_whole _) listV (Memref.isWhole_whole _) maskV (Memref.isWhole_whole _) gotV (Memref.isWhole_whole _) outV (Memref.isWhole_whole _) cc1_scratch5 cc1_scratch6 cc1_scoped0 cc1_scoped1 cc1_scoped2 cc1_scoped3)
          fun _ => iprop(td1 G X d (wW L) ∗ scopedBufs (V d (cW L) (jW L)) ∗ scopedSems0 (V d (cW L) (jW L))
            ∗ ∃ W', ⌜∀ p ∈ W', p ∈ W ∨ p.2 = none⌝ ∗ owes (V d (cW L) (jW L)) O W') := by
  simp only [cc1__shade_body_eq_skeleton]; unfold cc1__shade_body_skel
  rw [(K (F := F)).scopedBufs_V hF d (cW L) (jW L), SparseCore.Cfg.scopedSems0_V (Val := Elt F) d (cW L) (jW L), ownSems0_shade, ownBufs_shade]
  iintro ⟨#Hlv, -, ⟨Hx, ⟨%t, %ht, Ht⟩, %f, Ho0, Ho1, Ho2, Ho3⟩, ⟨⟨⟨%g0, Hg0⟩, ⟨%g1, Hg1⟩, ⟨%g2, Hg2⟩, ⟨%g3, Hg3⟩, ⟨%g4, Hg4⟩⟩, Hbufs⟩, ⟨⟨Hs, Hr, Hw0, Hw1, Hw2, Hw3⟩, Hsems⟩, HO⟩
  ihave Hmw := (show levAts (K (F := F)).L (K (F := F)).lev ⊢ Transfers.MayWaits (V d (cW L) (jW L)) (default : HIx 2) O from
    (K (F := F)).mayWaits_none (thr := V d (cW L) (jW L)) hO) $$ Hlv
  sl_exec
  sl_for (inv3 (F := F) d L G X O W) $$ [Hmw Hx Ht Ho0 Ho1 Ho2 Ho3 Hg0 Hg1 Hg2 Hg3 Hg4 Hs Hr Hw0 Hw1 Hw2 Hw3 HO]
  case region =>
    intro k acc
    exact shade_chunk d L G X O W _ k acc trivial
  · unfold inv3
    isplitl [Hmw]; · iexact Hmw
    isplitl [Hx]; · iapply (Entails.of_eq (show colsSh X d (wW L) = colsV d L X from rfl)); iexact Hx
    isplitl [Ht]
    · iexists t; isplitr
      · ipureintro; exact ht
      · iexact Ht
    isplitl [Ho0]
    · iexists f 0; isplitr
      · ipureintro; intro r hr hlt
        have := mem_colSet.mp hr; omega
      · iexact Ho0
    isplitl [Ho1]
    · iexists f 1; isplitr
      · ipureintro; intro r hr hlt
        have := mem_colSet.mp hr; omega
      · iexact Ho1
    isplitl [Ho2]
    · iexists f 2; isplitr
      · ipureintro; intro r hr hlt
        have := mem_colSet.mp hr; omega
      · iexact Ho2
    isplitl [Ho3]
    · iexists f 3; isplitr
      · ipureintro; intro r hr hlt
        have := mem_colSet.mp hr; omega
      · iexact Ho3
    isplitl [Hg0]; · iexists g0; iexact Hg0
    isplitl [Hg1]; · iexists g1; iexact Hg1
    isplitl [Hg2]; · iexists g2; iexact Hg2
    isplitl [Hg3]; · iexists g3; iexact Hg3
    isplitl [Hg4]; · iexists g4; iexact Hg4
    isplitl [Hs]; · iexact Hs
    isplitl [Hr]; · iexact Hr
    isplitl [Hw0]; · iexact Hw0
    isplitl [Hw1]; · iexact Hw1
    isplitl [Hw2]; · iexact Hw2
    isplitl [Hw3]; · iexact Hw3
    iexists W; isplitr
    · ipureintro; exact fun p hp => .inl hp
    · iexact HO
  iintro %acc HI
  ihave HI := (Entails.of_eq (inv3.eq_1 d L G X O W _ acc)) $$ HI
  icases HI with ⟨-, -, -, ⟨%h0, %hh0, Ho0⟩, ⟨%h1, %hh1, Ho1⟩, ⟨%h2, %hh2, Ho2⟩, ⟨%h3, %hh3, Ho3⟩, Hg0, Hg1, Hg2, Hg3, Hg4, Hs, Hr, Hw0, Hw1, Hw2, Hw3, HO⟩
  rw [show Scf.trips k1_t1_loop.lb k1_t1_loop.ub k1_t1_loop.st = 32 by decide] at hh0 hh1 hh2 hh3
  sl_step
  isplitl [Ho0 Ho1 Ho2 Ho3]
  · isplitl [Ho0]; · iapply (Entails.of_eq (pointsTo_congr (ℓ := o0Loc d) (q := fullShare) (ColOK.full d L G X hh0))); iexact Ho0
    isplitl [Ho1]; · iapply (Entails.of_eq (pointsTo_congr (ℓ := o1Loc d) (q := fullShare) (ColOK.full d L G X hh1))); iexact Ho1
    isplitl [Ho2]; · iapply (Entails.of_eq (pointsTo_congr (ℓ := o2Loc d) (q := fullShare) (ColOK.full d L G X hh2))); iexact Ho2
    iapply (Entails.of_eq (pointsTo_congr (ℓ := o3Loc d) (q := fullShare) (ColOK.full d L G X hh3))); iexact Ho3
  isplitl [Hg0 Hg1 Hg2 Hg3 Hg4 Hbufs]
  · isplitr [Hbufs]
    · isplitl [Hg0]; · iexact Hg0
      isplitl [Hg1]; · iexact Hg1
      isplitl [Hg2]; · iexact Hg2
      isplitl [Hg3]; · iexact Hg3
      iexact Hg4
    · iexact Hbufs
  isplitl [Hs Hr Hw0 Hw1 Hw2 Hw3 Hsems]
  · isplitr [Hsems]
    · isplitl [Hs]; · iexact Hs
      isplitl [Hr]; · iexact Hr
      isplitl [Hw0]; · iexact Hw0
      isplitl [Hw1]; · iexact Hw1
      isplitl [Hw2]; · iexact Hw2
      iexact Hw3
    · iexact Hsems
  iexact HO

end Tile

end Cert.Proof.Run

end
-- ==== Proof.Tiles.lean ====
/-
  The two calls' tasks as the launch asks for them: every tile of the grid, at its own coordinates, keeps its promise.
-/
module

public import proofs.«01_k».proof.Proof.Repack
public import proofs.«01_k».proof.Proof.Shade

@[expose] public section

noncomputable section

namespace Cert.Proof.Run

open Cert.KernelIdeal Cert.KernelIdeal.Gen Cert.Proof.Spec
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable [FloatOps F]
variable (G : Dev nD → S3584x16384.Idx → F .f32) (X : Dev nD → Fin 6 → S1048576.Idx → F .f32)

/-- The coordinates of tile `(c, s)` in call 0's grid. -/
abbrev coords0 (c : Fin (grid0.bound 0)) (s : Fin (grid0.bound 1)) : grid0.Coords :=
  fun | 0 => c | 1 => s | ⟨_ + 2, h⟩ => absurd h (Nat.not_lt.2 (Nat.le_add_left _ _))
/-- The coordinates of tile `(c, s)` in call 1's grid. -/
abbrev coords1 (c : Fin (grid1.bound 0)) (s : Fin (grid1.bound 1)) : grid1.Coords :=
  fun | 0 => c | 1 => s | ⟨_ + 2, h⟩ => absurd h (Nat.not_lt.2 (Nat.le_add_left _ _))

theorem defs₀_repack (c : Fin τ.nSC) (s : Fin τ.nSub) :
    defs₀ (F := F) (.scVector c s) 0 () = SparseCore.onTile hcore0 hsub0 (fun c s => cc0__repack_body (coords0 c s) (Memref.whole main_v1_scv) (Memref.isWhole_whole _) (Memref.whole main_v2_scv) (Memref.isWhole_whole _) (Memref.whole cc0_scratch0) (Memref.isWhole_whole _) (Memref.whole cc0_scratch1) (Memref.isWhole_whole _) cc0_scratch2 cc0_scoped0) ⟨⟩ c s := rfl

theorem defs₀_shade (c : Fin τ.nSC) (s : Fin τ.nSub) :
    defs₀ (F := F) (.scVector c s) 1 () = SparseCore.onTile hcore1 hsub1 (fun c s => cc1__shade_body (coords1 c s) (Memref.whole main_v4_scv) (Memref.isWhole_whole _) (Memref.whole main_v6_scv) (Memref.isWhole_whole _) (Memref.whole main_v8_scv) (Memref.isWhole_whole _) (Memref.whole main_v10_scv) (Memref.isWhole_whole _) (Memref.whole main_v12_scv) (Memref.isWhole_whole _) (Memref.whole main_v14_scv) (Memref.isWhole_whole _) (Memref.whole main_v2_scv) (Memref.isWhole_whole _) (Memref.whole main_v15_0_scv) (Memref.isWhole_whole _) (Memref.whole main_v15_1_scv) (Memref.isWhole_whole _) (Memref.whole main_v15_2_scv) (Memref.isWhole_whole _) (Memref.whole main_v15_3_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) cc1_scratch5 cc1_scratch6 cc1_scoped0 cc1_scoped1 cc1_scoped2 cc1_scoped3) ⟨⟩ c s := rfl

set_option maxRecDepth 16384 in
theorem obl_repack (hF : (K (F := F)).Facts) : (K (F := F)).TileObl (D (F := F)) 𝒱 (P G X) v₀ 0 := by
  intro d c i O W hO _ _
  simp only [show (P (F := F) G X).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_repack]; simp only [SparseCore.onTile, hci, and_self, ↓reduceDIte]
  exact (tile_repack (G := G) d (coords0 ⟨_, hci.1⟩ ⟨_, hci.2⟩) hF O W hO).trans (wp_mono frame _ _ fun _ => obl_post)

set_option maxRecDepth 16384 in
theorem obl_shade (hF : (K (F := F)).Facts) : (K (F := F)).TileObl (D (F := F)) 𝒱 (P G X) v₀ 1 := by
  intro d c i O W hO _ _
  simp only [show (P (F := F) G X).ox = fun _ _ => 0 from rfl, add_zero]
  have hci : ((K (F := F)).core 1 c).val < grid1.bound 0 ∧ ((K (F := F)).sub 1 i).val < grid1.bound 1 := ⟨c.isLt, i.isLt⟩
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  rw [defs₀_shade]; simp only [SparseCore.onTile, hci, and_self, ↓reduceDIte]
  exact (tile_shade d (coords1 ⟨_, hci.1⟩ ⟨_, hci.2⟩) G X hF O W hO).trans (wp_mono frame _ _ fun _ => obl_post)

theorem obl (hF : (K (F := F)).Facts) : ∀ q, (K (F := F)).TileObl (D (F := F)) 𝒱 (P G X) v₀ q
  | 0 => obl_repack G X hF
  | 1 => obl_shade G X hF

end Cert.Proof.Run

end
-- ==== Proof.Deal.lean ====
/-
  The arrays dealt to the 32 tiles of each call, and taken back whole.

  A tile `(c, s)` is worker `2 s + c`, so the tiles of a call's grid are the numbers below 32. Every worker gets one of the 32
  shares of an array that all read, and its own rows or entries of an array that the call writes.
-/
module

public import proofs.«01_k».proof.Proof.Tiles

@[expose] public section

noncomputable section

namespace Cert.Proof.Run

open Cert.KernelIdeal Cert.KernelIdeal.Gen Cert.Proof.Spec
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable [FloatOps F]
variable (G : Dev nD → S3584x16384.Idx → F .f32) (X : Dev nD → Fin 6 → S1048576.Idx → F .f32) (d : Dev nD)

/-- Two things of every worker are one of every worker and the other of every worker. -/
theorem both {n : ℕ} (Φ Ψ : Fin n → sProp 𝕄) :
    (bigSep Finset.univ fun w => iprop(Φ w ∗ Ψ w)) = iprop((bigSep Finset.univ Φ) ∗ (bigSep Finset.univ Ψ)) := BI.bigSep_sep _ _ _

/-- What every worker's thing gives, all of them give. -/
theorem each {n : ℕ} {Φ Ψ : Fin n → sProp 𝕄} (h : ∀ w, Φ w ⊢ Ψ w) : (bigSep Finset.univ Φ) ⊢ (bigSep Finset.univ Ψ) := bigSep_mono fun w _ => h w

/-! ## The workers -/

/-- Tile `(c, s)` as a worker below 32. -/
def worker : Fin 2 × Fin 16 ≃ Fin (2 ^ 5) := (Equiv.prodComm (Fin 2) (Fin 16)).trans finProdFinEquiv

theorem worker_val (x : Fin 2 × Fin 16) : (worker x).val = wid x.1.val x.2.val := by
  show x.1.val + 2 * x.2.val = _
  unfold wid; omega

/-- Something of every worker is something of every tile of the grid. -/
theorem workers (Φ : ℕ → sProp 𝕄) :
    (bigSep Finset.univ fun w : Fin (2 ^ 5) => Φ w.val) = bigSep Finset.univ fun c : Fin 2 => bigSep Finset.univ fun i : Fin 16 => Φ (wid c.val i.val) := by
  rw [bigSep_univ_equiv worker, ← Finset.univ_product_univ, SparseCore.bigSep_product]
  refine bigSep_congr fun c _ => bigSep_congr fun i _ => ?_
  rw [worker_val]

/-- An array that all read, dealt out in shares. -/
theorem deal_shares {ℓ : Loc nD τ sig} (f : Buf (Elt F) ℓ) :
    (ℓ ↦{fullShare} f : sProp 𝕄) = bigSep Finset.univ fun w : Fin (2 ^ 5) => ℓ ↦{shr w.val} f := by
  rw [ShareLeaves.pointsTo_leaves Finset.univ f 5 fullShare]
  refine bigSep_congr fun w _ => ?_
  unfold shr
  rw [show (⟨w.val % 2 ^ 5, Nat.mod_lt _ (by decide)⟩ : Fin (2 ^ 5)) = w from Fin.ext (Nat.mod_eq_of_lt w.isLt)]

theorem deal_table (f : Buf (Elt F) (tabLoc d)) :
    (tabLoc d ↦{fullShare} f : sProp 𝕄) = bigSep Finset.univ fun w : Fin (2 ^ 5) => tabPart d w.val f :=
  pointsTo_parts (ℓ := tabLoc d) (fun w : Fin (2 ^ 5) => (tabSet w.val : Finset (Idx (tabLoc d))))
    (fun a b h => Finset.disjoint_left.mpr fun i ha hb => h (Fin.ext ((mem_tabSet.mp ha).symm.trans (mem_tabSet.mp hb))))
    (fun i => ⟨⟨(i 0).val / 131072, by have h : (i 0).val < 4194304 := (i 0).isLt; omega⟩, mem_tabSet.mpr rfl⟩) fullShare f

theorem colSet_disjoint (a b : Fin (2 ^ 5)) (h : a ≠ b) : Disjoint (colSet a.val) (colSet b.val) :=
  Finset.disjoint_left.mpr fun i ha hb => h (Fin.ext ((mem_colSet.mp ha).symm.trans (mem_colSet.mp hb)))
theorem colSet_cover (i : S1048576.Idx) : ∃ a : Fin (2 ^ 5), i ∈ colSet a.val :=
  ⟨⟨(i 0).val / 32768, by have h : (i 0).val < 1048576 := (i 0).isLt; omega⟩, mem_colSet.mpr rfl⟩

theorem deal_outs (f : Fin 4 → S1048576.Idx → F .f32) :
    (iprop((o0Loc d ↦{fullShare} (f 0 : Buf (Elt F) (o0Loc d))) ∗ (o1Loc d ↦{fullShare} (f 1 : Buf (Elt F) (o1Loc d)))
        ∗ (o2Loc d ↦{fullShare} (f 2 : Buf (Elt F) (o2Loc d))) ∗ (o3Loc d ↦{fullShare} (f 3 : Buf (Elt F) (o3Loc d)))) : sProp 𝕄)
      = bigSep Finset.univ fun w : Fin (2 ^ 5) => outsPart d w.val f := by
  unfold outsPart
  rw [both, both, both,
    ← pointsTo_parts (ℓ := o0Loc d) (fun w : Fin (2 ^ 5) => (colSet w.val : Finset (Idx (o0Loc d)))) colSet_disjoint colSet_cover fullShare (f 0 : Buf (Elt F) (o0Loc d)),
    ← pointsTo_parts (ℓ := o1Loc d) (fun w : Fin (2 ^ 5) => (colSet w.val : Finset (Idx (o1Loc d)))) colSet_disjoint colSet_cover fullShare (f 1 : Buf (Elt F) (o1Loc d)),
    ← pointsTo_parts (ℓ := o2Loc d) (fun w : Fin (2 ^ 5) => (colSet w.val : Finset (Idx (o2Loc d)))) colSet_disjoint colSet_cover fullShare (f 2 : Buf (Elt F) (o2Loc d)),
    ← pointsTo_parts (ℓ := o3Loc d) (fun w : Fin (2 ^ 5) => (colSet w.val : Finset (Idx (o3Loc d)))) colSet_disjoint colSet_cover fullShare (f 3 : Buf (Elt F) (o3Loc d))]

theorem deal_cols :
    (iprop((x0Loc d ↦{fullShare} (X d 0 : Buf (Elt F) (x0Loc d))) ∗ (x1Loc d ↦{fullShare} (X d 1 : Buf (Elt F) (x1Loc d)))
        ∗ (x2Loc d ↦{fullShare} (X d 2 : Buf (Elt F) (x2Loc d))) ∗ (x3Loc d ↦{fullShare} (X d 3 : Buf (Elt F) (x3Loc d)))
        ∗ (x4Loc d ↦{fullShare} (X d 4 : Buf (Elt F) (x4Loc d))) ∗ (x5Loc d ↦{fullShare} (X d 5 : Buf (Elt F) (x5Loc d)))) : sProp 𝕄)
      = bigSep Finset.univ fun w : Fin (2 ^ 5) => colsSh X d w.val := by
  unfold colsSh
  rw [both, both, both, both, both, ← deal_shares (ℓ := x0Loc d), ← deal_shares (ℓ := x1Loc d), ← deal_shares (ℓ := x2Loc d),
    ← deal_shares (ℓ := x3Loc d), ← deal_shares (ℓ := x4Loc d), ← deal_shares (ℓ := x5Loc d)]

/-! ## Call 0 -/

theorem start0 (f : Buf (Elt F) (tabLoc d)) :
    iprop((stripLoc d ↦{fullShare} (G d : Buf (Elt F) (stripLoc d))) ∗ (tabLoc d ↦{fullShare} f))
      ⊢ (bigSep Finset.univ fun c : Fin ((K (F := F)).nCore 0) => (P G X).st 0 d c : sProp 𝕄) := by
  refine BIBase.Entails.trans ?_ (Entails.of_eq (show (bigSep Finset.univ fun w : Fin (2 ^ 5) => go0 G d w.val) = _ from workers fun w => go0 G d w))
  rw [deal_shares (ℓ := stripLoc d), deal_table]
  refine BIBase.Entails.trans (Entails.of_eq (both _ _).symm) (each fun w => ?_)
  iintro ⟨Hs, Ht⟩
  isplitl [Hs]; · iexact Hs
  iexists f; iexact Ht

theorem done0 [∀ e, Nonempty (Elt F e)] :
    (bigSep Finset.univ fun c : Fin ((K (F := F)).nCore 0) => (P G X).dn 0 d c : sProp 𝕄)
      ⊢ iprop(∃ f : S4194304x16.Idx → F .f32, ⌜∀ r, RowOK (G d) f r⌝ ∗ (tabLoc d ↦{fullShare} (f : Buf (Elt F) (tabLoc d)))) := by
  refine (Entails.of_eq (show _ = (bigSep Finset.univ fun w : Fin (2 ^ 5) => td0 G d w.val) from (workers fun w => td0 G d w).symm)).trans ?_
  haveI : Nonempty (S4194304x16.Idx → F .f32) := ⟨fun _ => (inferInstance : Nonempty (Elt F .f32)).some⟩
  refine (BI.bigSep_exists_pi Finset.univ fun (w : Fin (2 ^ 5)) (f : S4194304x16.Idx → F .f32) =>
    iprop(⌜∀ r ∈ tabSet w.val, RowOK (G d) f r⌝ ∗ tabPart d w.val f)).trans (exists_elim fun fs => ?_)
  refine (bigSep_pure_sep Finset.univ _ _).trans ?_
  iintro ⟨%hfs, H⟩
  ihave H := (pointsTo_biUnion_join (ℓ := tabLoc d) (q := fullShare) Finset.univ (fun w : Fin (2 ^ 5) => (tabSet w.val : Finset (Idx (tabLoc d)))) fs (fs 0)
    (fun a _ b _ h => Finset.disjoint_left.mpr fun i ha hb => h (Fin.ext ((mem_tabSet.mp ha).symm.trans (mem_tabSet.mp hb))))) $$ H
  icases H with ⟨%g, %hg, H⟩
  iexists (g : S4194304x16.Idx → F .f32)
  isplitr
  · ipureintro
    intro r hr
    have hw : r ∈ tabSet (⟨(r 0).val / 131072, by have h : (r 0).val < 4194304 := (r 0).isLt; omega⟩ : Fin (2 ^ 5)).val := mem_tabSet.mpr rfl
    exact (hg _ (Finset.mem_univ _) r hw).trans (hfs _ (Finset.mem_univ _) r hw hr)
  · rw [show (Finset.univ : Finset (Idx (tabLoc d))) = Finset.univ.biUnion (fun w : Fin (2 ^ 5) => (tabSet w.val : Finset (Idx (tabLoc d)))) from ?_]
    · iexact H
    · ext r
      simp only [Finset.mem_univ, Finset.mem_biUnion, true_and, true_iff]
      exact ⟨⟨(r 0).val / 131072, by have h : (r 0).val < 4194304 := (r 0).isLt; omega⟩, mem_tabSet.mpr rfl⟩

/-! ## Call 1 -/

theorem start1 (f : S4194304x16.Idx → F .f32) (hf : ∀ r, RowOK (G d) f r) (o : Fin 4 → S1048576.Idx → F .f32) :
    iprop(((x0Loc d ↦{fullShare} (X d 0 : Buf (Elt F) (x0Loc d))) ∗ (x1Loc d ↦{fullShare} (X d 1 : Buf (Elt F) (x1Loc d)))
          ∗ (x2Loc d ↦{fullShare} (X d 2 : Buf (Elt F) (x2Loc d))) ∗ (x3Loc d ↦{fullShare} (X d 3 : Buf (Elt F) (x3Loc d)))
          ∗ (x4Loc d ↦{fullShare} (X d 4 : Buf (Elt F) (x4Loc d))) ∗ (x5Loc d ↦{fullShare} (X d 5 : Buf (Elt F) (x5Loc d))))
        ∗ (tabLoc d ↦{fullShare} (f : Buf (Elt F) (tabLoc d)))
        ∗ (o0Loc d ↦{fullShare} (o 0 : Buf (Elt F) (o0Loc d))) ∗ (o1Loc d ↦{fullShare} (o 1 : Buf (Elt F) (o1Loc d)))
        ∗ (o2Loc d ↦{fullShare} (o 2 : Buf (Elt F) (o2Loc d))) ∗ (o3Loc d ↦{fullShare} (o 3 : Buf (Elt F) (o3Loc d))))
      ⊢ (bigSep Finset.univ fun c : Fin ((K (F := F)).nCore 1) => (P G X).st 1 d c : sProp 𝕄) := by
  refine BIBase.Entails.trans ?_ (Entails.of_eq (show (bigSep Finset.univ fun w : Fin (2 ^ 5) => go1 G X d w.val) = _ from workers fun w => go1 G X d w))
  rw [deal_cols, deal_shares (ℓ := tabLoc d), deal_outs]
  refine BIBase.Entails.trans (Entails.of_eq ((both (fun w : Fin (2 ^ 5) => colsSh X d w.val) (fun w => iprop((tabLoc d ↦{shr w.val} f) ∗ outsPart d w.val o))).trans (congrArg (fun R => iprop(bigSep Finset.univ (fun w : Fin (2 ^ 5) => colsSh X d w.val) ∗ R)) (BI.bigSep_sep _ _ _))).symm) (each fun w => ?_)
  iintro ⟨Hx, Ht, Ho⟩
  isplitl [Hx]; · iexact Hx
  isplitl [Ht]
  · iexists f; isplitr
    · ipureintro; exact hf
    · iexact Ht
  iexists o; iexact Ho

theorem done1 :
    (bigSep Finset.univ fun c : Fin ((K (F := F)).nCore 1) => (P G X).dn 1 d c : sProp 𝕄)
      = iprop((o0Loc d ↦{fullShare} (outCol G X d 0 : Buf (Elt F) (o0Loc d))) ∗ (o1Loc d ↦{fullShare} (outCol G X d 1 : Buf (Elt F) (o1Loc d)))
        ∗ (o2Loc d ↦{fullShare} (outCol G X d 2 : Buf (Elt F) (o2Loc d))) ∗ (o3Loc d ↦{fullShare} (outCol G X d 3 : Buf (Elt F) (o3Loc d)))) :=
  (show _ = (bigSep Finset.univ fun w : Fin (2 ^ 5) => td1 G X d w.val) from (workers fun w => td1 G X d w).symm).trans (deal_outs d (outCol G X d)).symm

end Cert.Proof.Run

end
-- ==== Proof.Launch.lean ====
/-
  The run of the whole program: what `main` does on the TensorCore, and the launch.

  `main` transposes and reshapes the grid into strips, starts the call that lays the table out, cuts the six columns of the
  points and directions, starts the call that shades, and puts the three colours side by side. The TensorCore's 26 arrays are
  held in five groups: those of the strips, the table, those of the columns, the densities, and those of the colours.
-/
module

public import proofs.«01_k».proof.Proof.Deal
public import Idealize.ShloMosaic.Lib.SparseCore.Quiescent
public import Idealize.ShloMosaic.Lib.StableHlo.Run

@[expose] public section

noncomputable section

namespace Cert.Proof.Run

open Cert.KernelIdeal Cert.KernelIdeal.Gen Cert.Proof.Spec
open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held after launchContents after_cons after_nil)

variable {F : FTy → Type}

local notation "𝕄" => MT nD τ sig (HIx 2) (Elt F) ℕ UU ℕ

/-! ## The host operations -/

/-- From the grid to the strips. -/
def opsA : List (HloOp τ sig (Elt F)) :=
  [StableHlo.unary main_arg2 main_v0 ((transpose S128x28x128x128 [0, 3, 1, 2] · transposes_S128x128x128x28_S128x28x128x128_0_3_1_2) : (⟨S128x128x128x28, .f32⟩ : BufTy).Contents (Elt F) → (⟨S128x28x128x128, .f32⟩ : BufTy).Contents (Elt F)),
   StableHlo.reshape main_v0 main_v1 (rfl : (.f32 : EltTy) = .f32) shapeCasts_S128x28x128x128_S3584x16384]

/-- From the points and directions to their columns. -/
def opsB : List (HloOp τ sig (Elt F)) :=
  [StableHlo.unary main_arg0 main_v3 ((extractStridedSlice S1048576x1 ![0, 0] · slices_S1048576x3_S1048576x1_0_0) : (⟨S1048576x3, .f32⟩ : BufTy).Contents (Elt F) → (⟨S1048576x1, .f32⟩ : BufTy).Contents (Elt F)),
   StableHlo.reshape main_v3 main_v4 (rfl : (.f32 : EltTy) = .f32) shapeCasts_S1048576x1_S1048576,
   StableHlo.unary main_arg0 main_v5 ((extractStridedSlice S1048576x1 ![0, 1] · slices_S1048576x3_S1048576x1_0_1) : (⟨S1048576x3, .f32⟩ : BufTy).Contents (Elt F) → (⟨S1048576x1, .f32⟩ : BufTy).Contents (Elt F)),
   StableHlo.reshape main_v5 main_v6 (rfl : (.f32 : EltTy) = .f32) shapeCasts_S1048576x1_S1048576,
   StableHlo.unary main_arg0 main_v7 ((extractStridedSlice S1048576x1 ![0, 2] · slices_S1048576x3_S1048576x1_0_2) : (⟨S1048576x3, .f32⟩ : BufTy).Contents (Elt F) → (⟨S1048576x1, .f32⟩ : BufTy).Contents (Elt F)),
   StableHlo.reshape main_v7 main_v8 (rfl : (.f32 : EltTy) = .f32) shapeCasts_S1048576x1_S1048576,
   StableHlo.unary main_arg1 main_v9 ((extractStridedSlice S1048576x1 ![0, 0] · slices_S1048576x3_S1048576x1_0_0) : (⟨S1048576x3, .f32⟩ : BufTy).Contents (Elt F) → (⟨S1048576x1, .f32⟩ : BufTy).Contents (Elt F)),
   StableHlo.reshape main_v9 main_v10 (rfl : (.f32 : EltTy) = .f32) shapeCasts_S1048576x1_S1048576,
   StableHlo.unary main_arg1 main_v11 ((extractStridedSlice S1048576x1 ![0, 1] · slices_S1048576x3_S1048576x1_0_1) : (⟨S1048576x3, .f32⟩ : BufTy).Contents (Elt F) → (⟨S1048576x1, .f32⟩ : BufTy).Contents (Elt F)),
   StableHlo.reshape main_v11 main_v12 (rfl : (.f32 : EltTy) = .f32) shapeCasts_S1048576x1_S1048576,
   StableHlo.unary main_arg1 main_v13 ((extractStridedSlice S1048576x1 ![0, 2] · slices_S1048576x3_S1048576x1_0_2) : (⟨S1048576x3, .f32⟩ : BufTy).Contents (Elt F) → (⟨S1048576x1, .f32⟩ : BufTy).Contents (Elt F)),
   StableHlo.reshape main_v13 main_v14 (rfl : (.f32 : EltTy) = .f32) shapeCasts_S1048576x1_S1048576]

/-- From the three colours to the first result. -/
def opsC : List (HloOp τ sig (Elt F)) :=
  [StableHlo.unary main_v15_0 main_v16 (broadcastInDim S1048576x1 ![0] bcast_S1048576_S1048576x1_0 : (⟨S1048576, .f32⟩ : BufTy).Contents (Elt F) → (⟨S1048576x1, .f32⟩ : BufTy).Contents (Elt F)),
   StableHlo.unary main_v15_1 main_v17 (broadcastInDim S1048576x1 ![0] bcast_S1048576_S1048576x1_0 : (⟨S1048576, .f32⟩ : BufTy).Contents (Elt F) → (⟨S1048576x1, .f32⟩ : BufTy).Contents (Elt F)),
   StableHlo.unary main_v15_2 main_v18 (broadcastInDim S1048576x1 ![0] bcast_S1048576_S1048576x1_0 : (⟨S1048576, .f32⟩ : BufTy).Contents (Elt F) → (⟨S1048576x1, .f32⟩ : BufTy).Contents (Elt F)),
   StableHlo.nary ![main_v16, main_v17, main_v18] main_v19 (fun u => (concatenate S1048576x3 1 [⟨S1048576x1, (u 0 : (⟨S1048576x1, .f32⟩ : BufTy).Contents (Elt F))⟩, ⟨S1048576x1, (u 1 : (⟨S1048576x1, .f32⟩ : BufTy).Contents (Elt F))⟩, ⟨S1048576x1, (u 2 : (⟨S1048576x1, .f32⟩ : BufTy).Contents (Elt F))⟩] concatenates_S1048576x1_S1048576x1_S1048576x1_S1048576x3_d1 : (⟨S1048576x3, .f32⟩ : BufTy).Contents (Elt F)))]

theorem main_split (d : Dev nD) :
    main (F := F) d = StableHlo.seq opsA >>= fun _ => sc.run d 0 >>= fun _ => StableHlo.seq opsB >>= fun _ => sc.run d 1 >>= fun _ => StableHlo.seq opsC >>= fun _ => pure ⟨⟩ := rfl

/-! ## What the host operations compute -/

/-- The grid as strips. -/
def strips (C : S128x128x128x28.Idx → F .f32) : S3584x16384.Idx → F .f32 :=
  shapeCast S3584x16384 (transpose S128x28x128x128 [0, 3, 1, 2] C transposes_S128x128x128x28_S128x28x128x128_0_3_1_2) shapeCasts_S128x28x128x128_S3584x16384

/-- The six columns: the points' coordinates, then the directions'. -/
def cols (A B : S1048576x3.Idx → F .f32) : Fin 6 → S1048576.Idx → F .f32
  | 0 => shapeCast S1048576 (extractStridedSlice S1048576x1 ![0, 0] A slices_S1048576x3_S1048576x1_0_0) shapeCasts_S1048576x1_S1048576
  | 1 => shapeCast S1048576 (extractStridedSlice S1048576x1 ![0, 1] A slices_S1048576x3_S1048576x1_0_1) shapeCasts_S1048576x1_S1048576
  | 2 => shapeCast S1048576 (extractStridedSlice S1048576x1 ![0, 2] A slices_S1048576x3_S1048576x1_0_2) shapeCasts_S1048576x1_S1048576
  | 3 => shapeCast S1048576 (extractStridedSlice S1048576x1 ![0, 0] B slices_S1048576x3_S1048576x1_0_0) shapeCasts_S1048576x1_S1048576
  | 4 => shapeCast S1048576 (extractStridedSlice S1048576x1 ![0, 1] B slices_S1048576x3_S1048576x1_0_1) shapeCasts_S1048576x1_S1048576
  | 5 => shapeCast S1048576 (extractStridedSlice S1048576x1 ![0, 2] B slices_S1048576x3_S1048576x1_0_2) shapeCasts_S1048576x1_S1048576

/-- Three colours side by side. -/
def beside (a b c : S1048576.Idx → F .f32) : S1048576x3.Idx → F .f32 :=
  concatenate S1048576x3 1 [⟨S1048576x1, broadcastInDim S1048576x1 ![0] bcast_S1048576_S1048576x1_0 a⟩,
    ⟨S1048576x1, broadcastInDim S1048576x1 ![0] bcast_S1048576_S1048576x1_0 b⟩,
    ⟨S1048576x1, broadcastInDim S1048576x1 ![0] bcast_S1048576_S1048576x1_0 c⟩] concatenates_S1048576x1_S1048576x1_S1048576x1_S1048576x3_d1

/-! ## The five groups of arrays -/

def grpA : Finset (Ref sig .tc) := {main_arg2, main_v0, main_v1}
def grpB : Finset (Ref sig .tc) := {main_arg0, main_arg1, main_v3, main_v4, main_v5, main_v6, main_v7, main_v8, main_v9, main_v10, main_v11, main_v12, main_v13, main_v14}
def grpC : Finset (Ref sig .tc) := {main_v15_0, main_v15_1, main_v15_2, main_v16, main_v17, main_v18, main_v19}

/-- A group as the host operations name it. -/
def img (R : Finset (Ref sig .tc)) : Finset (DevRef τ sig) := R.image (Proc.devRef .tc)

theorem held_img (d : Dev nD) (R : Finset (Ref sig .tc)) (V : Valuation τ sig (Elt F)) :
    (held (SparseCore.T d) (img R) V : sProp 𝕄) = bigSep R fun b => (SparseCore.T d).loc b ↦{fullShare} V (Proc.devRef .tc b) := by
  unfold held img
  rw [SparseCore.bigSep_image_of_injOn (fun _ _ _ _ h => Proc.devRef_injective _ h)]

theorem groups : (Finset.univ.filter fun b : Ref sig .tc => ¬ b.isScoped) = grpA ∪ ({main_v2} ∪ (grpB ∪ ({main_v15_3} ∪ grpC))) := by decide

/-- The TensorCore's arrays, held in the five groups. -/
theorem unscoped_groups (d : Dev nD) (m : (ℓ : Loc nD τ sig) → Buf (Elt F) ℓ) :
    (unscopedBufs d (fun b => m ((SparseCore.T d).loc b)) : sProp 𝕄)
      = iprop(held (SparseCore.T d) (img grpA) (launchContents m d) ∗ (tabLoc d ↦{fullShare} m (tabLoc d)) ∗ held (SparseCore.T d) (img grpB) (launchContents m d)
          ∗ (o3Loc d ↦{fullShare} m (o3Loc d)) ∗ held (SparseCore.T d) (img grpC) (launchContents m d)) := by
  unfold unscopedBufs
  rw [groups, SparseCore.bigSep_union' (by decide), SparseCore.bigSep_union' (by decide), SparseCore.bigSep_union' (by decide), SparseCore.bigSep_union' (by decide),
    bigSep_singleton, bigSep_singleton, held_img, held_img, held_img]

theorem held_grpA (d : Dev nD) (V : Valuation τ sig (Elt F)) :
    (held (SparseCore.T d) (img grpA) V : sProp 𝕄)
      = iprop(((SparseCore.T d).loc main_arg2 ↦{fullShare} V (Proc.devRef .tc main_arg2))
          ∗ ((SparseCore.T d).loc main_v0 ↦{fullShare} V (Proc.devRef .tc main_v0))
          ∗ ((SparseCore.T d).loc main_v1 ↦{fullShare} V (Proc.devRef .tc main_v1))) := by
  rw [held_img]
  unfold grpA
  rw [SparseCore.bigSep_insert' (by decide), SparseCore.bigSep_insert' (by decide), bigSep_singleton]

theorem held_grpB (d : Dev nD) (V : Valuation τ sig (Elt F)) :
    (held (SparseCore.T d) (img grpB) V : sProp 𝕄)
      = iprop(((SparseCore.T d).loc main_arg0 ↦{fullShare} V (Proc.devRef .tc main_arg0))
          ∗ ((SparseCore.T d).loc main_arg1 ↦{fullShare} V (Proc.devRef .tc main_arg1))
          ∗ ((SparseCore.T d).loc main_v3 ↦{fullShare} V (Proc.devRef .tc main_v3))
          ∗ ((SparseCore.T d).loc main_v4 ↦{fullShare} V (Proc.devRef .tc main_v4))
          ∗ ((SparseCore.T d).loc main_v5 ↦{fullShare} V (Proc.devRef .tc main_v5))
          ∗ ((SparseCore.T d).loc main_v6 ↦{fullShare} V (Proc.devRef .tc main_v6))
          ∗ ((SparseCore.T d).loc main_v7 ↦{fullShare} V (Proc.devRef .tc main_v7))
          ∗ ((SparseCore.T d).loc main_v8 ↦{fullShare} V (Proc.devRef .tc main_v8))
          ∗ ((SparseCore.T d).loc main_v9 ↦{fullShare} V (Proc.devRef .tc main_v9))
          ∗ ((SparseCore.T d).loc main_v10 ↦{fullShare} V (Proc.devRef .tc main_v10))
          ∗ ((SparseCore.T d).loc main_v11 ↦{fullShare} V (Proc.devRef .tc main_v11))
          ∗ ((SparseCore.T d).loc main_v12 ↦{fullShare} V (Proc.devRef .tc main_v12))
          ∗ ((SparseCore.T d).loc main_v13 ↦{fullShare} V (Proc.devRef .tc main_v13))
          ∗ ((SparseCore.T d).loc main_v14 ↦{fullShare} V (Proc.devRef .tc main_v14))) := by
  rw [held_img]
  unfold grpB
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

theorem held_grpC (d : Dev nD) (V : Valuation τ sig (Elt F)) :
    (held (SparseCore.T d) (img grpC) V : sProp 𝕄)
      = iprop(((SparseCore.T d).loc main_v15_0 ↦{fullShare} V (Proc.devRef .tc main_v15_0))
          ∗ ((SparseCore.T d).loc main_v15_1 ↦{fullShare} V (Proc.devRef .tc main_v15_1))
          ∗ ((SparseCore.T d).loc main_v15_2 ↦{fullShare} V (Proc.devRef .tc main_v15_2))
          ∗ ((SparseCore.T d).loc main_v16 ↦{fullShare} V (Proc.devRef .tc main_v16))
          ∗ ((SparseCore.T d).loc main_v17 ↦{fullShare} V (Proc.devRef .tc main_v17))
          ∗ ((SparseCore.T d).loc main_v18 ↦{fullShare} V (Proc.devRef .tc main_v18))
          ∗ ((SparseCore.T d).loc main_v19 ↦{fullShare} V (Proc.devRef .tc main_v19))) := by
  rw [held_img]
  unfold grpC
  rw [SparseCore.bigSep_insert' (by decide), SparseCore.bigSep_insert' (by decide), SparseCore.bigSep_insert' (by decide), SparseCore.bigSep_insert' (by decide), SparseCore.bigSep_insert' (by decide), SparseCore.bigSep_insert' (by decide), bigSep_singleton]

/-! ## The operations act within their groups -/

theorem bufsA : ∀ op ∈ opsA (F := F), op.bufs ⊆ img grpA := by
  unfold opsA
  simp only [List.forall_mem_cons, List.not_mem_nil, false_imp_iff, implies_true, and_true]
  exact ⟨show ({Proc.devRef .tc main_arg2, Proc.devRef .tc main_v0} : Finset (DevRef τ sig)) ⊆ _ by decide,
    show ({Proc.devRef .tc main_v0, Proc.devRef .tc main_v1} : Finset (DevRef τ sig)) ⊆ _ by decide⟩

theorem bufsB : ∀ op ∈ opsB (F := F), op.bufs ⊆ img grpB := by
  unfold opsB
  simp only [List.forall_mem_cons, List.not_mem_nil, false_imp_iff, implies_true, and_true]
  exact ⟨show ({Proc.devRef .tc main_arg0, Proc.devRef .tc main_v3} : Finset (DevRef τ sig)) ⊆ _ by decide,
    show ({Proc.devRef .tc main_v3, Proc.devRef .tc main_v4} : Finset (DevRef τ sig)) ⊆ _ by decide,
    show ({Proc.devRef .tc main_arg0, Proc.devRef .tc main_v5} : Finset (DevRef τ sig)) ⊆ _ by decide,
    show ({Proc.devRef .tc main_v5, Proc.devRef .tc main_v6} : Finset (DevRef τ sig)) ⊆ _ by decide,
    show ({Proc.devRef .tc main_arg0, Proc.devRef .tc main_v7} : Finset (DevRef τ sig)) ⊆ _ by decide,
    show ({Proc.devRef .tc main_v7, Proc.devRef .tc main_v8} : Finset (DevRef τ sig)) ⊆ _ by decide,
    show ({Proc.devRef .tc main_arg1, Proc.devRef .tc main_v9} : Finset (DevRef τ sig)) ⊆ _ by decide,
    show ({Proc.devRef .tc main_v9, Proc.devRef .tc main_v10} : Finset (DevRef τ sig)) ⊆ _ by decide,
    show ({Proc.devRef .tc main_arg1, Proc.devRef .tc main_v11} : Finset (DevRef τ sig)) ⊆ _ by decide,
    show ({Proc.devRef .tc main_v11, Proc.devRef .tc main_v12} : Finset (DevRef τ sig)) ⊆ _ by decide,
    show ({Proc.devRef .tc main_arg1, Proc.devRef .tc main_v13} : Finset (DevRef τ sig)) ⊆ _ by decide,
    show ({Proc.devRef .tc main_v13, Proc.devRef .tc main_v14} : Finset (DevRef τ sig)) ⊆ _ by decide⟩

theorem bufsC : ∀ op ∈ opsC (F := F), op.bufs ⊆ img grpC := by
  unfold opsC
  simp only [List.forall_mem_cons, List.not_mem_nil, false_imp_iff, implies_true, and_true]
  exact ⟨show ({Proc.devRef .tc main_v15_0, Proc.devRef .tc main_v16} : Finset (DevRef τ sig)) ⊆ _ by decide,
    show ({Proc.devRef .tc main_v15_1, Proc.devRef .tc main_v17} : Finset (DevRef τ sig)) ⊆ _ by decide,
    show ({Proc.devRef .tc main_v15_2, Proc.devRef .tc main_v18} : Finset (DevRef τ sig)) ⊆ _ by decide,
    show (insert (Proc.devRef .tc main_v19) (Finset.univ.image fun k : Fin 3 => Proc.devRef .tc (![main_v16, main_v17, main_v18] k)) : Finset (DevRef τ sig)) ⊆ _ by decide⟩

theorem freshA : ∀ op ∈ opsA (F := F), op.fresh = ∅ := List.forall_iff_forall_mem.mp (StableHlo.forall_fresh_of_map rfl)
theorem freshB : ∀ op ∈ opsB (F := F), op.fresh = ∅ := List.forall_iff_forall_mem.mp (StableHlo.forall_fresh_of_map rfl)
theorem freshC : ∀ op ∈ opsC (F := F), op.fresh = ∅ := List.forall_iff_forall_mem.mp (StableHlo.forall_fresh_of_map rfl)

/-! ## What they leave -/

theorem afterA_arg (V : Valuation τ sig (Elt F)) : after (opsA (F := F)) V (Proc.devRef .tc main_arg2) = V (Proc.devRef .tc main_arg2) := by
  unfold opsA; after_results_simp
theorem afterA_strips (V : Valuation τ sig (Elt F)) : after (opsA (F := F)) V (Proc.devRef .tc main_v1) = strips (V (Proc.devRef .tc main_arg2)) := by
  unfold opsA; after_results_simp; rfl
theorem afterB_arg0 (V : Valuation τ sig (Elt F)) : after (opsB (F := F)) V (Proc.devRef .tc main_arg0) = V (Proc.devRef .tc main_arg0) := by
  unfold opsB; after_results_simp
theorem afterB_arg1 (V : Valuation τ sig (Elt F)) : after (opsB (F := F)) V (Proc.devRef .tc main_arg1) = V (Proc.devRef .tc main_arg1) := by
  unfold opsB; after_results_simp
theorem afterB_col0 (V : Valuation τ sig (Elt F)) :
    after (opsB (F := F)) V (Proc.devRef .tc main_v4) = cols (V (Proc.devRef .tc main_arg0)) (V (Proc.devRef .tc main_arg1)) 0 := by
  unfold opsB; after_results_simp; rfl
theorem afterB_col1 (V : Valuation τ sig (Elt F)) :
    after (opsB (F := F)) V (Proc.devRef .tc main_v6) = cols (V (Proc.devRef .tc main_arg0)) (V (Proc.devRef .tc main_arg1)) 1 := by
  unfold opsB; after_results_simp; rfl
theorem afterB_col2 (V : Valuation τ sig (Elt F)) :
    after (opsB (F := F)) V (Proc.devRef .tc main_v8) = cols (V (Proc.devRef .tc main_arg0)) (V (Proc.devRef .tc main_arg1)) 2 := by
  unfold opsB; after_results_simp; rfl
theorem afterB_col3 (V : Valuation τ sig (Elt F)) :
    after (opsB (F := F)) V (Proc.devRef .tc main_v10) = cols (V (Proc.devRef .tc main_arg0)) (V (Proc.devRef .tc main_arg1)) 3 := by
  unfold opsB; after_results_simp; rfl
theorem afterB_col4 (V : Valuation τ sig (Elt F)) :
    after (opsB (F := F)) V (Proc.devRef .tc main_v12) = cols (V (Proc.devRef .tc main_arg0)) (V (Proc.devRef .tc main_arg1)) 4 := by
  unfold opsB; after_results_simp; rfl
theorem afterB_col5 (V : Valuation τ sig (Elt F)) :
    after (opsB (F := F)) V (Proc.devRef .tc main_v14) = cols (V (Proc.devRef .tc main_arg0)) (V (Proc.devRef .tc main_arg1)) 5 := by
  unfold opsB; after_results_simp; rfl
theorem afterC_colour (V : Valuation τ sig (Elt F)) :
    after (opsC (F := F)) V (Proc.devRef .tc main_v19)
      = beside (V (Proc.devRef .tc main_v15_0)) (V (Proc.devRef .tc main_v15_1)) (V (Proc.devRef .tc main_v15_2)) := by
  unfold opsC; after_results_simp; rfl

/-! ## The run -/

section Run

variable [FloatOps F]
variable (m : (ℓ : Loc nD τ sig) → Buf (Elt F) ℓ) (ρ : Dev nD → PrngReg)

/-- The strips, and the columns, of the arguments that device `d` starts with. -/
def gridOf (d : Dev nD) : S3584x16384.Idx → F .f32 := strips (m ((SparseCore.T d).loc main_arg2))
def colsOf (d : Dev nD) : Fin 6 → S1048576.Idx → F .f32 := cols (m ((SparseCore.T d).loc main_arg0)) (m ((SparseCore.T d).loc main_arg1))

/-- Entry by entry what call 1 computes: three colours and a density. -/
def resCol (d : Dev nD) (j : Fin 4) : S1048576.Idx → F .f32 := outCol (gridOf m) (colsOf m) d j

/-- The two results. -/
def resColour (d : Dev nD) : S1048576x3.Idx → F .f32 := beside (resCol m d 0) (resCol m d 1) (resCol m d 2)
def resDensity (d : Dev nD) : S1048576.Idx → F .f32 := resCol m d 3

/-- The arrays of the colours' group after call 1. -/
def afterCall (d : Dev nD) : Valuation τ sig (Elt F) :=
  Function.update (Function.update (Function.update (launchContents m d) (Proc.devRef .tc main_v15_0) (resCol m d 0))
    (Proc.devRef .tc main_v15_1) (resCol m d 1)) (Proc.devRef .tc main_v15_2) (resCol m d 2)

theorem afterCall_0 (d : Dev nD) : afterCall m d (Proc.devRef .tc main_v15_0) = resCol m d 0 :=
  (Function.update_of_ne (StableHlo.devRef_ne_of_ne (by decide)) _ _).trans ((Function.update_of_ne (StableHlo.devRef_ne_of_ne (by decide)) _ _).trans (Function.update_self _ _ _))
theorem afterCall_1 (d : Dev nD) : afterCall m d (Proc.devRef .tc main_v15_1) = resCol m d 1 :=
  (Function.update_of_ne (StableHlo.devRef_ne_of_ne (by decide)) _ _).trans (Function.update_self _ _ _)
theorem afterCall_2 (d : Dev nD) : afterCall m d (Proc.devRef .tc main_v15_2) = resCol m d 2 := Function.update_self _ _ _
theorem afterCall_of_ne (d : Dev nD) {r : Ref sig .tc} (h0 : r ≠ main_v15_0) (h1 : r ≠ main_v15_1) (h2 : r ≠ main_v15_2) :
    afterCall m d (Proc.devRef .tc r) = launchContents m d (Proc.devRef .tc r) :=
  (Function.update_of_ne (StableHlo.devRef_ne_of_ne h2) _ _).trans ((Function.update_of_ne (StableHlo.devRef_ne_of_ne h1) _ _).trans (Function.update_of_ne (StableHlo.devRef_ne_of_ne h0) _ _))

/-- What `main` leaves the claims: the arguments as they were, and the two results. -/
abbrev FIN (d : Dev nD) : sProp 𝕄 :=
  iprop(((SparseCore.T d).loc main_arg0 ↦{fullShare} m ((SparseCore.T d).loc main_arg0)) ∗ ((SparseCore.T d).loc main_arg1 ↦{fullShare} m ((SparseCore.T d).loc main_arg1))
    ∗ ((SparseCore.T d).loc main_arg2 ↦{fullShare} m ((SparseCore.T d).loc main_arg2))
    ∗ ((SparseCore.T d).loc main_v19 ↦{fullShare} (resColour m d : Buf (Elt F) ((SparseCore.T d).loc main_v19)))
    ∗ ((SparseCore.T d).loc main_v15_3 ↦{fullShare} (resDensity m d : Buf (Elt F) ((SparseCore.T d).loc main_v15_3))))

/-- The group of the strips after its operations. -/
theorem held_afterA (d : Dev nD) :
    (held (SparseCore.T d) (img grpA) (after opsA (launchContents m d)) : sProp 𝕄)
      ⊢ iprop(((SparseCore.T d).loc main_arg2 ↦{fullShare} m ((SparseCore.T d).loc main_arg2)) ∗ (stripLoc d ↦{fullShare} (gridOf m d : Buf (Elt F) (stripLoc d)))) := by
  rw [held_grpA, afterA_arg, afterA_strips]
  iintro ⟨Ha, -, Hs⟩
  isplitl [Ha]; · iexact Ha
  iexact Hs

/-- The group of the columns after its operations. -/
theorem held_afterB (d : Dev nD) :
    (held (SparseCore.T d) (img grpB) (after opsB (launchContents m d)) : sProp 𝕄)
      ⊢ iprop(((SparseCore.T d).loc main_arg0 ↦{fullShare} m ((SparseCore.T d).loc main_arg0)) ∗ ((SparseCore.T d).loc main_arg1 ↦{fullShare} m ((SparseCore.T d).loc main_arg1))
        ∗ ((x0Loc d ↦{fullShare} (colsOf m d 0 : Buf (Elt F) (x0Loc d))) ∗ (x1Loc d ↦{fullShare} (colsOf m d 1 : Buf (Elt F) (x1Loc d)))
          ∗ (x2Loc d ↦{fullShare} (colsOf m d 2 : Buf (Elt F) (x2Loc d))) ∗ (x3Loc d ↦{fullShare} (colsOf m d 3 : Buf (Elt F) (x3Loc d)))
          ∗ (x4Loc d ↦{fullShare} (colsOf m d 4 : Buf (Elt F) (x4Loc d))) ∗ (x5Loc d ↦{fullShare} (colsOf m d 5 : Buf (Elt F) (x5Loc d))))) := by
  rw [held_grpB, afterB_arg0, afterB_arg1, afterB_col0, afterB_col1, afterB_col2, afterB_col3, afterB_col4, afterB_col5]
  iintro ⟨Ha, Hb, -, H0, -, H1, -, H2, -, H3, -, H4, -, H5⟩
  isplitl [Ha]; · iexact Ha
  isplitl [Hb]; · iexact Hb
  isplitl [H0]; · iexact H0
  isplitl [H1]; · iexact H1
  isplitl [H2]; · iexact H2
  isplitl [H3]; · iexact H3
  isplitl [H4]; · iexact H4
  iexact H5

/-- The colours' group at launch: its three columns, and the rest. -/
abbrev restC (d : Dev nD) : sProp 𝕄 :=
  iprop(((SparseCore.T d).loc main_v16 ↦{fullShare} launchContents m d (Proc.devRef .tc main_v16)) ∗ ((SparseCore.T d).loc main_v17 ↦{fullShare} launchContents m d (Proc.devRef .tc main_v17))
    ∗ ((SparseCore.T d).loc main_v18 ↦{fullShare} launchContents m d (Proc.devRef .tc main_v18)) ∗ ((SparseCore.T d).loc main_v19 ↦{fullShare} launchContents m d (Proc.devRef .tc main_v19)))

theorem held_launchC (d : Dev nD) :
    (held (SparseCore.T d) (img grpC) (launchContents m d) : sProp 𝕄)
      ⊢ iprop((o0Loc d ↦{fullShare} m (o0Loc d)) ∗ (o1Loc d ↦{fullShare} m (o1Loc d)) ∗ (o2Loc d ↦{fullShare} m (o2Loc d)) ∗ restC m d) := by
  rw [held_grpC]

theorem held_callC (d : Dev nD) :
    iprop((o0Loc d ↦{fullShare} (resCol m d 0 : Buf (Elt F) (o0Loc d))) ∗ (o1Loc d ↦{fullShare} (resCol m d 1 : Buf (Elt F) (o1Loc d)))
        ∗ (o2Loc d ↦{fullShare} (resCol m d 2 : Buf (Elt F) (o2Loc d))) ∗ restC m d)
      ⊢ (held (SparseCore.T d) (img grpC) (afterCall m d) : sProp 𝕄) := by
  rw [held_grpC, afterCall_0, afterCall_1, afterCall_2, afterCall_of_ne m d (r := main_v16) (by decide) (by decide) (by decide),
    afterCall_of_ne m d (r := main_v17) (by decide) (by decide) (by decide), afterCall_of_ne m d (r := main_v18) (by decide) (by decide) (by decide),
    afterCall_of_ne m d (r := main_v19) (by decide) (by decide) (by decide)]

theorem held_afterC (d : Dev nD) :
    (held (SparseCore.T d) (img grpC) (after opsC (afterCall m d)) : sProp 𝕄)
      ⊢ ((SparseCore.T d).loc main_v19 ↦{fullShare} (resColour m d : Buf (Elt F) ((SparseCore.T d).loc main_v19))) := by
  rw [held_grpC, afterC_colour, afterCall_0, afterCall_1, afterCall_2]
  iintro ⟨-, -, -, -, -, -, H⟩
  iexact H

variable [∀ e, Nonempty (Elt F e)]

/-- A program and what follows it, one after the other, on the TensorCore. -/
theorem wp_then (d : Dev nD) {β γ : Type} (p : Prog (TpuEff nD τ sig (Elt F) (SparseCore.Sig (ΛP (F := F)) 2) .tc) β)
    (k : β → Prog (TpuEff nD τ sig (Elt F) (SparseCore.Sig (ΛP (F := F)) 2) .tc) γ) {Q : γ → sProp 𝕄} :
    wp frame (wpE ((K (F := F)).defs (D (F := F))) 𝒱 (SparseCore.T d) none) Set.univ p
        (fun b => wp frame (wpE ((K (F := F)).defs (D (F := F))) 𝒱 (SparseCore.T d) none) Set.univ (k b) Q)
      ⊢ wp frame (wpE ((K (F := F)).defs (D (F := F))) 𝒱 (SparseCore.T d) none) Set.univ (p >>= k) Q :=
  Entails.of_eq (wp_bind ..).symm

/-- `main` on device `d`: the strips, the table's call, the columns, the shading call, the colours side by side. -/
theorem hmain (κ : GSem nD τ sig → ℕ) (d : Dev nD) :
    iprop((K (F := F)).ctx EH (P (gridOf m) (colsOf m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 2 ∗ FIN m d ∗ (K (F := F)).tcEnd d) := by
  unfold SparseCore.Cfg.tcRes SparseCore.Cfg.tcEnd
  rw [unscoped_groups, main_split]
  iintro ⟨#Hctx, Hst, ⟨Hb, ⟨HA, Ht, HB, H3, HC⟩, Hts, -⟩, -⟩
  iapply (StableHlo.wp_seq 𝒱 none Set.univ d (img grpA) _ opsA bufsA freshA (launchContents m d)) $$ [Hb HA]
  · isplitl [Hb] <;> iassumption
  iintro ⟨Hb, HA⟩
  ihave HA := (held_afterA m d) $$ HA
  icases HA with ⟨Ha2, Hs⟩
  iapply (wp_then d)
  iapply ((K (F := F)).wp_run (D (F := F)) 𝒱 (EH := EH) (P := P (gridOf m) (colsOf m)) κ d 0) $$ [Hst Hs Ht Hb Ha2 HB H3 HC Hts]
  isplitr; · iexact Hctx
  isplitl [Hst]; · iexact Hst
  isplitl [Hs Ht]
  · iapply (start0 (gridOf m) (colsOf m) d (m (tabLoc d)))
    isplitl [Hs] <;> iassumption
  iintro ⟨Hst, Hdn⟩
  ihave Hdn := (done0 (gridOf m) (colsOf m) d) $$ Hdn
  icases Hdn with ⟨%f, %hf, Ht⟩
  iapply (StableHlo.wp_seq 𝒱 none Set.univ d (img grpB) _ opsB bufsB freshB (launchContents m d)) $$ [Hb HB]
  · isplitl [Hb] <;> iassumption
  iintro ⟨Hb, HB⟩
  ihave HB := (held_afterB m d) $$ HB
  icases HB with ⟨Ha0, Ha1, Hx⟩
  ihave HC := (held_launchC m d) $$ HC
  icases HC with ⟨Ho0, Ho1, Ho2, HC⟩
  iapply (wp_then d)
  iapply ((K (F := F)).wp_run (D (F := F)) 𝒱 (EH := EH) (P := P (gridOf m) (colsOf m)) κ d 1) $$ [Hst Hx Ht Ho0 Ho1 Ho2 H3 Hb Ha0 Ha1 Ha2 HC Hts]
  isplitr; · iexact Hctx
  isplitl [Hst]; · iexact Hst
  isplitl [Hx Ht Ho0 Ho1 Ho2 H3]
  · iapply (start1 (gridOf m) (colsOf m) d f hf (fun | 0 => m (o0Loc d) | 1 => m (o1Loc d) | 2 => m (o2Loc d) | 3 => m (o3Loc d)))
    isplitl [Hx]; · iexact Hx
    isplitl [Ht]; · iexact Ht
    isplitl [Ho0]; · iexact Ho0
    isplitl [Ho1]; · iexact Ho1
    isplitl [Ho2]; · iexact Ho2
    iexact H3
  iintro ⟨Hst, Hdn⟩
  ihave Hdn := (Entails.of_eq (done1 (gridOf m) (colsOf m) d)) $$ Hdn
  icases Hdn with ⟨Ho0, Ho1, Ho2, H3⟩
  ihave HC := (held_callC m d) $$ [Ho0 Ho1 Ho2 HC]
  · isplitl [Ho0]; · iexact Ho0
    isplitl [Ho1]; · iexact Ho1
    isplitl [Ho2]; · iexact Ho2
    iexact HC
  iapply (StableHlo.wp_seq 𝒱 none Set.univ d (img grpC) _ opsC bufsC freshC (afterCall m d)) $$ [Hb HC]
  · isplitl [Hb] <;> iassumption
  iintro ⟨Hb, HC⟩
  ihave HC := (held_afterC m d) $$ HC
  rw [wp_pure]; imodintro
  isplitl [Hst]; · iexact Hst
  isplitr [Hb Hts]
  · isplitl [Ha0]; · iexact Ha0
    isplitl [Ha1]; · iexact Ha1
    isplitl [Ha2]; · iexact Ha2
    isplitl [HC]; · iexact HC
    iexact H3
  isplitl [Hb] <;> iassumption

/-- What the claims read of device `d`'s final state. -/
def fq (d : Dev nD) (s' : Phys nD τ sig (Elt F)) : Prop :=
  s'.mem.mem ((SparseCore.T d).loc main_arg0) = m ((SparseCore.T d).loc main_arg0) ∧ s'.mem.mem ((SparseCore.T d).loc main_arg1) = m ((SparseCore.T d).loc main_arg1)
    ∧ s'.mem.mem ((SparseCore.T d).loc main_arg2) = m ((SparseCore.T d).loc main_arg2)
    ∧ s'.mem.mem ((SparseCore.T d).loc main_v19) = resColour m d ∧ s'.mem.mem ((SparseCore.T d).loc main_v15_3) = resDensity m d

/-- An array held whole is what the final memory has there, and is still held. -/
theorem agree {ℓ : Loc nD τ sig} (f : Buf (Elt F) ℓ) (s' : Phys nD τ sig (Elt F)) :
    iprop((ℓ ↦{fullShare} f) ∗ SI s') ⊢ (iprop(⌜s'.mem.mem ℓ = f⌝ ∗ SI s') : sProp 𝕄) := by
  iintro ⟨Hx, HSI⟩
  ihave H := (persistent_entails_right (SI_pointsTo_agree (st := s') (ℓ := ℓ) (I := Finset.univ) (q := fullShare) (f := f))) $$ [HSI Hx]
  · isplitl [HSI] <;> iassumption
  icases H with ⟨%hx, HSI, -⟩
  isplitr
  · ipureintro; exact funext fun i => hx i (Finset.mem_univ i)
  iexact HSI

theorem hfin (d : Dev nD) (s' : Phys nD τ sig (Elt F)) : iprop(FIN m d ∗ SI s') ⊢ (⌜fq m d s'⌝ : sProp 𝕄) := by
  iintro ⟨⟨H0, H1, H2, H3, H4⟩, HSI⟩
  ihave H := (agree _ s') $$ [HSI H0]
  · isplitl [H0] <;> iassumption
  icases H with ⟨%h0, HSI⟩
  ihave H := (agree _ s') $$ [HSI H1]
  · isplitl [H1] <;> iassumption
  icases H with ⟨%h1, HSI⟩
  ihave H := (agree _ s') $$ [HSI H2]
  · isplitl [H2] <;> iassumption
  icases H with ⟨%h2, HSI⟩
  ihave H := (agree _ s') $$ [HSI H3]
  · isplitl [H3] <;> iassumption
  icases H with ⟨%h3, HSI⟩
  ihave H := (agree _ s') $$ [HSI H4]
  · isplitl [H4] <;> iassumption
  icases H with ⟨%h4, -⟩
  ipureintro
  exact ⟨h0, h1, h2, h3, h4⟩

/-- The final states: the arguments as they were, the results computed, every semaphore counter back at zero. -/
def QC : PUnit × MemSt nD τ sig (Elt F) → Prop := fun r =>
  (∀ d : Dev nD, r.2.mem ((SparseCore.T d).loc main_arg0) = m ((SparseCore.T d).loc main_arg0) ∧ r.2.mem ((SparseCore.T d).loc main_arg1) = m ((SparseCore.T d).loc main_arg1)
    ∧ r.2.mem ((SparseCore.T d).loc main_arg2) = m ((SparseCore.T d).loc main_arg2)
    ∧ r.2.mem ((SparseCore.T d).loc main_v19) = resColour m d ∧ r.2.mem ((SparseCore.T d).loc main_v15_3) = resDensity m d) ∧ r.2.sem = fun _ => 0

/-- Every fair execution of the whole program ends, and in one of those states. -/
theorem run_main : θ_run (defs (F := F)) (threads (F := F)) ⟨m, fun _ => 0, ρ⟩ (QC m) :=
  SparseCore.Cfg.θ_run_sc_quiescent (K := K (F := F)) (D := D (F := F)) (𝒱 := 𝒱) (EH := EH) (P := P (gridOf m) (colsOf m)) (A := ∅) facts v₀
    (fun q hq => match q with | 0 => nomatch hq | 1 => nomatch hq)
    (fun q _ => obl (gridOf m) (colsOf m) facts q)
    (fun q _ => SparseCore.Cfg.VecSplit.of_plain (vecSplit (gridOf m) (colsOf m) q))
    m ρ main (fun _ => iprop(emp)) (FIN m) (u₀ (F := F)) (sep_elim_left.trans (hu₀ (gridOf m) (colsOf m))) (hmain m ρ) (fq m) (hfin m) (QC m) (fun _ h hz => ⟨h, hz⟩)

end Run

end Cert.Proof.Run

end
-- ==== Proof.Reads.lean ====
/-
  Layout operations read at an index: a column of a three-column array, three columns side by side, a channel of the
  27 that follow the first, and the look-up of a point's 28 channels in the grid. Both programs are made of these.
-/
module

public import Idealize.ShloMosaic.Lib.ValueIdx
public import Idealize.ShloMosaic.Lib.ValueIdxCore
public import Idealize.ShloMosaic.Lib.Pipeline.Value
public import proofs.«01_k».proof.Proof.Gen.ReferenceIdeal

@[expose] public section

noncomputable section

namespace Cert.Proof.Reads

open Idealize.ShloMosaic Idealize.ShloMosaic.ValueIdx

variable {α : Type}

/-- The shapes at hand. -/
abbrev N1 : Shape := ⟨1, ![1048576]⟩
abbrev Nx1 : Shape := ⟨2, ![1048576, 1]⟩
abbrev Nx3 : Shape := ⟨2, ![1048576, 3]⟩
abbrev Nx28 : Shape := ⟨2, ![1048576, 28]⟩
abbrev Grid : Shape := ⟨4, ![128, 128, 128, 28]⟩

/-- A slice of one column. -/
theorem slice_apply {n : ℕ} (k : ℕ) (hk : k < n) (A : (⟨2, ![1048576, n]⟩ : Shape).Idx → α) (hs : (⟨2, ![1048576, n]⟩ : Shape).Slices ![0, k] Nx1) (i : Nx1.Idx) :
    extractStridedSlice Nx1 ![0, k] A hs i = A (ix2 (n0 := 1048576) (n1 := n) (i 0) ⟨k, hk⟩) := by
  refine extractStridedSlice_apply _ _ _ _ _ fun a => ?_
  match a with
  | ⟨0, _⟩ => show (i 0).val = 0 + (i 0).val; omega
  | ⟨1, _⟩ => show k = k + (i 1).val; have h : (i 1).val < 1 := (i 1).isLt; omega

/-- A column as a vector. -/
theorem cast_col_apply (A : Nx1.Idx → α) (hc : Nx1.ShapeCasts N1) (p : N1.Idx) :
    shapeCast N1 A hc p = A (ix2 (n0 := 1048576) (n1 := 1) (p 0) 0) := by
  refine shapeCast_apply _ _ _ _ ?_
  rw [Shape.rowMajor_val_two, Shape.rowMajor_val_one]
  show (p 0).val * 1 + 0 = (p 0).val
  omega

/-- Column `k` of an array, as a vector. -/
theorem col_apply {n : ℕ} (k : ℕ) (hk : k < n) (A : (⟨2, ![1048576, n]⟩ : Shape).Idx → α) (hs : (⟨2, ![1048576, n]⟩ : Shape).Slices ![0, k] Nx1) (hc : Nx1.ShapeCasts N1) (p : N1.Idx) :
    shapeCast N1 (extractStridedSlice Nx1 ![0, k] A hs) hc p = A (ix2 (n0 := 1048576) (n1 := n) (p 0) ⟨k, hk⟩) := by
  rw [cast_col_apply, slice_apply k hk]

/-- A vector as a column. -/
theorem bcast_col_apply (x : N1.Idx → α) (h : N1.BroadcastsInDim Nx1 ![0]) (i : Nx1.Idx) :
    broadcastInDim Nx1 ![0] h x i = x (ix1 (n := 1048576) (i 0)) := by
  refine broadcastInDim_apply _ _ _ _ _ fun a => ?_
  match a with
  | ⟨0, _⟩ => exact (if_neg (by decide : ¬ (1048576 = 1))).symm

/-- A column repeated three times. -/
theorem bcast_three_apply (x : Nx1.Idx → α) (h : Nx1.BroadcastsInDim Nx3 ![0, 1]) (i : Nx3.Idx) :
    broadcastInDim Nx3 ![0, 1] h x i = x (ix2 (n0 := 1048576) (n1 := 1) (i 0) 0) := by
  refine broadcastInDim_apply _ _ _ _ _ fun a => ?_
  match a with
  | ⟨0, _⟩ => exact (if_neg (by decide : ¬ (1048576 = 1))).symm
  | ⟨1, _⟩ => exact (if_pos rfl).symm

/-- One of three. -/
def pick {β : Type} (a b c : β) : Fin 3 → β
  | 0 => a
  | 1 => b
  | 2 => c

/-- Three columns side by side. -/
theorem three_apply (a b c : Nx1.Idx → α) (h : Shape.Concatenates [Nx1, Nx1, Nx1] Nx3 1) (i : Nx3.Idx) :
    concatenate Nx3 1 [⟨Nx1, a⟩, ⟨Nx1, b⟩, ⟨Nx1, c⟩] h i
      = pick a b c (i 1) (ix2 (n0 := 1048576) (n1 := 1) (i 0) 0) := by
  obtain ⟨p, k, rfl⟩ : ∃ (p : Fin 1048576) (k : Fin 3), i = ix2 (n0 := 1048576) (n1 := 3) p k := ⟨i 0, i 1, eq_ix2 i⟩
  show concatenate Nx3 1 [⟨Nx1, a⟩, ⟨Nx1, b⟩, ⟨Nx1, c⟩] h _ = pick a b c k (ix2 (n0 := 1048576) (n1 := 1) p 0)
  have hne : ∀ q : Fin 3, ∀ b : Fin Nx1.rank, b.cast rfl ≠ (1 : Fin Nx3.rank) →
      (ix2 (n0 := 1048576) (n1 := 1) p 0 b).val = (ix2 (n0 := 1048576) (n1 := 3) p q (b.cast rfl)).val := fun q b hb => by
    match b with
    | ⟨0, _⟩ => rfl
    | ⟨1, _⟩ => exact absurd rfl hb
  match k with
  | 0 => exact concatenate_apply_piece (t := Nx3) 1 [⟨Nx1, a⟩, ⟨Nx1, b⟩, ⟨Nx1, c⟩] h (ix2 (n0 := 1048576) (n1 := 3) p 0) 0 (show 0 < 3 by decide) Nx1 a rfl rfl 0 rfl (ix2 (n0 := 1048576) (n1 := 1) p 0) (hne 0) rfl
  | 1 => exact concatenate_apply_piece (t := Nx3) 1 [⟨Nx1, a⟩, ⟨Nx1, b⟩, ⟨Nx1, c⟩] h (ix2 (n0 := 1048576) (n1 := 3) p 1) 1 (show 1 < 3 by decide) Nx1 b rfl rfl 1 rfl (ix2 (n0 := 1048576) (n1 := 1) p 0) (hne 1) rfl
  | 2 => exact concatenate_apply_piece (t := Nx3) 1 [⟨Nx1, a⟩, ⟨Nx1, b⟩, ⟨Nx1, c⟩] h (ix2 (n0 := 1048576) (n1 := 3) p 2) 2 (show 2 < 3 by decide) Nx1 c rfl rfl 2 rfl (ix2 (n0 := 1048576) (n1 := 1) p 0) (hne 2) rfl

/-- Channel `j` of colour `c` of a point's 28 channels: the first is the density, then nine of each colour. -/
theorem chan_apply (j : ℕ) (hj : j < 9) (L : Nx28.Idx → α) (h1 : Nx28.Slices ![0, 1] ⟨2, ![1048576, 27]⟩)
    (h2 : (⟨2, ![1048576, 27]⟩ : Shape).ShapeCasts ⟨3, ![1048576, 3, 9]⟩)
    (h3 : (⟨3, ![1048576, 3, 9]⟩ : Shape).Slices ![0, 0, j] ⟨3, ![1048576, 3, 1]⟩)
    (h4 : (⟨3, ![1048576, 3, 1]⟩ : Shape).ShapeCasts Nx3) (i : Nx3.Idx) :
    shapeCast Nx3 (extractStridedSlice ⟨3, ![1048576, 3, 1]⟩ ![0, 0, j]
        (shapeCast ⟨3, ![1048576, 3, 9]⟩ (extractStridedSlice ⟨2, ![1048576, 27]⟩ ![0, 1] L h1) h2) h3) h4 i
      = L (ix2 (n0 := 1048576) (n1 := 28) (i 0) ⟨1 + 9 * (i 1).val + j, by have h : (i 1).val < 3 := (i 1).isLt; omega⟩) := by
  have hc : (i 1).val < 3 := (i 1).isLt
  refine (shapeCast_apply _ _ _ (ix3 (n0 := 1048576) (n1 := 3) (n2 := 1) (i 0) (i 1) 0) ?_).trans ?_
  · rw [Shape.rowMajor_val_three, Shape.rowMajor_val_two]
    show ((i 0).val * 3 + (i 1).val) * 1 + 0 = (i 0).val * 3 + (i 1).val
    omega
  refine (extractStridedSlice_apply _ _ _ _ (ix3 (n0 := 1048576) (n1 := 3) (n2 := 9) (i 0) (i 1) ⟨j, hj⟩) fun a => ?_).trans ?_
  · match a with
    | ⟨0, _⟩ => show (i 0).val = 0 + (i 0).val; omega
    | ⟨1, _⟩ => show (i 1).val = 0 + (i 1).val; omega
    | ⟨2, _⟩ => rfl
  refine (shapeCast_apply _ _ _ (ix2 (n0 := 1048576) (n1 := 27) (i 0) ⟨9 * (i 1).val + j, by omega⟩) ?_).trans ?_
  · rw [Shape.rowMajor_val_three, Shape.rowMajor_val_two]
    show (i 0).val * 27 + (9 * (i 1).val + j) = ((i 0).val * 3 + (i 1).val) * 9 + j
    omega
  refine extractStridedSlice_apply _ _ _ _ _ fun a => ?_
  match a with
  | ⟨0, _⟩ => show (i 0).val = 0 + (i 0).val; omega
  | ⟨1, _⟩ => show 1 + 9 * (i 1).val + j = 1 + (9 * (i 1).val + j); omega

open Cert.ReferenceIdeal Cert.ReferenceIdeal.Gen in
/-- Where the look-up finds word `k` of a point. -/
theorem look_word (i : Nx28.Idx) (k : Fin 3) (h) :
    GatherDims.siIdx gather_S128x128x128x28_S1048576x3_S1048576x28_1_012_n_n_012_1_11128 i ⟨k.val, h⟩ = ix2 (n0 := 1048576) (n1 := 3) (i 0) k := by
  funext b; refine Fin.ext ?_
  match b with
  | ⟨0, _⟩ => rfl
  | ⟨1, _⟩ => rfl

open Cert.ReferenceIdeal Cert.ReferenceIdeal.Gen in
/-- The look-up: channel `c` of point `p` is the grid's, at the point's three words cut to `0 .. 127`. -/
theorem look_apply (C : Grid.Idx → α) (I : IVec Nx3 32) (i : Nx28.Idx) :
    Host.gather gather_S128x128x128x28_S1048576x3_S1048576x28_1_012_n_n_012_1_11128 C I i
      = C (ix4 (n0 := 128) (n1 := 128) (n2 := 128) (n3 := 28)
          ⟨min (I (ix2 (n0 := 1048576) (n1 := 3) (i 0) 0)).toInt.toNat 127, by omega⟩
          ⟨min (I (ix2 (n0 := 1048576) (n1 := 3) (i 0) 1)).toInt.toNat 127, by omega⟩
          ⟨min (I (ix2 (n0 := 1048576) (n1 := 3) (i 0) 2)).toInt.toNat 127, by omega⟩ (i 1)) := by
  unfold Host.gather
  refine congrArg C (funext fun a => Fin.ext ?_)
  generalize hd : gather_S128x128x128x28_S1048576x3_S1048576x28_1_012_n_n_012_1_11128 = d
  show d.start i I a + d.batchCoord i a + d.offCoord i a = _
  subst hd
  have h4 : a = 0 ∨ a = 1 ∨ a = 2 ∨ a = 3 := by revert a; decide
  rcases h4 with rfl | rfl | rfl | rfl
  · rw [GatherDims.batchCoord_eq_zero _ _ _ List.not_mem_nil,
      GatherDims.offCoord_eq_zero _ _ _ (fun h => ((GatherDims.mem_sKept _ _).mp h).1 (show (0 : Fin 4) ∈ [0, 1, 2] by decide))]
    unfold GatherDims.start
    rw [dif_pos (show (0 : Fin 4) ∈ gather_S128x128x128x28_S1048576x3_S1048576x28_1_012_n_n_012_1_11128.startIndexMap from (show (0 : Fin 4) ∈ [0, 1, 2] by decide))]
    exact congrArg (fun z : Nx3.Idx => min (I z).toInt.toNat 127) (look_word i 0 _)
  · rw [GatherDims.batchCoord_eq_zero _ _ _ List.not_mem_nil,
      GatherDims.offCoord_eq_zero _ _ _ (fun h => ((GatherDims.mem_sKept _ _).mp h).1 (show (1 : Fin 4) ∈ [0, 1, 2] by decide))]
    unfold GatherDims.start
    rw [dif_pos (show (1 : Fin 4) ∈ gather_S128x128x128x28_S1048576x3_S1048576x28_1_012_n_n_012_1_11128.startIndexMap from (show (1 : Fin 4) ∈ [0, 1, 2] by decide))]
    exact congrArg (fun z : Nx3.Idx => min (I z).toInt.toNat 127) (look_word i 1 _)
  · rw [GatherDims.batchCoord_eq_zero _ _ _ List.not_mem_nil,
      GatherDims.offCoord_eq_zero _ _ _ (fun h => ((GatherDims.mem_sKept _ _).mp h).1 (show (2 : Fin 4) ∈ [0, 1, 2] by decide))]
    unfold GatherDims.start
    rw [dif_pos (show (2 : Fin 4) ∈ gather_S128x128x128x28_S1048576x3_S1048576x28_1_012_n_n_012_1_11128.startIndexMap from (show (2 : Fin 4) ∈ [0, 1, 2] by decide))]
    exact congrArg (fun z : Nx3.Idx => min (I z).toInt.toNat 127) (look_word i 2 _)
  · rw [GatherDims.batchCoord_eq_zero _ _ _ List.not_mem_nil]
    unfold GatherDims.start GatherDims.offCoord
    rw [dif_neg (show ¬ (3 : Fin 4) ∈ gather_S128x128x128x28_S1048576x3_S1048576x28_1_012_n_n_012_1_11128.startIndexMap from (show ¬ (3 : Fin 4) ∈ [0, 1, 2] by decide)),
      dif_pos (show (3 : Fin 4) ∈ gather_S128x128x128x28_S1048576x3_S1048576x28_1_012_n_n_012_1_11128.sKept from (show (3 : Fin 4) ∈ [3] by decide))]
    show 0 + 0 + (i 1).val = (i 1).val
    omega

end Cert.Proof.Reads

end
-- ==== Proof.KernelRead.lean ====
/-
  The program's two results read at an entry: the point's mask times what its direction's coefficients and its cell's
  channels give, over any float values.
-/
module

public import proofs.«01_k».proof.Proof.Launch
public import proofs.«01_k».proof.Proof.ShadeValue
public import proofs.«01_k».proof.Proof.Reads

@[expose] public section

noncomputable section

namespace Cert.Proof.Reads

open Cert.KernelIdeal Cert.KernelIdeal.Gen Cert.Proof.Spec Cert.Proof.Run
open Idealize.ShloMosaic Idealize.ShloMosaic.ValueIdx

variable {F : FTy → Type} [FloatOps F]

theorem ix_lt (x : F .f32) : (ix x).toNat < 128 := clip_lt _

/-- Channel `c` of the cell that holds the point `(x, y, z)`. -/
def cell (C : Grid.Idx → F .f32) (x y z : F .f32) (c : ℕ) : F .f32 :=
  C (ix4 (n0 := 128) (n1 := 128) (n2 := 128) (n3 := 28) ⟨(ix x).toNat, ix_lt x⟩ ⟨(ix y).toNat, ix_lt y⟩ ⟨(ix z).toNat, ix_lt z⟩
    ⟨c % 28, Nat.mod_lt _ (by decide)⟩)

/-- A cell's number is read off its three words. -/
theorem voxW_toNat (x y z : F .f32) : (voxW x y z).toNat = (ix x).toNat * 16384 + (ix y).toNat * 128 + (ix z).toNat := by
  have hx := ix_lt x
  have hy := ix_lt y
  have hz := ix_lt z
  unfold voxW IntOp.addi IntOp.muli
  rw [BitVec.toNat_add, BitVec.toNat_add, BitVec.toNat_mul, BitVec.toNat_mul]
  show ((((ix x).toNat * 16384) % 4294967296 + ((ix y).toNat * 128) % 4294967296) % 4294967296 + (ix z).toNat) % 4294967296 = _
  omega

/-- The strips hold a cell's channels. -/
theorem strips_apply (C : Grid.Idx → F .f32) (x y z : F .f32) (c : ℕ) (hc : c < 28) :
    chan (strips C) (voxW x y z).toNat c = cell C x y z c := by
  have hx := ix_lt x
  have hy := ix_lt y
  have hz := ix_lt z
  rw [voxW_toNat]
  unfold chan strips cell
  refine (shapeCast_apply _ _ _ (ix4 (n0 := 128) (n1 := 28) (n2 := 128) (n3 := 128) ⟨(ix x).toNat, hx⟩ ⟨c % 28, Nat.mod_lt _ (by decide)⟩
    ⟨(ix y).toNat, hy⟩ ⟨(ix z).toNat, hz⟩) ?_).trans ?_
  · rw [Shape.rowMajor_val_four, Shape.rowMajor_val_two]
    show (((ix x).toNat * 28 + c % 28) * 128 + (ix y).toNat) * 128 + (ix z).toNat
      = (28 * (((ix x).toNat * 16384 + (ix y).toNat * 128 + (ix z).toNat) / 16384) + c) % 3584 * 16384
        + ((ix x).toNat * 16384 + (ix y).toNat * 128 + (ix z).toNat) % 16384
    omega
  refine transpose_apply _ _ _ _ _ fun b => ?_
  match b with
  | ⟨0, _⟩ => rfl
  | ⟨1, _⟩ => rfl
  | ⟨2, _⟩ => rfl
  | ⟨3, _⟩ => rfl

/-- Column `k` of a three-column array at row `p`. -/
def at3 (A : Nx3.Idx → F .f32) (p : Fin 1048576) (k : Fin 3) : F .f32 := A (ix2 (n0 := 1048576) (n1 := 3) p k)

variable (A B : Nx3.Idx → F .f32) (C : Grid.Idx → F .f32)

/-- The mask of point `p`, its direction's coefficients, and its cell's channels. -/
def mask (p : Fin 1048576) : F .f32 := mk (at3 A p 0) (at3 A p 1) (at3 A p 2)
def coefs (p : Fin 1048576) : Fin 9 → F .f32 := coef (at3 B p 0) (at3 B p 1) (at3 B p 2)
def chans (p : Fin 1048576) (c : ℕ) : F .f32 := cell C (at3 A p 0) (at3 A p 1) (at3 A p 2) c

theorem col_at3 (k : ℕ) (hk : k < 3) (hs : Nx3.Slices ![0, k] Nx1) (hc : Nx1.ShapeCasts N1) (p : N1.Idx) :
    shapeCast N1 (extractStridedSlice Nx1 ![0, k] A hs) hc p = at3 A (p 0) ⟨k, hk⟩ := col_apply k hk A hs hc p

theorem cols_0 (p : N1.Idx) : cols A B 0 p = at3 A (p 0) 0 := col_at3 A 0 (by decide) _ _ p
theorem cols_1 (p : N1.Idx) : cols A B 1 p = at3 A (p 0) 1 := col_at3 A 1 (by decide) _ _ p
theorem cols_2 (p : N1.Idx) : cols A B 2 p = at3 A (p 0) 2 := col_at3 A 2 (by decide) _ _ p
theorem cols_3 (p : N1.Idx) : cols A B 3 p = at3 B (p 0) 0 := col_at3 B 0 (by decide) _ _ p
theorem cols_4 (p : N1.Idx) : cols A B 4 p = at3 B (p 0) 1 := col_at3 B 1 (by decide) _ _ p
theorem cols_5 (p : N1.Idx) : cols A B 5 p = at3 B (p 0) 2 := col_at3 B 2 (by decide) _ _ p

theorem nine_congr (k : Fin 9 → F .f32) (v w : ℕ → F .f32) (h : ∀ j, j < 9 → v j = w j) : nine k v = nine k w := by
  unfold nine
  rw [h 0 (by decide), h 1 (by decide), h 2 (by decide), h 3 (by decide), h 4 (by decide), h 5 (by decide), h 6 (by decide), h 7 (by decide), h 8 (by decide)]

theorem shade_eq (p : N1.Idx) (j : Fin 4) :
    shade (strips C) (fun a => cols A B a p) j = res (mask A (p 0)) (coefs B (p 0)) (chan (strips C) (voxW (at3 A (p 0) 0) (at3 A (p 0) 1) (at3 A (p 0) 2)).toNat) j := by
  unfold shade
  show res (mk (cols A B 0 p) (cols A B 1 p) (cols A B 2 p)) (coef (cols A B 3 p) (cols A B 4 p) (cols A B 5 p))
    (chan (strips C) (voxW (cols A B 0 p) (cols A B 1 p) (cols A B 2 p)).toNat) j = _
  rw [cols_0, cols_1, cols_2, cols_3, cols_4, cols_5]
  rfl

/-- A colour of point `p`. -/
def colour (p : Fin 1048576) (k : Fin 3) : F .f32 :=
  FloatOps.mulf (mask A p) (nine (coefs B p) fun j => chans A C p (1 + 9 * k.val + j))

/-- The density of point `p`. -/
def density (p : Fin 1048576) : F .f32 := FloatOps.mulf (mask A p) (FloatOps.maximumf (chans A C p 0) (wd 0x00000000#32))

theorem shade_density (p : N1.Idx) : shade (strips C) (fun a => cols A B a p) 3 = density A C (p 0) := by
  rw [shade_eq]
  show FloatOps.mulf (mask A (p 0)) (FloatOps.maximumf (chan _ _ 0) _) = _
  rw [strips_apply C _ _ _ 0 (by decide)]
  rfl

theorem shade_colour (p : N1.Idx) (k : Fin 3) :
    pick (shade (strips C) (fun a => cols A B a p) 0) (shade (strips C) (fun a => cols A B a p) 1) (shade (strips C) (fun a => cols A B a p) 2) k
      = colour A B C (p 0) k := by
  match k with
  | 0 =>
    show shade (strips C) (fun a => cols A B a p) 0 = _
    rw [shade_eq]
    exact congrArg (FloatOps.mulf _) (nine_congr _ _ _ fun j hj => strips_apply C _ _ _ (1 + j) (by omega))
  | 1 =>
    show shade (strips C) (fun a => cols A B a p) 1 = _
    rw [shade_eq]
    exact congrArg (FloatOps.mulf _) (nine_congr _ _ _ fun j hj => strips_apply C _ _ _ (10 + j) (by omega))
  | 2 =>
    show shade (strips C) (fun a => cols A B a p) 2 = _
    rw [shade_eq]
    exact congrArg (FloatOps.mulf _) (nine_congr _ _ _ fun j hj => strips_apply C _ _ _ (19 + j) (by omega))

theorem pick_of {β γ : Type} (a b c : β) (f : β → γ) (k : Fin 3) : f (pick a b c k) = pick (f a) (f b) (f c) k := by
  match k with
  | 0 => rfl
  | 1 => rfl
  | 2 => rfl

theorem pick_congr {β : Type} {a b c a' b' c' : β} (ha : a = a') (hb : b = b') (hc : c = c') (k : Fin 3) : pick a b c k = pick a' b' c' k := by
  rw [ha, hb, hc]

variable (m : (ℓ : Loc nD τ sig) → Buf (Elt F) ℓ)

/-- The second result. -/
theorem resDensity_apply (d : Dev nD) (p : N1.Idx) :
    resDensity m d p = density (m ((SparseCore.T d).loc main_arg0)) (m ((SparseCore.T d).loc main_arg2)) (p 0) :=
  shade_density _ (m ((SparseCore.T d).loc main_arg1)) _ p

/-- The first result. -/
theorem resColour_apply (d : Dev nD) (i : Nx3.Idx) :
    resColour m d i = colour (m ((SparseCore.T d).loc main_arg0)) (m ((SparseCore.T d).loc main_arg1)) (m ((SparseCore.T d).loc main_arg2)) (i 0) (i 1) := by
  unfold resColour beside
  refine (three_apply _ _ _ _ i).trans ?_
  refine (pick_of _ _ _ (fun x : Nx1.Idx → F .f32 => x (ix2 (n0 := 1048576) (n1 := 1) (i 0) 0)) (i 1)).trans ?_
  refine Eq.trans ?_ (shade_colour _ _ _ (ix1 (n := 1048576) (i 0)) (i 1))
  exact pick_congr (bcast_col_apply _ _ _) (bcast_col_apply _ _ _) (bcast_col_apply _ _ _) (i 1)

end Cert.Proof.Reads

end
-- ==== Proof.RefRead.lean ====
/-
  The reference's two results, named piece by piece and read at an entry, over the extended reals.

  The three words of a point index the grid; the reference wraps a negative word and the look-up cuts to `0 .. 127`, and both
  leave a word that is already cut as it is.
-/
module

public import proofs.«01_k».proof.Proof.KernelRead
public import proofs.«01_k».proof.Proof.Gen.ReferenceIdeal.Run
public import Idealize.ShloMosaic.Lib.IdealHost

@[expose] public section

noncomputable section

namespace Cert.Proof.Reads

open Cert.ReferenceIdeal Cert.ReferenceIdeal.Gen Cert.Proof.Spec
open Idealize.ShloMosaic Idealize.ShloMosaic.ValueIdx

/-! ## The pieces -/

/-- The three words of every point. -/
def words (A : Nx3.Idx → EReal) : IVec S1048576x3 32 :=
  minsi (broadcastInDim S1048576x3 ![] bcast_S_S1048576x3 (id (constantI S_ 32 127#32))) (maxsi (broadcastInDim S1048576x3 ![] bcast_S_S1048576x3 (id (constantI S_ 32 0#32)))
    (fptosi (F := Ideal) (φ := .f32) 32 (addf (Host.divf A (broadcastInDim S1048576x3 ![] bcast_S_S1048576x3 (constant S_ .f32 0x3CC00000#32))) (broadcastInDim S1048576x3 ![] bcast_S_S1048576x3 (constant S_ .f32 0x42800000#32)))))

/-- A vector of words, the negative ones wrapped, as a column. -/
def wrapped (w : IVec S1048576 32) : IVec S1048576x1 32 :=
  broadcastInDim S1048576x1 ![0] bcast_S1048576_S1048576x1_0 (select (cmpi .slt w (broadcastInDim S1048576 ![] bcast_S_S1048576 (constantI S_ 32 0#32)))
    (addi w (broadcastInDim S1048576 ![] bcast_S_S1048576 (constantI S_ 32 128#32))) w)

/-- Column `k` of an array as a vector. -/
def colv {α : Type} (k : ℕ) (h : S1048576x3.Slices ![0, k] S1048576x1) (A : S1048576x3.Idx → α) : S1048576.Idx → α :=
  shapeCast S1048576 (extractStridedSlice S1048576x1 ![0, k] A h) shapeCasts_S1048576x1_S1048576

/-- The index array of the look-up. -/
def places (A : Nx3.Idx → EReal) : IVec S1048576x3 32 :=
  concatenate S1048576x3 1 [⟨S1048576x1, wrapped (colv 0 slices_S1048576x3_S1048576x1_0_0 (words A))⟩,
    ⟨S1048576x1, wrapped (colv 1 slices_S1048576x3_S1048576x1_0_1 (words A))⟩,
    ⟨S1048576x1, wrapped (colv 2 slices_S1048576x3_S1048576x1_0_2 (words A))⟩] concatenates_S1048576x1_S1048576x1_S1048576x1_S1048576x3_d1

/-- The 28 channels of every point. -/
def look (A : Nx3.Idx → EReal) (C : Grid.Idx → EReal) : S1048576x28.Idx → EReal :=
  Host.gather gather_S128x128x128x28_S1048576x3_S1048576x28_1_012_n_n_012_1_11128 C (places A)

/-- Which coordinates lie strictly within the cube. -/
def near (x : S1048576.Idx → EReal) : IVec S1048576 1 :=
  cmpf (F := Ideal) (φ := .f32) .olt (Host.absf x) (broadcastInDim S1048576 ![] bcast_S_S1048576 (constant S_ .f32 0x3FC00000#32))

/-- Which points lie strictly within the cube. -/
def within (A : Nx3.Idx → EReal) : IVec S1048576 1 :=
  andi (andi (near (colv 0 slices_S1048576x3_S1048576x1_0_0 A)) (near (colv 1 slices_S1048576x3_S1048576x1_0_1 A))) (near (colv 2 slices_S1048576x3_S1048576x1_0_2 A))

/-- Channel `j` of every colour. -/
def chan3 (j : ℕ) (h : S1048576x3x9.Slices ![0, 0, j] S1048576x3x1) (L : S1048576x28.Idx → EReal) : S1048576x3.Idx → EReal :=
  shapeCast S1048576x3 (extractStridedSlice S1048576x3x1 ![0, 0, j] (shapeCast S1048576x3x9 (extractStridedSlice S1048576x27 ![0, 1] L slices_S1048576x28_S1048576x27_0_1)
    shapeCasts_S1048576x27_S1048576x3x9) h) shapeCasts_S1048576x3x1_S1048576x3

/-- A constant column, a column of the directions, and a column repeated for the three colours. -/
def con (b : BitVec 32) : S1048576x1.Idx → EReal := broadcastInDim S1048576x1 ![] bcast_S_S1048576x1 (constant (F := Ideal) S_ .f32 b)
def dir (k : ℕ) (h : S1048576x3.Slices ![0, k] S1048576x1) (B : Nx3.Idx → EReal) : S1048576x1.Idx → EReal := extractStridedSlice S1048576x1 ![0, k] B h
def rep {α : Type} (x : S1048576x1.Idx → α) : S1048576x3.Idx → α := broadcastInDim S1048576x3 ![0, 1] bcast_S1048576x1_S1048576x3_0_1 x

/-- Products, sums and differences entry by entry. -/
abbrev mu {s : Shape} (x y : s.Idx → EReal) : s.Idx → EReal := mulf (F := Ideal) (φ := .f32) x y
abbrev ad {s : Shape} (x y : s.Idx → EReal) : s.Idx → EReal := addf (F := Ideal) (φ := .f32) x y
abbrev sb {s : Shape} (x y : s.Idx → EReal) : s.Idx → EReal := subf (F := Ideal) (φ := .f32) x y

/-- The colours before the mask, from the three columns of the directions and the channels. -/
def sums (x y z : S1048576x1.Idx → EReal) (L : S1048576x28.Idx → EReal) : S1048576x3.Idx → EReal :=
  ad (sb (ad (ad (mu (broadcastInDim S1048576x3 ![] bcast_S_S1048576x3 (constant (F := Ideal) S_ .f32 0x3E906EC1#32)) (chan3 0 slices_S1048576x3x9_S1048576x3x1_0_0_0 L))
      (mu (rep (mu (con 0xBEFA2A2C#32) y)) (chan3 1 slices_S1048576x3x9_S1048576x3x1_0_0_1 L)))
      (mu (rep (mu (con 0x3EFA2A2C#32) z)) (chan3 2 slices_S1048576x3x9_S1048576x3x1_0_0_2 L)))
      (mu (rep (mu (con 0x3EFA2A2C#32) x)) (chan3 3 slices_S1048576x3x9_S1048576x3x1_0_0_3 L)))
    (ad (ad (ad (sb (mu (rep (mu (mu (con 0x3F8BD89D#32) x) y)) (chan3 4 slices_S1048576x3x9_S1048576x3x1_0_0_4 L))
      (mu (rep (mu (mu (con 0x3F8BD89D#32) y) z)) (chan3 5 slices_S1048576x3x9_S1048576x3x1_0_0_5 L)))
      (mu (rep (mu (con 0x3EA17B0F#32) (sb (sb (mu (mu (con 0x40000000#32) z) z) (mu x x)) (mu y y)))) (chan3 6 slices_S1048576x3x9_S1048576x3x1_0_0_6 L)))
      (mu (rep (mu (mu (con 0xBF8BD89D#32) x) z)) (chan3 7 slices_S1048576x3x9_S1048576x3x1_0_0_7 L)))
      (mu (rep (mu (con 0x3F0BD89D#32) (sb (mu x x) (mu y y)))) (chan3 8 slices_S1048576x3x9_S1048576x3x1_0_0_8 L)))

/-- The two results. -/
def refColour (A B : Nx3.Idx → EReal) (C : Grid.Idx → EReal) : S1048576x3.Idx → EReal :=
  select (rep (broadcastInDim S1048576x1 ![0] bcast_S1048576_S1048576x1_0 (within A)))
    (sums (dir 0 slices_S1048576x3_S1048576x1_0_0 B) (dir 1 slices_S1048576x3_S1048576x1_0_1 B) (dir 2 slices_S1048576x3_S1048576x1_0_2 B) (look A C))
    (broadcastInDim S1048576x3 ![] bcast_S_S1048576x3 (id (constant (F := Ideal) S_ .f32 0x00000000#32)))

def refDensity (A : Nx3.Idx → EReal) (C : Grid.Idx → EReal) : S1048576.Idx → EReal :=
  select (within A) (maximumf (F := Ideal) (φ := .f32) (shapeCast S1048576 (extractStridedSlice S1048576x1 ![0, 0] (look A C) slices_S1048576x28_S1048576x1_0_0) shapeCasts_S1048576x1_S1048576)
    (broadcastInDim S1048576 ![] bcast_S_S1048576 (constant (F := Ideal) S_ .f32 0x00000000#32)))
    (broadcastInDim S1048576 ![] bcast_S_S1048576 (id (constant (F := Ideal) S_ .f32 0x00000000#32)))

variable (m : (ℓ : Loc nD τ sig) → Buf (Elt Ideal) ℓ)

theorem v132_eq (d : Dev nD) : Value.res_main_v132 (F := Ideal) m d
    = refColour (m ((d.tc : Thread nD τ).loc main_arg0)) (m ((d.tc : Thread nD τ).loc main_arg1)) (m ((d.tc : Thread nD τ).loc main_arg2)) := rfl

theorem v52_eq (d : Dev nD) : Value.res_main_v52 (F := Ideal) m d
    = refDensity (m ((d.tc : Thread nD τ).loc main_arg0)) (m ((d.tc : Thread nD τ).loc main_arg2)) := rfl

end Cert.Proof.Reads

end
-- ==== Proof.Equation.lean ====
/-
  The reference's results are the program's, entry by entry over the extended reals.

  Three things differ. The reference selects by the mask where the program multiplies by one or zero; it subtracts a product
  where the program adds a product with the negated coefficient; and it associates its sums and products otherwise. Each is
  an equation of the extended reals with no finiteness asked.
-/
module

public import proofs.«01_k».proof.Proof.RefRead

@[expose] public section

noncomputable section

namespace Cert.Proof.Reads

open Cert.ReferenceIdeal Cert.ReferenceIdeal.Gen Cert.Proof.Spec
open Idealize.ShloMosaic Idealize.ShloMosaic.ValueIdx

/-! ## The words -/

/-- A word that is cut to `0 .. 127` is its number, as a signed word too. -/
theorem toInt_of_lt (w : BitVec 32) (h : w.toNat < 128) : w.toInt.toNat = w.toNat := by
  rw [BitVec.toInt_eq_toNat_of_lt (by omega)]; rfl

/-- Such a word is not negative. -/
theorem not_neg_of_lt (w : BitVec 32) (h : w.toNat < 128) : IntOp.cmpi .slt w 0#32 = 0#1 := by
  unfold IntOp.cmpi
  have hn : ¬ w.slt 0#32 = true := by
    rw [BitVec.slt_iff_toInt_lt, BitVec.toInt_eq_toNat_of_lt (by omega)]
    show ¬ ((w.toNat : ℤ) < 0)
    omega
  simp [hn]

theorem words_apply (A : Nx3.Idx → EReal) (i : Nx3.Idx) : words A i = ix (F := Ideal) (A i) := rfl

theorem colv_apply {α : Type} (k : ℕ) (hk : k < 3) (h) (A : Nx3.Idx → α) (p : N1.Idx) :
    colv k h A p = A (ix2 (n0 := 1048576) (n1 := 3) (p 0) ⟨k, hk⟩) := col_apply k hk A _ _ p

theorem wrapped_apply (w : IVec S1048576 32) (p : Fin 1048576) (h : (w (ix1 (n := 1048576) p)).toNat < 128) :
    wrapped w (ix2 (n0 := 1048576) (n1 := 1) p 0) = w (ix1 (n := 1048576) p) := by
  unfold wrapped
  refine (bcast_col_apply _ _ _).trans ?_
  show (if IntOp.cmpi .slt (w (ix1 (n := 1048576) p)) 0#32 = 1#1 then _ else w (ix1 (n := 1048576) p)) = _
  rw [not_neg_of_lt _ h]
  exact if_neg (by decide)

theorem word_lt (A : Nx3.Idx → EReal) (i : Nx3.Idx) : (words A i).toNat < 128 := by
  rw [words_apply]; exact ix_lt _

theorem wrapped_col (A : Nx3.Idx → EReal) (k : ℕ) (hk : k < 3) (h) (p : Fin 1048576) :
    wrapped (colv k h (words A)) (ix2 (n0 := 1048576) (n1 := 1) p 0) = ix (F := Ideal) (at3 (F := Ideal) A p ⟨k, hk⟩) := by
  have e : colv k h (words A) (ix1 (n := 1048576) p) = ix (F := Ideal) (at3 (F := Ideal) A p ⟨k, hk⟩) :=
    (colv_apply k hk h _ _).trans (words_apply A _)
  rw [wrapped_apply _ p (by rw [e]; exact ix_lt _), e]

theorem pick_fn {β : Type} (f : Fin 3 → β) (k : Fin 3) : pick (f 0) (f 1) (f 2) k = f k := by
  match k with
  | 0 => rfl
  | 1 => rfl
  | 2 => rfl

theorem places_apply (A : Nx3.Idx → EReal) (p : Fin 1048576) (k : Fin 3) :
    places A (ix2 (n0 := 1048576) (n1 := 3) p k) = ix (F := Ideal) (at3 (F := Ideal) A p k) := by
  unfold places
  refine (three_apply _ _ _ _ _).trans ?_
  refine (pick_of _ _ _ (fun x : Nx1.Idx → BitVec 32 => x (ix2 (n0 := 1048576) (n1 := 1) p 0)) k).trans ?_
  exact (pick_congr (wrapped_col A 0 (by decide) _ p) (wrapped_col A 1 (by decide) _ p) (wrapped_col A 2 (by decide) _ p) k).trans
    (pick_fn (fun q => ix (F := Ideal) (at3 (F := Ideal) A p q)) k)

/-- The reference's look-up gives the cell's channels. -/
theorem look_cell (A : Nx3.Idx → EReal) (C : Grid.Idx → EReal) (p : Fin 1048576) (c : Fin 28) :
    look A C (ix2 (n0 := 1048576) (n1 := 28) p c) = chans (F := Ideal) A C p c.val := by
  unfold look
  rw [look_apply]
  unfold chans cell
  have e : ∀ k : Fin 3, min (places A (ix2 (n0 := 1048576) (n1 := 3) p k)).toInt.toNat 127 = (ix (F := Ideal) (at3 (F := Ideal) A p k)).toNat := fun k => by
    have h := ix_lt (F := Ideal) (at3 (F := Ideal) A p k)
    rw [places_apply, toInt_of_lt _ h]
    omega
  refine congrArg C (funext fun b => Fin.ext ?_)
  match b with
  | ⟨0, _⟩ => exact e 0
  | ⟨1, _⟩ => exact e 1
  | ⟨2, _⟩ => exact e 2
  | ⟨3, _⟩ => show c.val = c.val % 28; have := c.isLt; omega

/-! ## The mask -/

theorem within_apply (A : Nx3.Idx → EReal) (p : N1.Idx) :
    within A p = inside (F := Ideal) (at3 (F := Ideal) A (p 0) 0) (at3 (F := Ideal) A (p 0) 1) (at3 (F := Ideal) A (p 0) 2) := by
  have e : ∀ (x : S1048576.Idx → EReal), near x p = FloatOps.cmpf (F := Ideal) (φ := .f32) .olt (FloatOps.absf (F := Ideal) (φ := .f32) (x p)) (wd (F := Ideal) 0x3FC00000#32) := fun _ => rfl
  show IntOp.andi (IntOp.andi (near _ p) (near _ p)) (near _ p) = _
  rw [e, e, e, colv_apply 0 (by decide), colv_apply 1 (by decide), colv_apply 2 (by decide)]
  rfl

theorem wd_one : wd (F := Ideal) 0x3F800000#32 = (1 : EReal) := Ideal.ofBits_one_f32
theorem wd_zero : wd (F := Ideal) 0x00000000#32 = (0 : EReal) := Ideal.ofBits_zero_f32

/-- A product with the mask is the choice by it. -/
theorem mask_mul (A : Nx3.Idx → EReal) (p : N1.Idx) (s : EReal) :
    (mask (F := Ideal) A (p 0) : EReal) * s = if within A p = 1 then s else wd (F := Ideal) 0x00000000#32 := by
  rw [within_apply]
  unfold mask mk
  split
  · rw [wd_one, one_mul]
  · rw [wd_zero, zero_mul]

/-! ## The sums -/

theorem neg_a : wd (F := Ideal) 0xBEFA2A2C#32 = -(wd (F := Ideal) 0x3EFA2A2C#32 : EReal) := by
  show Ideal.ofBits .f32 0xBEFA2A2C#32 = -Ideal.ofBits .f32 0x3EFA2A2C#32
  simp [Ideal.ofBits, Ideal.ieee, -EReal.coe_mul, -EReal.coe_neg]
  rw [← EReal.coe_neg]

theorem neg_b : wd (F := Ideal) 0xBF8BD89D#32 = -(wd (F := Ideal) 0x3F8BD89D#32 : EReal) := by
  show Ideal.ofBits .f32 0xBF8BD89D#32 = -Ideal.ofBits .f32 0x3F8BD89D#32
  simp [Ideal.ofBits, Ideal.ieee, -EReal.coe_mul, -EReal.coe_neg]
  rw [← EReal.coe_neg]

/-- The sum of nine products both ways. -/
theorem sum_eq (a b c d e f x y z : EReal) (v : ℕ → EReal) :
    ((((((((a * v 0 + -b * y * v 1) + b * z * v 2) + -b * x * v 3) + c * (x * y) * v 4) + -c * (y * z) * v 5) + d * v 6) + -c * (x * z) * v 7) + e * f * v 8)
      = (((a * v 0 + -b * y * v 1) + b * z * v 2) - b * x * v 3)
        + ((((c * x * y * v 4 - c * y * z * v 5) + d * v 6) + -c * x * z * v 7) + e * f * v 8) := by
  simp only [sub_eq_add_neg, EReal.neg_mul, mul_assoc, add_assoc]

theorem chan3_apply (j : ℕ) (hj : j < 9) (h) (A : Nx3.Idx → EReal) (C : Grid.Idx → EReal) (i : Nx3.Idx) :
    chan3 j h (look A C) i = chans (F := Ideal) A C (i 0) (1 + 9 * (i 1).val + j) :=
  (chan_apply j hj (look A C) _ _ _ _ i).trans (look_cell A C _ _)

theorem dir_apply (k : ℕ) (hk : k < 3) (h) (B : Nx3.Idx → EReal) (i : Nx1.Idx) : dir k h B i = at3 (F := Ideal) B (i 0) ⟨k, hk⟩ :=
  slice_apply k hk B h i

theorem rep_apply {α : Type} (x : Nx1.Idx → α) (i : Nx3.Idx) : rep x i = x (ix2 (n0 := 1048576) (n1 := 1) (i 0) 0) := bcast_three_apply x _ i

theorem con_apply (b : BitVec 32) (i : Nx1.Idx) : con b i = wd (F := Ideal) b := rfl

theorem sums_apply (B A : Nx3.Idx → EReal) (C : Grid.Idx → EReal) (i : Nx3.Idx) :
    sums (dir 0 slices_S1048576x3_S1048576x1_0_0 B) (dir 1 slices_S1048576x3_S1048576x1_0_1 B) (dir 2 slices_S1048576x3_S1048576x1_0_2 B) (look A C) i
      = nine (F := Ideal) (coefs (F := Ideal) B (i 0)) fun j => chans (F := Ideal) A C (i 0) (1 + 9 * (i 1).val + j) := by
  have ea : ∀ (x y : S1048576x3.Idx → EReal), ad x y i = x i + y i := fun _ _ => rfl
  have es : ∀ (x y : S1048576x3.Idx → EReal), sb x y i = x i - y i := fun _ _ => rfl
  have em : ∀ (x y : S1048576x3.Idx → EReal), mu x y i = x i * y i := fun _ _ => rfl
  have es' : ∀ (x y : S1048576x1.Idx → EReal) j, sb x y j = x j - y j := fun _ _ _ => rfl
  have em' : ∀ (x y : S1048576x1.Idx → EReal) j, mu x y j = x j * y j := fun _ _ _ => rfl
  have ec : broadcastInDim S1048576x3 ![] bcast_S_S1048576x3 (constant (F := Ideal) S_ .f32 0x3E906EC1#32) i = wd (F := Ideal) 0x3E906EC1#32 := rfl
  unfold sums
  rw [ea, es, ea, ea, ea, ea, ea, es]
  simp only [em, ec, rep_apply, em', es', con_apply, dir_apply 0 (by decide : 0 < 3), dir_apply 1 (by decide : 1 < 3), dir_apply 2 (by decide : 2 < 3)]
  rw [chan3_apply 0 (by decide), chan3_apply 1 (by decide), chan3_apply 2 (by decide), chan3_apply 3 (by decide), chan3_apply 4 (by decide),
    chan3_apply 5 (by decide), chan3_apply 6 (by decide), chan3_apply 7 (by decide), chan3_apply 8 (by decide)]
  rw [neg_a, neg_b]
  refine (sum_eq _ _ _ _ _ _ _ _ _ (fun j => chans (F := Ideal) A C (i 0) (1 + 9 * (i 1).val + j))).symm.trans ?_
  rw [← neg_a, ← neg_b]
  rfl

/-! ## The two results -/

theorem refColour_apply (A B : Nx3.Idx → EReal) (C : Grid.Idx → EReal) (i : Nx3.Idx) : refColour A B C i = colour (F := Ideal) A B C (i 0) (i 1) := by
  unfold refColour colour
  show (if rep _ i = 1 then sums _ _ _ _ i else wd (F := Ideal) 0x00000000#32) = (mask (F := Ideal) A (i 0) : EReal) * _
  rw [rep_apply, sums_apply]
  refine Eq.trans ?_ (mask_mul A (ix1 (n := 1048576) (i 0)) _).symm
  rw [bcast_col_apply]

theorem refDensity_apply (A : Nx3.Idx → EReal) (C : Grid.Idx → EReal) (p : N1.Idx) : refDensity A C p = density (F := Ideal) A C (p 0) := by
  unfold refDensity density
  refine Eq.trans ?_ (mask_mul A p _).symm
  show (if within A p = 1 then FloatOps.maximumf (F := Ideal) (φ := .f32) (shapeCast N1 _ _ p) (wd (F := Ideal) 0x00000000#32) else wd (F := Ideal) 0x00000000#32) = _
  rw [col_apply 0 (by decide : 0 < 28)]
  exact congrArg (fun t : EReal => if within A p = 1 then FloatOps.maximumf (F := Ideal) (φ := .f32) t (wd (F := Ideal) 0x00000000#32) else wd (F := Ideal) 0x00000000#32)
    (look_cell A C (p 0) 0)

end Cert.Proof.Reads

end
-- ==== Proof.lean ====
/-
  The five claims: the program runs as its own text does, its ideal reading and the reference run, the ideal reading is the
  program's own text, and over the extended reals the program's two results are the reference's.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Launch
public import proofs.«01_k».proof.Proof.Equation
public import Idealize.ShloMosaic.Adequacy
public import Idealize.ShloMosaic.Init

@[expose] public section

noncomputable section

namespace Cert.Proof

open Idealize.ShloMosaic Idealize.SL.Sem

/-- The program over words: it ends, its arguments are unchanged and its counters are at zero. -/
theorem frame_kernel : Cert.quiescent_Kernel := fun m ρ _ =>
  (θ_run Cert.KernelIdeal.defs _ _).mono (fun _ h => ⟨fun c => ⟨(h.1 c).1, (h.1 c).2.1, (h.1 c).2.2.1⟩, h.2⟩) (Run.run_main (F := Bits) m ρ)

/-- The program over the extended reals, likewise. -/
theorem frame_ideal : Cert.quiescent_KernelIdeal := fun m ρ _ =>
  (θ_run Cert.KernelIdeal.defs _ _).mono (fun _ h => ⟨fun c => ⟨(h.1 c).1, (h.1 c).2.1, (h.1 c).2.2.1⟩, h.2⟩) (Run.run_main (F := Ideal) m ρ)

/-- The reference, likewise: it declares no semaphore. -/
theorem frame_reference : Cert.quiescent_ReferenceIdeal := fun m ρ _ =>
  (θ_run Cert.ReferenceIdeal.defs _ _).mono
    (fun r h => ⟨fun c => (h c).2.2, Idealize.ShloMosaic.sem_eq_zero_of_no_sems (by decide) r.2⟩)
    (Cert.ReferenceIdeal.Value.run (F := Ideal) m ρ)

section Value

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (d : Dev Cert.KernelIdeal.nD)

/-- The reference's colours are the program's, the arguments being the same. -/
theorem colour_eq
    (h0 : m' ((d.tc : Thread Cert.ReferenceIdeal.nD Cert.ReferenceIdeal.τ).loc Cert.ReferenceIdeal.main_arg0) = m ((d.tc : Thread Cert.KernelIdeal.nD Cert.KernelIdeal.τ).loc Cert.KernelIdeal.main_arg0))
    (h1 : m' ((d.tc : Thread Cert.ReferenceIdeal.nD Cert.ReferenceIdeal.τ).loc Cert.ReferenceIdeal.main_arg1) = m ((d.tc : Thread Cert.KernelIdeal.nD Cert.KernelIdeal.τ).loc Cert.KernelIdeal.main_arg1))
    (h2 : m' ((d.tc : Thread Cert.ReferenceIdeal.nD Cert.ReferenceIdeal.τ).loc Cert.ReferenceIdeal.main_arg2) = m ((d.tc : Thread Cert.KernelIdeal.nD Cert.KernelIdeal.τ).loc Cert.KernelIdeal.main_arg2)) :
    Cert.ReferenceIdeal.Value.res_main_v132 (F := Ideal) m' d = Run.resColour (F := Ideal) m d := by
  rw [Reads.v132_eq m' d, h0, h1, h2]
  funext i
  exact (Reads.refColour_apply _ _ _ i).trans (Reads.resColour_apply m d i).symm

/-- The reference's densities are the program's, the arguments being the same. -/
theorem density_eq
    (h0 : m' ((d.tc : Thread Cert.ReferenceIdeal.nD Cert.ReferenceIdeal.τ).loc Cert.ReferenceIdeal.main_arg0) = m ((d.tc : Thread Cert.KernelIdeal.nD Cert.KernelIdeal.τ).loc Cert.KernelIdeal.main_arg0))
    (h2 : m' ((d.tc : Thread Cert.ReferenceIdeal.nD Cert.ReferenceIdeal.τ).loc Cert.ReferenceIdeal.main_arg2) = m ((d.tc : Thread Cert.KernelIdeal.nD Cert.KernelIdeal.τ).loc Cert.KernelIdeal.main_arg2)) :
    Cert.ReferenceIdeal.Value.res_main_v52 (F := Ideal) m' d = Run.resDensity (F := Ideal) m d := by
  rw [Reads.v52_eq m' d, h0, h2]
  funext p
  exact (Reads.refDensity_apply _ _ p).trans (Reads.resDensity_apply m d p).symm

end Value

/-- From the same arguments both programs end, with the same two results. -/
theorem algebraic : Cert.algebraic_KernelIdeal_ReferenceIdeal := fun m ρ m' ρ' _ hagree =>
  ⟨fun d => Run.resColour (F := Ideal) m d, fun d => Run.resDensity (F := Ideal) m d,
    (θ_run Cert.KernelIdeal.defs _ _).mono
      (fun _ h c => ⟨(h.1 c).2.2.2.1, (h.1 c).2.2.2.2, (h.1 c).1, (h.1 c).2.1, (h.1 c).2.2.1⟩) (Run.run_main (F := Ideal) m ρ),
    (θ_run Cert.ReferenceIdeal.defs _ _).mono
      (fun _ h c => ⟨(h c).1.trans (colour_eq m m' c (hagree c).1 (hagree c).2.1 (hagree c).2.2),
        (h c).2.1.trans (density_eq m m' c (hagree c).1 (hagree c).2.2), (h c).2.2⟩)
      (Cert.ReferenceIdeal.Value.run (F := Ideal) m' ρ')⟩

theorem claim : Cert.Claim :=
  ⟨Cert.Kernel.Gen.facts, Cert.KernelIdeal.Gen.facts, Cert.ReferenceIdeal.Gen.facts,
    frame_kernel, frame_ideal, frame_reference, trivial, algebraic⟩

end Cert.Proof

end
